-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)) (v5 : (c : Dev Cert.Kernel2Ideal.nD) → Buf (Elt Ideal) ((c.tc : Thread Cert.Kernel2Ideal.nD Cert.Kernel2Ideal.τ).loc Cert.Kernel2Ideal.main_v41_5)) (v6 : (c : Dev Cert.Kernel2Ideal.nD) → Buf (Elt Ideal) ((c.tc : Thread Cert.Kernel2Ideal.nD Cert.Kernel2Ideal.τ).loc Cert.Kernel2Ideal.main_v41_6)) (v7 : (c : Dev Cert.Kernel2Ideal.nD) → Buf (Elt Ideal) ((c.tc : Thread Cert.Kernel2Ideal.nD Cert.Kernel2Ideal.τ).loc Cert.Kernel2Ideal.main_v41_7)) (v8 : (c : Dev Cert.Kernel2Ideal.nD) → Buf (Elt Ideal) ((c.tc : Thread Cert.Kernel2Ideal.nD Cert.Kernel2Ideal.τ).loc Cert.Kernel2Ideal.main_v41_8)) (v9 : (c : Dev Cert.Kernel2Ideal.nD) → Buf (Elt Ideal) ((c.tc : Thread Cert.Kernel2Ideal.nD Cert.Kernel2Ideal.τ).loc Cert.Kernel2Ideal.main_v41_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_v41_5) = v5 c
          ∧ r.2.mem ((c.tc : Thread Cert.Kernel2Ideal.nD Cert.Kernel2Ideal.τ).loc Cert.Kernel2Ideal.main_v41_6) = v6 c
          ∧ r.2.mem ((c.tc : Thread Cert.Kernel2Ideal.nD Cert.Kernel2Ideal.τ).loc Cert.Kernel2Ideal.main_v41_7) = v7 c
          ∧ r.2.mem ((c.tc : Thread Cert.Kernel2Ideal.nD Cert.Kernel2Ideal.τ).loc Cert.Kernel2Ideal.main_v41_8) = v8 c
          ∧ r.2.mem ((c.tc : Thread Cert.Kernel2Ideal.nD Cert.Kernel2Ideal.τ).loc Cert.Kernel2Ideal.main_v41_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_v138) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v139) = v4 c
          ∧ r.2.mem ((c.tc : Thread Cert.Reference2Ideal.nD Cert.Reference2Ideal.τ).loc Cert.Reference2Ideal.main_v152) = v5 c
          ∧ r.2.mem ((c.tc : Thread Cert.Reference2Ideal.nD Cert.Reference2Ideal.τ).loc Cert.Reference2Ideal.main_v132) = v6 c
          ∧ r.2.mem ((c.tc : Thread Cert.Reference2Ideal.nD Cert.Reference2Ideal.τ).loc Cert.Reference2Ideal.main_v158) = v7 c
          ∧ r.2.mem ((c.tc : Thread Cert.Reference2Ideal.nD Cert.Reference2Ideal.τ).loc Cert.Reference2Ideal.main_v164) = v8 c
          ∧ r.2.mem ((c.tc : Thread Cert.Reference2Ideal.nD Cert.Reference2Ideal.τ).loc Cert.Reference2Ideal.main_v137) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16640x512 : Shape := ⟨2, ![16640, 512]⟩
abbrev S65x1x512 : Shape := ⟨3, ![65, 1, 512]⟩
abbrev S_ : Shape := ⟨0, ![]⟩

class Facts : Prop where
  bcast_S_S16640x512 : S_.BroadcastsInDim S16640x512 (![] : Fin 0 → Fin S16640x512.rank)
  reducesTo_S16640x512_S_d0_1 : S16640x512.ReducesTo [0, 1] S_
  h_S_ : 0 < S_.numel
  bitsLt_bf16_f32 : FTy.bits .bf16 < FTy.bits .f32
  bcast_S_S65x1x512 : S_.BroadcastsInDim S65x1x512 (![] : Fin 0 → Fin S65x1x512.rank)
  reducesTo_S65x1x512_S_d0_1_2 : S65x1x512.ReducesTo [0, 1, 2] S_

variable [Facts]

def fn {F : FTy → Type} [FloatOps F] (main_arg0 : FVec F S16640x512 .f32) (main_arg1 : FVec F S16640x512 .bf16) (main_arg2 : FVec F S16640x512 .bf16) (main_arg3 : FVec F S65x1x512 .f32) : IVec S_ 1 :=
  let main_v0 : FVec F S16640x512 .f32 := Host.absf main_arg0
  let main_cst : FVec F S_ .f32 := constant S_ .f32 0x7F800000#32
  let main_v1 : FVec F S16640x512 .f32 := broadcastInDim S16640x512 ![] bcast_S_S16640x512 main_cst
  let main_v2 : IVec S16640x512 1 := cmpf .olt main_v0 main_v1
  let main_c : IVec S_ 1 := constantI S_ 1 1#1
  let main_v3 : IVec S_ 1 := (fun x v => Host.reduce IntOp.andi x v reducesTo_S16640x512_S_d0_1 h_S_) main_v2 main_c
  let main_v4 : FVec F S16640x512 .f32 := (extf .f32 · bitsLt_bf16_f32) main_arg1
  let main_v5 : FVec F S16640x512 .f32 := Host.absf main_v4
  let main_cst_0 : FVec F S_ .f32 := constant S_ .f32 0x7F800000#32
  let main_v6 : FVec F S16640x512 .f32 := broadcastInDim S16640x512 ![] bcast_S_S16640x512 main_cst_0
  let main_v7 : IVec S16640x512 1 := cmpf .olt main_v5 main_v6
  let main_c_1 : IVec S_ 1 := constantI S_ 1 1#1
  let main_v8 : IVec S_ 1 := (fun x v => Host.reduce IntOp.andi x v reducesTo_S16640x512_S_d0_1 h_S_) main_v7 main_c_1
  let main_v9 : IVec S_ 1 := andi main_v3 main_v8
  let main_v10 : FVec F S65x1x512 .f32 := Host.absf main_arg3
  let main_cst_2 : FVec F S_ .f32 := constant S_ .f32 0x7F800000#32
  let main_v11 : FVec F S65x1x512 .f32 := broadcastInDim S65x1x512 ![] bcast_S_S65x1x512 main_cst_2
  let main_v12 : IVec S65x1x512 1 := cmpf .olt main_v10 main_v11
  let main_c_3 : IVec S_ 1 := constantI S_ 1 1#1
  let main_v13 : IVec S_ 1 := (fun x v => Host.reduce IntOp.andi x v reducesTo_S65x1x512_S_d0_1_2 h_S_) main_v12 main_c_3
  let main_v14 : IVec S_ 1 := andi main_v9 main_v13
  main_v14
-- ==== Pre_finite2.lean ====
abbrev S2x8192x1024 : Shape := ⟨3, ![2, 8192, 1024]⟩
abbrev S32x8x1024 : Shape := ⟨3, ![32, 8, 1024]⟩
abbrev S1024 : Shape := ⟨1, ![1024]⟩
abbrev S1024x4608 : Shape := ⟨2, ![1024, 4608]⟩
abbrev S64 : Shape := ⟨1, ![64]⟩
abbrev S512 : Shape := ⟨1, ![512]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S32x8x1024 : S_.BroadcastsInDim S32x8x1024 (![] : Fin 0 → Fin S32x8x1024.rank)
  reducesTo_S32x8x1024_S_d0_1_2 : S32x8x1024.ReducesTo [0, 1, 2] S_
  bcast_S_S1024 : S_.BroadcastsInDim S1024 (![] : Fin 0 → Fin S1024.rank)
  reducesTo_S1024_S_d0 : S1024.ReducesTo [0] S_
  bcast_S_S1024x4608 : S_.BroadcastsInDim S1024x4608 (![] : Fin 0 → Fin S1024x4608.rank)
  reducesTo_S1024x4608_S_d0_1 : S1024x4608.ReducesTo [0, 1] S_

variable [Facts]

def fn_part1 {F : FTy → Type} [FloatOps F] (main_v8 : IVec S_ 1) (main_v12 : IVec S_ 1) (main_v15 : IVec S1024x4608 1) (main_c_5 : IVec S_ 1) : IVec S_ 1 :=
  let main_v16 : IVec S_ 1 := (fun x v => Host.reduce IntOp.andi x v reducesTo_S1024x4608_S_d0_1 h_S_) main_v15 main_c_5
  let main_v17 : IVec S_ 1 := andi main_v12 main_v16
  let main_v18 : IVec S_ 1 := andi main_v8 main_v17
  main_v18

def fn {F : FTy → Type} [FloatOps F] (main_arg0 : FVec F S2x8192x1024 .f32) (main_arg1 : FVec F S32x8x1024 .f32) (main_arg2 : FVec F S1024 .f32) (main_arg3 : FVec F S1024x4608 .f32) (main_arg4 : FVec F S64 .f32) (main_arg5 : FVec F S64 .f32) (main_arg6 : FVec F S512 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S32x8x1024 .f32 := Host.absf main_arg1
  let main_cst_0 : FVec F S_ .f32 := constant S_ .f32 0x7F800000#32
  let main_v5 : FVec F S32x8x1024 .f32 := broadcastInDim S32x8x1024 ![] bcast_S_S32x8x1024 main_cst_0
  let main_v6 : IVec S32x8x1024 1 := cmpf .olt main_v4 main_v5
  let main_c_1 : IVec S_ 1 := constantI S_ 1 1#1
  let main_v7 : IVec S_ 1 := (fun x v => Host.reduce IntOp.andi x v reducesTo_S32x8x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024x4608 .f32 := Host.absf main_arg3
  let main_cst_4 : FVec F S_ .f32 := constant S_ .f32 0x7F800000#32
  let main_v14 : FVec F S1024x4608 .f32 := broadcastInDim S1024x4608 ![] bcast_S_S1024x4608 main_cst_4
  let main_v15 : IVec S1024x4608 1 := cmpf .olt main_v13 main_v14
  let main_c_5 : IVec S_ 1 := constantI S_ 1 1#1
  fn_part1 (F := F) main_v8 main_v12 main_v15 main_c_5
-- ==== Kernel.lean ====
abbrev S16640x512 : Shape := ⟨2, ![16640, 512]⟩
abbrev S65x1x512 : Shape := ⟨3, ![65, 1, 512]⟩
abbrev S64x1x512 : Shape := ⟨3, ![64, 1, 512]⟩
abbrev S2x32x512 : Shape := ⟨3, ![2, 32, 512]⟩
abbrev S_ : Shape := ⟨0, ![]⟩
abbrev S2x64x512 : Shape := ⟨3, ![2, 64, 512]⟩
abbrev S16384x512 : Shape := ⟨2, ![16384, 512]⟩
abbrev S256x128 : Shape := ⟨2, ![256, 128]⟩
abbrev S8192x128 : Shape := ⟨2, ![8192, 128]⟩
abbrev S1x64x128 : Shape := ⟨3, ![1, 64, 128]⟩
abbrev S2x32x256x128 : Shape := ⟨4, ![2, 32, 256, 128]⟩
abbrev S32x128x256 : Shape := ⟨3, ![32, 128, 256]⟩
abbrev S1x1x256x128 : Shape := ⟨4, ![1, 1, 256, 128]⟩
abbrev S128x256 : Shape := ⟨2, ![128, 256]⟩
abbrev S1x128x256 : Shape := ⟨3, ![1, 128, 256]⟩
abbrev S64x128 : Shape := ⟨2, ![64, 128]⟩
abbrev S64x256 : Shape := ⟨2, ![64, 256]⟩
abbrev S256 : Shape := ⟨1, ![256]⟩
abbrev S1x256 : Shape := ⟨2, ![1, 256]⟩
abbrev S256x256 : Shape := ⟨2, ![256, 256]⟩
abbrev S1x64x256 : Shape := ⟨3, ![1, 64, 256]⟩

abbrev nBuf : Space → Nat
  | .hbm => 10
  | .vmem => 12
  | .smem => 0
  | _ => 0

abbrev bufTy : (tb : Table) → Fin (tcTables nBuf tb) → BufTy
  | .hbm, ⟨0, _⟩ => ⟨S16640x512, .f32⟩
  | .hbm, ⟨1, _⟩ => ⟨S16640x512, .bf16⟩
  | .hbm, ⟨2, _⟩ => ⟨S16640x512, .bf16⟩
  | .hbm, ⟨3, _⟩ => ⟨S65x1x512, .f32⟩
  | .hbm, ⟨4, _⟩ => ⟨S64x1x512, .f32⟩
  | .hbm, ⟨5, _⟩ => ⟨S2x32x512, .f32⟩
  | .hbm, ⟨6, _⟩ => ⟨S_, .i32⟩
  | .hbm, ⟨7, _⟩ => ⟨S_, .f32⟩
  | .hbm, ⟨8, _⟩ => ⟨S2x64x512, .f32⟩
  | .hbm, ⟨9, _⟩ => ⟨S16384x512, .bf16⟩
  | .local _ .vmem, ⟨0, _⟩ => ⟨S256x128, .f32⟩
  | .local _ .vmem, ⟨1, _⟩ => ⟨S256x128, .f32⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64x128, .f32⟩
  | .local _ .vmem, ⟨7, _⟩ => ⟨S1x64x128, .f32⟩
  | .local _ .vmem, ⟨8, _⟩ => ⟨S256x128, .bf16⟩
  | .local _ .vmem, ⟨9, _⟩ => ⟨S256x128, .bf16⟩
  | .local _ .vmem, ⟨10, _⟩ => ⟨S2x32x256x128, .bf16⟩
  | .local _ .vmem, ⟨11, _⟩ => ⟨S32x128x256, .bf16⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_off1 (i : grid0.Coords) : Fin 4 → Nat :=
  let c0_53 : Index := 0#32
  let arg2 : BitVec 32 := BitVec.ofNat 32 (i 2).val
  let v153 : Index := Scalar.indexCast arg2
  let c0_54 : Index := 0#32
  let c0_55 : Index := 0#32
  ![0, v153.toNat, 0, 0]
def k0_off2 (i : grid0.Coords) : Fin 3 → Nat :=
  let arg2 : BitVec 32 := BitVec.ofNat 32 (i 2).val
  let v167 : Index := Scalar.indexCast arg2
  let c0_60 : Index := 0#32
  let c0_61 : Index := 0#32
  ![v167.toNat, 0, 0]
def k0_off3 (i : grid0.Coords) : Fin 4 → Nat :=
  let c1 : Index := 1#32
  let arg2 : BitVec 32 := BitVec.ofNat 32 (i 2).val
  let v172 : Index := Scalar.indexCast arg2
  let c0_63 : Index := 0#32
  let c0_64 : Index := 0#32
  ![1, v172.toNat, 0, 0]
def k0_off4 (i : grid0.Coords) : Fin 3 → Nat :=
  let arg2 : BitVec 32 := BitVec.ofNat 32 (i 2).val
  let v186 : Index := Scalar.indexCast arg2
  let c64 : Index := 64#32
  let c0_69 : Index := 0#32
  ![v186.toNat, 64, 0]
@[reducible] def k0_t1_loop (i : grid0.Coords) : Scf.Loop 32 :=
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let c1_i32_73 : BitVec 32 := 1#32
  ⟨c0_i32_71, v195, c1_i32_73⟩
def k0_off5 (i : grid0.Coords) (k0_t1 : Fin (k0_t1_loop i).trips) : Fin 4 → Nat :=
  let c0_77 : Index := 0#32
  let c0_i32_71 : BitVec 32 := 0#32
  let c1_i32_73 : BitVec 32 := 1#32
  let arg10 : BitVec 32 := Scf.iv c0_i32_71 c1_i32_73 k0_t1
  let v206 : Index := Scalar.indexCast arg10
  let c0_78 : Index := 0#32
  let c0_79 : Index := 0#32
  ![0, v206.toNat, 0, 0]
def k0_off6 (i : grid0.Coords) (k0_t1 : Fin (k0_t1_loop i).trips) : Fin 3 → Nat :=
  let c0_i32_71 : BitVec 32 := 0#32
  let c1_i32_73 : BitVec 32 := 1#32
  let arg10 : BitVec 32 := Scf.iv c0_i32_71 c1_i32_73 k0_t1
  let v224 : Index := Scalar.indexCast arg10
  let c0_83 : Index := 0#32
  let c0_84 : Index := 0#32
  ![v224.toNat, 0, 0]
def k0_off7 (i : grid0.Coords) (k0_t1 : Fin (k0_t1_loop i).trips) : Fin 4 → Nat :=
  let c1_86 : Index := 1#32
  let c0_i32_71 : BitVec 32 := 0#32
  let c1_i32_73 : BitVec 32 := 1#32
  let arg10 : BitVec 32 := Scf.iv c0_i32_71 c1_i32_73 k0_t1
  let v230 : Index := Scalar.indexCast arg10
  let c0_87 : Index := 0#32
  let c0_88 : Index := 0#32
  ![1, v230.toNat, 0, 0]
def k0_off8 (i : grid0.Coords) (k0_t1 : Fin (k0_t1_loop i).trips) : Fin 3 → Nat :=
  let c0_i32_71 : BitVec 32 := 0#32
  let c1_i32_73 : BitVec 32 := 1#32
  let arg10 : BitVec 32 := Scf.iv c0_i32_71 c1_i32_73 k0_t1
  let v248 : Index := Scalar.indexCast arg10
  let c64_92 : Index := 64#32
  let c0_93 : Index := 0#32
  ![v248.toNat, 64, 0]
@[reducible] def k0_t2_loop (i : grid0.Coords) : Scf.Loop 32 :=
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let v192 : BitVec 32 := Scalar.addi c0_i32_71 v191
  let c1_i32_74 : BitVec 32 := 1#32
  ⟨v195, v192, c1_i32_74⟩
def k0_off9 (i : grid0.Coords) (k0_t2 : Fin (k0_t2_loop i).trips) : Fin 4 → Nat :=
  let c0_77 : Index := 0#32
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let c1_i32_74 : BitVec 32 := 1#32
  let arg10 : BitVec 32 := Scf.iv v195 c1_i32_74 k0_t2
  let v206 : Index := Scalar.indexCast arg10
  let c0_78 : Index := 0#32
  let c0_79 : Index := 0#32
  ![0, v206.toNat, 0, 0]
def k0_off10 (i : grid0.Coords) (k0_t2 : Fin (k0_t2_loop i).trips) : Fin 3 → Nat :=
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let c1_i32_74 : BitVec 32 := 1#32
  let arg10 : BitVec 32 := Scf.iv v195 c1_i32_74 k0_t2
  let v224 : Index := Scalar.indexCast arg10
  let c0_83 : Index := 0#32
  let c0_84 : Index := 0#32
  ![v224.toNat, 0, 0]
def k0_off11 (i : grid0.Coords) (k0_t2 : Fin (k0_t2_loop i).trips) : Fin 4 → Nat :=
  let c1_86 : Index := 1#32
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let c1_i32_74 : BitVec 32 := 1#32
  let arg10 : BitVec 32 := Scf.iv v195 c1_i32_74 k0_t2
  let v230 : Index := Scalar.indexCast arg10
  let c0_87 : Index := 0#32
  let c0_88 : Index := 0#32
  ![1, v230.toNat, 0, 0]
def k0_off12 (i : grid0.Coords) (k0_t2 : Fin (k0_t2_loop i).trips) : Fin 3 → Nat :=
  let c0_i32_71 : BitVec 32 := 0#32
  let arg2 : BitVec 32 := BitVec.ofNat 32 (i 2).val
  let v191 : BitVec 32 := Scalar.subi arg2 c0_i32_71
  let c1_i32_72 : BitVec 32 := 1#32
  let v193 : BitVec 32 := Scalar.divsi v191 c1_i32_72
  let v194 : BitVec 32 := Scalar.muli v193 c1_i32_72
  let v195 : BitVec 32 := Scalar.addi c0_i32_71 v194
  let c1_i32_74 : BitVec 32 := 1#32
  let arg10 : BitVec 32 := Scf.iv v195 c1_i32_74 k0_t2
  let v248 : Index := Scalar.indexCast arg10
  let c64_92 : Index := 64#32
  let c0_93 : Index := 0#32
  ![v248.toNat, 64, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16640x512 : Shape := ⟨2, ![16640, 512]⟩
abbrev S65x1x512 : Shape := ⟨3, ![65, 1, 512]⟩
abbrev S16384x512 : Shape := ⟨2, ![16384, 512]⟩
abbrev S2x8192x8x64 : Shape := ⟨4, ![2, 8192, 8, 64]⟩
abbrev S2x32x256x8x64 : Shape := ⟨5, ![2, 32, 256, 8, 64]⟩
abbrev S2x8x32x256x64 : Shape := ⟨5, ![2, 8, 32, 256, 64]⟩
abbrev S64x1x512 : Shape := ⟨3, ![64, 1, 512]⟩
abbrev S2x32x8x64 : Shape := ⟨4, ![2, 32, 8, 64]⟩
abbrev S2x8x32x64 : Shape := ⟨4, ![2, 8, 32, 64]⟩
abbrev S2 : Shape := ⟨1, ![2]⟩
abbrev S2x1x1x1 : Shape := ⟨4, ![2, 1, 1, 1]⟩
abbrev S8 : Shape := ⟨1, ![8]⟩
abbrev S1x8x1x1 : Shape := ⟨4, ![1, 8, 1, 1]⟩
abbrev S8192 : Shape := ⟨1, ![8192]⟩
abbrev S_ : Shape := ⟨0, ![]⟩
abbrev S2x8x8192x32 : Shape := ⟨4, ![2, 8, 8192, 32]⟩
abbrev S32 : Shape := ⟨1, ![32]⟩
abbrev S1x32 : Shape := ⟨2, ![1, 32]⟩
abbrev S8192x1 : Shape := ⟨2, ![8192, 1]⟩
abbrev S8192x32 : Shape := ⟨2, ![8192, 32]⟩
abbrev S2x8x8192x3 : Shape := ⟨4, ![2, 8, 8192, 3]⟩
abbrev S1x1x8192x1 : Shape := ⟨4, ![1, 1, 8192, 1]⟩
abbrev S2x8x8192x1 : Shape := ⟨4, ![2, 8, 8192, 1]⟩
abbrev S2x8x8192x4 : Shape := ⟨4, ![2, 8, 8192, 4]⟩
abbrev S2x8x8192x4x1 : Shape := ⟨5, ![2, 8, 8192, 4, 1]⟩
abbrev S2x8x8192x4x3 : Shape := ⟨5, ![2, 8, 8192, 4, 3]⟩
abbrev S2x8x8192x4x256x64 : Shape := ⟨6, ![2, 8, 8192, 4, 256, 64]⟩
abbrev S2x8x8192x4x256 : Shape := ⟨5, ![2, 8, 8192, 4, 256]⟩
abbrev S256 : Shape := ⟨1, ![256]⟩
abbrev S1x256 : Shape := ⟨2, ![1, 256]⟩
abbrev S8192x256 : Shape := ⟨2, ![8192, 256]⟩
abbrev S3 : Shape := ⟨1, ![3]⟩
abbrev S1x3 : Shape := ⟨2, ![1, 3]⟩
abbrev S8192x3 : Shape := ⟨2, ![8192, 3]⟩
abbrev S8192x3x1 : Shape := ⟨3, ![8192, 3, 1]⟩
abbrev S8192x3x256 : Shape := ⟨3, ![8192, 3, 256]⟩
abbrev S8192x1x256 : Shape := ⟨3, ![8192, 1, 256]⟩
abbrev S8192x4x256 : Shape := ⟨3, ![8192, 4, 256]⟩
abbrev S1x1x8192x4x256 : Shape := ⟨5, ![1, 1, 8192, 4, 256]⟩
abbrev S2x8x8192x1024 : Shape := ⟨4, ![2, 8, 8192, 1024]⟩
abbrev S2x8x8192 : Shape := ⟨3, ![2, 8, 8192]⟩

abbrev nBuf : Space → Nat
  | .hbm => 169
  | .vmem => 0
  | .smem => 0
  | _ => 0

abbrev hbmTy0_0 (i : Nat) : BufTy := match i % 128 with
  | 0 => ⟨S16640x512, .f32⟩
  | 1 => ⟨S16640x512, .bf16⟩
  | 2 => ⟨S16640x512, .bf16⟩
  | 3 => ⟨S65x1x512, .f32⟩
  | 4 => ⟨S16384x512, .f32⟩
  | 5 => ⟨S2x8192x8x64, .f32⟩
  | 6 => ⟨S16384x512, .bf16⟩
  | 7 => ⟨S16384x512, .f32⟩
  | 8 => ⟨S2x8192x8x64, .f32⟩
  | 9 => ⟨S16384x512, .bf16⟩
  | 10 => ⟨S16384x512, .f32⟩
  | 11 => ⟨S2x8192x8x64, .f32⟩
  | 12 => ⟨S2x32x256x8x64, .f32⟩
  | 13 => ⟨S2x8x32x256x64, .f32⟩
  | 14 => ⟨S2x32x256x8x64, .f32⟩
  | 15 => ⟨S2x8x32x256x64, .f32⟩
  | 16 => ⟨S64x1x512, .f32⟩
  | 17 => ⟨S2x32x8x64, .f32⟩
  | 18 => ⟨S2x8x32x64, .f32⟩
  | 19 => ⟨S2, .i32⟩
  | 20 => ⟨S2x1x1x1, .i32⟩
  | 21 => ⟨S8, .i32⟩
  | 22 => ⟨S1x8x1x1, .i32⟩
  | 23 => ⟨S8192, .i32⟩
  | 24 => ⟨S_, .i32⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S8192, .i32⟩
  | 33 => ⟨S8192, .i32⟩
  | 34 => ⟨S_, .i32⟩
  | 35 => ⟨S8192, .i32⟩
  | 36 => ⟨S8192, .i1⟩
  | 37 => ⟨S8192, .i1⟩
  | 38 => ⟨S_, .i32⟩
  | 39 => ⟨S8192, .i32⟩
  | 40 => ⟨S8192, .i32⟩
  | 41 => ⟨S8192, .i32⟩
  | 42 => ⟨S2x8x8192x32, .f32⟩
  | 43 => ⟨S32, .i32⟩
  | 44 => ⟨S1x32, .i32⟩
  | 45 => ⟨S8192x1, .i32⟩
  | 46 => ⟨S8192x32, .i32⟩
  | 47 => ⟨S8192x32, .i32⟩
  | 48 => ⟨S8192x32, .i1⟩
  | 49 => ⟨S_, .f32⟩
  | 50 => ⟨S_, .f32⟩
  | 51 => ⟨S2x8x8192x32, .i1⟩
  | 52 => ⟨S2x8x8192x32, .f32⟩
  | 53 => ⟨S2x8x8192x32, .f32⟩
  | 54 => ⟨S2x8x8192x3, .f32⟩
  | 55 => ⟨S2x8x8192x3, .i32⟩
  | 56 => ⟨S_, .i32⟩
  | 57 => ⟨S2x8x8192x3, .i32⟩
  | 58 => ⟨S2x8x8192x3, .i32⟩
  | 59 => ⟨S1x1x8192x1, .i32⟩
  | 60 => ⟨S2x8x8192x1, .i32⟩
  | 61 => ⟨S2x8x8192x4, .i32⟩
  | 62 => ⟨S_, .i32⟩
  | 63 => ⟨S2x1x1x1, .i32⟩
  | 64 => ⟨S2x1x1x1, .i1⟩
  | 65 => ⟨S_, .i32⟩
  | 66 => ⟨S2x1x1x1, .i32⟩
  | 67 => ⟨S2x1x1x1, .i32⟩
  | 68 => ⟨S2x1x1x1, .i32⟩
  | 69 => ⟨S_, .i32⟩
  | 70 => ⟨S1x8x1x1, .i32⟩
  | 71 => ⟨S1x8x1x1, .i1⟩
  | 72 => ⟨S_, .i32⟩
  | 73 => ⟨S1x8x1x1, .i32⟩
  | 74 => ⟨S1x8x1x1, .i32⟩
  | 75 => ⟨S1x8x1x1, .i32⟩
  | 76 => ⟨S_, .i32⟩
  | 77 => ⟨S2x8x8192x4, .i32⟩
  | 78 => ⟨S2x8x8192x4, .i1⟩
  | 79 => ⟨S_, .i32⟩
  | 80 => ⟨S2x8x8192x4, .i32⟩
  | 81 => ⟨S2x8x8192x4, .i32⟩
  | 82 => ⟨S2x8x8192x4, .i32⟩
  | 83 => ⟨S2x8x8192x4, .i32⟩
  | 84 => ⟨S2x8x8192x4, .i32⟩
  | 85 => ⟨S2x8x8192x4x1, .i32⟩
  | 86 => ⟨S2x8x8192x4x1, .i32⟩
  | 87 => ⟨S2x8x8192x4x1, .i32⟩
  | 88 => ⟨S2x8x8192x4x3, .i32⟩
  | 89 => ⟨S2x8x8192x4x256x64, .f32⟩
  | 90 => ⟨S_, .i32⟩
  | 91 => ⟨S2x1x1x1, .i32⟩
  | 92 => ⟨S2x1x1x1, .i1⟩
  | 93 => ⟨S_, .i32⟩
  | 94 => ⟨S2x1x1x1, .i32⟩
  | 95 => ⟨S2x1x1x1, .i32⟩
  | 96 => ⟨S2x1x1x1, .i32⟩
  | 97 => ⟨S_, .i32⟩
  | 98 => ⟨S1x8x1x1, .i32⟩
  | 99 => ⟨S1x8x1x1, .i1⟩
  | 100 => ⟨S_, .i32⟩
  | 101 => ⟨S1x8x1x1, .i32⟩
  | 102 => ⟨S1x8x1x1, .i32⟩
  | 103 => ⟨S1x8x1x1, .i32⟩
  | 104 => ⟨S_, .i32⟩
  | 105 => ⟨S2x8x8192x4, .i32⟩
  | 106 => ⟨S2x8x8192x4, .i1⟩
  | 107 => ⟨S_, .i32⟩
  | 108 => ⟨S2x8x8192x4, .i32⟩
  | 109 => ⟨S2x8x8192x4, .i32⟩
  | 110 => ⟨S2x8x8192x4, .i32⟩
  | 111 => ⟨S2x8x8192x4, .i32⟩
  | 112 => ⟨S2x8x8192x4, .i32⟩
  | 113 => ⟨S2x8x8192x4x1, .i32⟩
  | 114 => ⟨S2x8x8192x4x1, .i32⟩
  | 115 => ⟨S2x8x8192x4x1, .i32⟩
  | 116 => ⟨S2x8x8192x4x3, .i32⟩
  | 117 => ⟨S2x8x8192x4x256x64, .f32⟩
  | 118 => ⟨S2x8x8192x4x256, .f32⟩
  | 119 => ⟨S_, .f32⟩
  | 120 => ⟨S2x8x8192x4x256, .f32⟩
  | 121 => ⟨S2x8x8192x4x256, .f32⟩
  | 122 => ⟨S8192x1, .i32⟩
  | 123 => ⟨S_, .i32⟩
  | 124 => ⟨S8192x1, .i32⟩
  | 125 => ⟨S8192x1, .i32⟩
  | 126 => ⟨S256, .i32⟩
  | 127 => ⟨S1x256, .i32⟩
  | _ => ⟨S16640x512, .f32⟩

abbrev hbmTy0_1 (i : Nat) : BufTy := match i % 128 with
  | 0 => ⟨S8192x256, .i32⟩
  | 1 => ⟨S8192x256, .i32⟩
  | 2 => ⟨S8192x256, .i32⟩
  | 3 => ⟨S3, .i32⟩
  | 4 => ⟨S1x3, .i32⟩
  | 5 => ⟨S8192x1, .i32⟩
  | 6 => ⟨S8192x3, .i32⟩
  | 7 => ⟨S8192x3, .i32⟩
  | 8 => ⟨S8192x3, .i1⟩
  | 9 => ⟨S8192x3x1, .i1⟩
  | 10 => ⟨S8192x3x256, .i1⟩
  | 11 => ⟨S8192x1, .i32⟩
  | 12 => ⟨S8192x256, .i32⟩
  | 13 => ⟨S8192x256, .i1⟩
  | 14 => ⟨S8192x1x256, .i1⟩
  | 15 => ⟨S8192x4x256, .i1⟩
  | 16 => ⟨S1x1x8192x4x256, .i1⟩
  | 17 => ⟨S_, .f32⟩
  | 18 => ⟨S_, .f32⟩
  | 19 => ⟨S2x8x8192x4x256, .i1⟩
  | 20 => ⟨S2x8x8192x4x256, .f32⟩
  | 21 => ⟨S2x8x8192x4x256, .f32⟩
  | 22 => ⟨S2x8x8192x1024, .f32⟩
  | 23 => ⟨S_, .f32⟩
  | 24 => ⟨S2x8x8192, .f32⟩
  | 25 => ⟨S_, .f32⟩
  | 26 => ⟨S2x8x8192, .f32⟩
  | 27 => ⟨S2x8x8192, .f32⟩
  | 28 => ⟨S2x8x8192x1, .f32⟩
  | 29 => ⟨S2x8x8192x1024, .f32⟩
  | 30 => ⟨S2x8x8192x1024, .f32⟩
  | 31 => ⟨S2x8x8192x1024, .f32⟩
  | 32 => ⟨S_, .f32⟩
  | 33 => ⟨S2x8x8192, .f32⟩
  | 34 => ⟨S2x8x8192x1, .f32⟩
  | 35 => ⟨S2x8x8192x1024, .f32⟩
  | 36 => ⟨S2x8x8192x1024, .f32⟩
  | 37 => ⟨S2x8x8192x4x256, .f32⟩
  | 38 => ⟨S2x8192x8x64, .f32⟩
  | 39 => ⟨S16384x512, .f32⟩
  | 40 => ⟨S16384x512, .bf16⟩
  | _ => ⟨S16640x512, .f32⟩

abbrev hbmTy (i : Nat) : BufTy := match i / 128 with
  | 0 => hbmTy0_0 i
  | 1 => hbmTy0_1 i
  | _ => ⟨S16640x512, .f32⟩

abbrev bufTy : (tb : Table) → Fin (tcTables nBuf tb) → BufTy
  | .hbm, ⟨i, _⟩ => hbmTy i
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_values : Ref sig .tc := ⟨.hbm, 54, rfl⟩
abbrev main_indices : Ref sig .tc := ⟨.hbm, 55, rfl⟩
abbrev main_c_0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_1 : Ref sig .tc := ⟨.hbm, 62, rfl⟩
abbrev main_v34 : Ref sig .tc := ⟨.hbm, 63, rfl⟩
abbrev main_v35 : Ref sig .tc := ⟨.hbm, 64, rfl⟩
abbrev main_c_2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_3 : Ref sig .tc := ⟨.hbm, 69, rfl⟩
abbrev main_v39 : Ref sig .tc := ⟨.hbm, 70, rfl⟩
abbrev main_v40 : Ref sig .tc := ⟨.hbm, 71, rfl⟩
abbrev main_c_4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_5 : Ref sig .tc := ⟨.hbm, 76, rfl⟩
abbrev main_v44 : Ref sig .tc := ⟨.hbm, 77, rfl⟩
abbrev main_v45 : Ref sig .tc := ⟨.hbm, 78, rfl⟩
abbrev main_c_6 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_7 : Ref sig .tc := ⟨.hbm, 90, rfl⟩
abbrev main_v56 : Ref sig .tc := ⟨.hbm, 91, rfl⟩
abbrev main_v57 : Ref sig .tc := ⟨.hbm, 92, rfl⟩
abbrev main_c_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_9 : Ref sig .tc := ⟨.hbm, 97, rfl⟩
abbrev main_v61 : Ref sig .tc := ⟨.hbm, 98, rfl⟩
abbrev main_v62 : Ref sig .tc := ⟨.hbm, 99, rfl⟩
abbrev main_c_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_c_12 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_15 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v103 : Ref sig .tc := ⟨.hbm, 149, rfl⟩
abbrev main_v104 : Ref sig .tc := ⟨.hbm, 150, rfl⟩
abbrev main_cst_16 : Ref sig .tc := ⟨.hbm, 151, rfl⟩
abbrev main_v105 : Ref sig .tc := ⟨.hbm, 152, rfl⟩
abbrev main_cst_17 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_18 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩

abbrev nD : Nat := 1
abbrev τ : Topo := Topo.v7x

variable {F : FTy → Type} [FloatOps F]
-- ==== Kernel2.lean ====
abbrev S2x8192x1024 : Shape := ⟨3, ![2, 8192, 1024]⟩
abbrev S32x8x1024 : Shape := ⟨3, ![32, 8, 1024]⟩
abbrev S1024 : Shape := ⟨1, ![1024]⟩
abbrev S1024x4608 : Shape := ⟨2, ![1024, 4608]⟩
abbrev S64 : Shape := ⟨1, ![64]⟩
abbrev S512 : Shape := ⟨1, ![512]⟩
abbrev S16384x1024 : Shape := ⟨2, ![16384, 1024]⟩
abbrev S256x1024 : Shape := ⟨2, ![256, 1024]⟩
abbrev S16640x1024 : Shape := ⟨2, ![16640, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x64 : Shape := ⟨2, ![1, 64]⟩
abbrev S2x64 : Shape := ⟨2, ![2, 64]⟩
abbrev S512x1 : Shape := ⟨2, ![512, 1]⟩
abbrev S1x512 : Shape := ⟨2, ![1, 512]⟩
abbrev S512x512 : Shape := ⟨2, ![512, 512]⟩
abbrev S8x64 : Shape := ⟨2, ![8, 64]⟩
abbrev S1x1024 : Shape := ⟨2, ![1, 1024]⟩
abbrev S16640x512 : Shape := ⟨2, ![16640, 512]⟩
abbrev S65x1x512 : Shape := ⟨3, ![65, 1, 512]⟩
abbrev S256x512 : Shape := ⟨2, ![256, 512]⟩
abbrev S1x1x512 : Shape := ⟨3, ![1, 1, 512]⟩
abbrev S256 : Shape := ⟨1, ![256]⟩
abbrev S256x1 : Shape := ⟨2, ![256, 1]⟩
abbrev S256x4608 : Shape := ⟨2, ![256, 4608]⟩
abbrev S256x128 : Shape := ⟨2, ![256, 128]⟩

abbrev nBuf : Space → Nat
  | .hbm => 83
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S32x8x1024, .f32⟩
  | .hbm, ⟨2, _⟩ => ⟨S1024, .f32⟩
  | .hbm, ⟨3, _⟩ => ⟨S1024x4608, .f32⟩
  | .hbm, ⟨4, _⟩ => ⟨S64, .f32⟩
  | .hbm, ⟨5, _⟩ => ⟨S64, .f32⟩
  | .hbm, ⟨6, _⟩ => ⟨S512, .f32⟩
  | .hbm, ⟨7, _⟩ => ⟨S16384x1024, .f32⟩
  | .hbm, ⟨8, _⟩ => ⟨S256x1024, .f32⟩
  | .hbm, ⟨9, _⟩ => ⟨S16640x1024, .f32⟩
  | .hbm, ⟨10, _⟩ => ⟨S1024x4608, .bf16⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S1x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S_, .f32⟩
  | .hbm, ⟨58, _⟩ => ⟨S_, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .bf16⟩
  | .hbm, ⟨63, _⟩ => ⟨S1x64, .f32⟩
  | .hbm, ⟨64, _⟩ => ⟨S8x64, .f32⟩
  | .hbm, ⟨65, _⟩ => ⟨S512, .f32⟩
  | .hbm, ⟨66, _⟩ => ⟨S1x512, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x1024, .f32⟩
  | .hbm, ⟨72, _⟩ => ⟨S1x512, .f32⟩
  | .hbm, ⟨73, _⟩ => ⟨S16640x512, .f32⟩
  | .hbm, ⟨74, _⟩ => ⟨S16640x512, .f32⟩
  | .hbm, ⟨75, _⟩ => ⟨S16640x512, .bf16⟩
  | .hbm, ⟨76, _⟩ => ⟨S16640x512, .f32⟩
  | .hbm, ⟨77, _⟩ => ⟨S16640x512, .bf16⟩
  | .hbm, ⟨78, _⟩ => ⟨S16640x512, .f32⟩
  | .hbm, ⟨79, _⟩ => ⟨S16640x512, .f32⟩
  | .hbm, ⟨80, _⟩ => ⟨S16640x1024, .f32⟩
  | .hbm, ⟨81, _⟩ => ⟨S16640x1024, .f32⟩
  | .hbm, ⟨82, _⟩ => ⟨S65x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S512x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1x1x512, .f32⟩
  | .local _ .vmem, ⟨29, _⟩ => ⟨S1x1x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41_0 : Ref sig .tc := ⟨.hbm, 73, rfl⟩
abbrev main_v41_1 : Ref sig .tc := ⟨.hbm, 74, rfl⟩
abbrev main_v41_2 : Ref sig .tc := ⟨.hbm, 75, rfl⟩
abbrev main_v41_3 : Ref sig .tc := ⟨.hbm, 76, rfl⟩
abbrev main_v41_4 : Ref sig .tc := ⟨.hbm, 77, rfl⟩
abbrev main_v41_5 : Ref sig .tc := ⟨.hbm, 78, rfl⟩
abbrev main_v41_6 : Ref sig .tc := ⟨.hbm, 79, rfl⟩
abbrev main_v41_7 : Ref sig .tc := ⟨.hbm, 80, rfl⟩
abbrev main_v41_8 : Ref sig .tc := ⟨.hbm, 81, rfl⟩
abbrev main_v41_9 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2x8192x1024 : Shape := ⟨3, ![2, 8192, 1024]⟩
abbrev S32x8x1024 : Shape := ⟨3, ![32, 8, 1024]⟩
abbrev S1024 : Shape := ⟨1, ![1024]⟩
abbrev S1024x4608 : Shape := ⟨2, ![1024, 4608]⟩
abbrev S64 : Shape := ⟨1, ![64]⟩
abbrev S512 : Shape := ⟨1, ![512]⟩
abbrev S16384x1024 : Shape := ⟨2, ![16384, 1024]⟩
abbrev S256x1024 : Shape := ⟨2, ![256, 1024]⟩
abbrev S16640x1024 : Shape := ⟨2, ![16640, 1024]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S16640 : Shape := ⟨1, ![16640]⟩
abbrev S32 : Shape := ⟨1, ![32]⟩
abbrev S16640x1 : Shape := ⟨2, ![16640, 1]⟩
abbrev S1x32 : Shape := ⟨2, ![1, 32]⟩
abbrev S16640x32 : Shape := ⟨2, ![16640, 32]⟩
abbrev S16640x1x32 : Shape := ⟨3, ![16640, 1, 32]⟩
abbrev S1x1024 : Shape := ⟨2, ![1, 1024]⟩
abbrev S16640x4608 : Shape := ⟨2, ![16640, 4608]⟩
abbrev S16640x512 : Shape := ⟨2, ![16640, 512]⟩
abbrev S16640x8x64 : Shape := ⟨3, ![16640, 8, 64]⟩
abbrev S16640x8 : Shape := ⟨2, ![16640, 8]⟩
abbrev S16640x8x1 : Shape := ⟨3, ![16640, 8, 1]⟩
abbrev S1x1x64 : Shape := ⟨3, ![1, 1, 64]⟩
abbrev S16640x8x32 : Shape := ⟨3, ![16640, 8, 32]⟩
abbrev S1x512 : Shape := ⟨2, ![1, 512]⟩
abbrev S65x256x512 : Shape := ⟨3, ![65, 256, 512]⟩
abbrev S65x512 : Shape := ⟨2, ![65, 512]⟩
abbrev S65x1x512 : Shape := ⟨3, ![65, 1, 512]⟩

abbrev nBuf : Space → Nat
  | .hbm => 201
  | .vmem => 0
  | .smem => 0
  | _ => 0

abbrev hbmTy0_0 (i : Nat) : BufTy := match i % 128 with
  | 0 => ⟨S2x8192x1024, .f32⟩
  | 1 => ⟨S32x8x1024, .f32⟩
  | 2 => ⟨S1024, .f32⟩
  | 3 => ⟨S1024x4608, .f32⟩
  | 4 => ⟨S64, .f32⟩
  | 5 => ⟨S64, .f32⟩
  | 6 => ⟨S512, .f32⟩
  | 7 => ⟨S16384x1024, .f32⟩
  | 8 => ⟨S256x1024, .f32⟩
  | 9 => ⟨S16640x1024, .f32⟩
  | 10 => ⟨S8192, .i32⟩
  | 11 => ⟨S1x8192, .i32⟩
  | 12 => ⟨S2x8192, .i32⟩
  | 13 => ⟨S16384, .i32⟩
  | 14 => ⟨S8, .i32⟩
  | 15 => ⟨S_, .i32⟩
  | 16 => ⟨S8, .i32⟩
  | 17 => ⟨S8, .i32⟩
  | 18 => ⟨S1x8, .i32⟩
  | 19 => ⟨S32x8, .i32⟩
  | 20 => ⟨S256, .i32⟩
  | 21 => ⟨S16640, .i32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S32, .f32⟩
  | 30 => ⟨S16640, .f32⟩
  | 31 => ⟨S16640x1, .f32⟩
  | 32 => ⟨S1x32, .f32⟩
  | 33 => ⟨S16640x32, .f32⟩
  | 34 => ⟨S16640x32, .f32⟩
  | 35 => ⟨S16640x32, .f32⟩
  | 36 => ⟨S16640x32, .f32⟩
  | 37 => ⟨S16640x1x32, .f32⟩
  | 38 => ⟨S16640x32, .f32⟩
  | 39 => ⟨S16640x1x32, .f32⟩
  | 40 => ⟨S16640x1024, .f32⟩
  | 41 => ⟨S_, .f32⟩
  | 42 => ⟨S16640, .f32⟩
  | 43 => ⟨S16640x1, .f32⟩
  | 44 => ⟨S_, .f32⟩
  | 45 => ⟨S16640x1, .f32⟩
  | 46 => ⟨S16640x1, .f32⟩
  | 47 => ⟨S_, .f32⟩
  | 48 => ⟨S16640x1, .f32⟩
  | 49 => ⟨S16640x1, .f32⟩
  | 50 => ⟨S16640x1, .f32⟩
  | 51 => ⟨S16640x1024, .f32⟩
  | 52 => ⟨S16640x1024, .f32⟩
  | 53 => ⟨S1x1024, .f32⟩
  | 54 => ⟨S16640x1024, .f32⟩
  | 55 => ⟨S16640x1024, .f32⟩
  | 56 => ⟨S16640x4608, .f32⟩
  | 57 => ⟨S16640x512, .f32⟩
  | 58 => ⟨S16640x512, .f32⟩
  | 59 => ⟨S16640x512, .f32⟩
  | 60 => ⟨S16640x512, .f32⟩
  | 61 => ⟨S16640x512, .f32⟩
  | 62 => ⟨S16640x1024, .f32⟩
  | 63 => ⟨S16640x1024, .f32⟩
  | 64 => ⟨S16640x8x64, .f32⟩
  | 65 => ⟨S16640x8x64, .f32⟩
  | 66 => ⟨S_, .f32⟩
  | 67 => ⟨S16640x8, .f32⟩
  | 68 => ⟨S16640x8x1, .f32⟩
  | 69 => ⟨S_, .f32⟩
  | 70 => ⟨S16640x8x1, .f32⟩
  | 71 => ⟨S16640x8x1, .f32⟩
  | 72 => ⟨S_, .f32⟩
  | 73 => ⟨S16640x8x1, .f32⟩
  | 74 => ⟨S16640x8x1, .f32⟩
  | 75 => ⟨S16640x8x1, .f32⟩
  | 76 => ⟨S16640x8x64, .f32⟩
  | 77 => ⟨S16640x8x64, .f32⟩
  | 78 => ⟨S1x1x64, .f32⟩
  | 79 => ⟨S16640x8x64, .f32⟩
  | 80 => ⟨S16640x8x64, .f32⟩
  | 81 => ⟨S16640x8x32, .f32⟩
  | 82 => ⟨S16640x8x32, .f32⟩
  | 83 => ⟨S16640x8x32, .f32⟩
  | 84 => ⟨S16640x8x32, .f32⟩
  | 85 => ⟨S16640x8x32, .f32⟩
  | 86 => ⟨S16640x8x32, .f32⟩
  | 87 => ⟨S16640x8x32, .f32⟩
  | 88 => ⟨S16640x8x32, .f32⟩
  | 89 => ⟨S16640x8x32, .f32⟩
  | 90 => ⟨S16640x8x32, .f32⟩
  | 91 => ⟨S16640x8x32, .f32⟩
  | 92 => ⟨S16640x8x32, .f32⟩
  | 93 => ⟨S16640x8x64, .f32⟩
  | 94 => ⟨S16640x512, .f32⟩
  | 95 => ⟨S16640x8x64, .f32⟩
  | 96 => ⟨S16640x8x64, .f32⟩
  | 97 => ⟨S_, .f32⟩
  | 98 => ⟨S16640x8, .f32⟩
  | 99 => ⟨S16640x8x1, .f32⟩
  | 100 => ⟨S_, .f32⟩
  | 101 => ⟨S16640x8x1, .f32⟩
  | 102 => ⟨S16640x8x1, .f32⟩
  | 103 => ⟨S_, .f32⟩
  | 104 => ⟨S16640x8x1, .f32⟩
  | 105 => ⟨S16640x8x1, .f32⟩
  | 106 => ⟨S16640x8x1, .f32⟩
  | 107 => ⟨S16640x8x64, .f32⟩
  | 108 => ⟨S16640x8x64, .f32⟩
  | 109 => ⟨S1x1x64, .f32⟩
  | 110 => ⟨S16640x8x64, .f32⟩
  | 111 => ⟨S16640x8x64, .f32⟩
  | 112 => ⟨S16640x8x32, .f32⟩
  | 113 => ⟨S16640x8x32, .f32⟩
  | 114 => ⟨S16640x8x32, .f32⟩
  | 115 => ⟨S16640x8x32, .f32⟩
  | 116 => ⟨S16640x8x32, .f32⟩
  | 117 => ⟨S16640x8x32, .f32⟩
  | 118 => ⟨S16640x8x32, .f32⟩
  | 119 => ⟨S16640x8x32, .f32⟩
  | 120 => ⟨S16640x8x32, .f32⟩
  | 121 => ⟨S16640x8x32, .f32⟩
  | 122 => ⟨S16640x8x32, .f32⟩
  | 123 => ⟨S16640x8x32, .f32⟩
  | 124 => ⟨S16640x8x64, .f32⟩
  | 125 => ⟨S16640x512, .f32⟩
  | 126 => ⟨S16640x512, .f32⟩
  | 127 => ⟨S16640x512, .f32⟩
  | _ => ⟨S2x8192x1024, .f32⟩

abbrev hbmTy0_1 (i : Nat) : BufTy := match i % 128 with
  | 0 => ⟨S_, .f32⟩
  | 1 => ⟨S16640x512, .f32⟩
  | 2 => ⟨S16640x512, .f32⟩
  | 3 => ⟨S16640x512, .f32⟩
  | 4 => ⟨S_, .f32⟩
  | 5 => ⟨S16640x512, .f32⟩
  | 6 => ⟨S16640x512, .f32⟩
  | 7 => ⟨S16640x512, .f32⟩
  | 8 => ⟨S_, .f32⟩
  | 9 => ⟨S16640x512, .f32⟩
  | 10 => ⟨S16640x512, .f32⟩
  | 11 => ⟨S_, .f32⟩
  | 12 => ⟨S16640x512, .f32⟩
  | 13 => ⟨S16640x512, .f32⟩
  | 14 => ⟨S16640x512, .f32⟩
  | 15 => ⟨S16640x512, .f32⟩
  | 16 => ⟨S_, .f32⟩
  | 17 => ⟨S16640, .f32⟩
  | 18 => ⟨S16640x1, .f32⟩
  | 19 => ⟨S_, .f32⟩
  | 20 => ⟨S16640x1, .f32⟩
  | 21 => ⟨S16640x1, .f32⟩
  | 22 => ⟨S_, .f32⟩
  | 23 => ⟨S16640x1, .f32⟩
  | 24 => ⟨S16640x1, .f32⟩
  | 25 => ⟨S16640x1, .f32⟩
  | 26 => ⟨S16640x512, .f32⟩
  | 27 => ⟨S16640x512, .f32⟩
  | 28 => ⟨S1x512, .f32⟩
  | 29 => ⟨S16640x512, .f32⟩
  | 30 => ⟨S16640x512, .f32⟩
  | 31 => ⟨S65x256x512, .f32⟩
  | 32 => ⟨S_, .f32⟩
  | 33 => ⟨S65x512, .f32⟩
  | 34 => ⟨S65x1x512, .f32⟩
  | 35 => ⟨S_, .f32⟩
  | 36 => ⟨S65x1x512, .f32⟩
  | 37 => ⟨S65x1x512, .f32⟩
  | 38 => ⟨S16640x512, .bf16⟩
  | 39 => ⟨S16640x512, .bf16⟩
  | 40 => ⟨S16640x512, .f32⟩
  | 41 => ⟨S16640x512, .f32⟩
  | 42 => ⟨S_, .f32⟩
  | 43 => ⟨S16640x512, .f32⟩
  | 44 => ⟨S16640x512, .f32⟩
  | 45 => ⟨S16640x512, .f32⟩
  | 46 => ⟨S_, .f32⟩
  | 47 => ⟨S16640x512, .f32⟩
  | 48 => ⟨S16640x512, .f32⟩
  | 49 => ⟨S16640x512, .f32⟩
  | 50 => ⟨S_, .f32⟩
  | 51 => ⟨S16640x512, .f32⟩
  | 52 => ⟨S16640x512, .f32⟩
  | 53 => ⟨S_, .f32⟩
  | 54 => ⟨S16640x512, .f32⟩
  | 55 => ⟨S16640x512, .f32⟩
  | 56 => ⟨S16640x512, .f32⟩
  | 57 => ⟨S16640x1024, .f32⟩
  | 58 => ⟨S16640x1024, .f32⟩
  | 59 => ⟨S_, .f32⟩
  | 60 => ⟨S16640x1024, .f32⟩
  | 61 => ⟨S16640x1024, .f32⟩
  | 62 => ⟨S_, .f32⟩
  | 63 => ⟨S16640x1024, .f32⟩
  | 64 => ⟨S16640x1024, .f32⟩
  | 65 => ⟨S16640x1024, .f32⟩
  | 66 => ⟨S16640x1024, .f32⟩
  | 67 => ⟨S_, .f32⟩
  | 68 => ⟨S16640x1024, .f32⟩
  | 69 => ⟨S16640x1024, .f32⟩
  | 70 => ⟨S_, .f32⟩
  | 71 => ⟨S16640x1024, .f32⟩
  | 72 => ⟨S16640x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_7 : Ref sig .tc := ⟨.hbm, 97, rfl⟩
abbrev main_v81 : Ref sig .tc := ⟨.hbm, 98, rfl⟩
abbrev main_v82 : Ref sig .tc := ⟨.hbm, 99, rfl⟩
abbrev main_cst_8 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_10 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_11 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_12 : Ref sig .tc := ⟨.hbm, 136, rfl⟩
abbrev main_v115 : Ref sig .tc := ⟨.hbm, 137, rfl⟩
abbrev main_v116 : Ref sig .tc := ⟨.hbm, 138, rfl⟩
abbrev main_cst_13 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_cst_15 : Ref sig .tc := ⟨.hbm, 147, rfl⟩
abbrev main_v123 : Ref sig .tc := ⟨.hbm, 148, rfl⟩
abbrev main_v124 : Ref sig .tc := ⟨.hbm, 149, rfl⟩
abbrev main_cst_16 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_17 : Ref sig .tc := ⟨.hbm, 160, rfl⟩
abbrev main_v134 : Ref sig .tc := ⟨.hbm, 161, rfl⟩
abbrev main_v135 : Ref sig .tc := ⟨.hbm, 162, rfl⟩
abbrev main_cst_18 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_cst_19 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_20 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_21 : Ref sig .tc := ⟨.hbm, 178, rfl⟩
abbrev main_v148 : Ref sig .tc := ⟨.hbm, 179, rfl⟩
abbrev main_v149 : Ref sig .tc := ⟨.hbm, 180, rfl⟩
abbrev main_cst_22 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_23 : Ref sig .tc := ⟨.hbm, 187, rfl⟩
abbrev main_v155 : Ref sig .tc := ⟨.hbm, 188, rfl⟩
abbrev main_v156 : Ref sig .tc := ⟨.hbm, 189, rfl⟩
abbrev main_cst_24 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_25 : Ref sig .tc := ⟨.hbm, 195, rfl⟩
abbrev main_v161 : Ref sig .tc := ⟨.hbm, 196, rfl⟩
abbrev main_v162 : Ref sig .tc := ⟨.hbm, 197, rfl⟩
abbrev main_cst_26 : Ref sig .tc := ⟨.hbm, 198, rfl⟩
abbrev main_v163 : Ref sig .tc := ⟨.hbm, 199, rfl⟩
abbrev main_v164 : Ref sig .tc := ⟨.hbm, 200, rfl⟩

abbrev nD : Nat := 1
abbrev τ : Topo := Topo.v7x

variable {F : FTy → Type} [FloatOps F]
-- ==== Kernel3.lean ====
abbrev S16640x1024 : Shape := ⟨2, ![16640, 1024]⟩
abbrev S16640x512 : Shape := ⟨2, ![16640, 512]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S1x8x128x128 : Shape := ⟨4, ![1, 8, 128, 128]⟩
abbrev S2x8x128x128 : Shape := ⟨4, ![2, 8, 128, 128]⟩
abbrev S8x8 : Shape := ⟨2, ![8, 8]⟩
abbrev S1x8x1x8 : Shape := ⟨4, ![1, 8, 1, 8]⟩
abbrev S1x8x16x8 : Shape := ⟨4, ![1, 8, 16, 8]⟩
abbrev S1x8x128 : Shape := ⟨3, ![1, 8, 128]⟩
abbrev S2x8x128 : Shape := ⟨3, ![2, 8, 128]⟩
abbrev S2x128x8 : Shape := ⟨3, ![2, 128, 8]⟩
abbrev S2x128x8x1 : Shape := ⟨4, ![2, 128, 8, 1]⟩
abbrev S2x128x8x64 : Shape := ⟨4, ![2, 128, 8, 64]⟩
abbrev S2x128x512 : Shape := ⟨3, ![2, 128, 512]⟩
abbrev S16x128x128 : Shape := ⟨3, ![16, 128, 128]⟩
abbrev S1x1024 : Shape := ⟨2, ![1, 1024]⟩
abbrev S16x128x16640 : Shape := ⟨3, ![16, 128, 16640]⟩
abbrev S128x1024 : Shape := ⟨2, ![128, 1024]⟩
abbrev S128x512 : Shape := ⟨2, ![128, 512]⟩
abbrev S1x128x512 : Shape := ⟨3, ![1, 128, 512]⟩
abbrev S128x128 : Shape := ⟨2, ![128, 128]⟩
abbrev S1x128 : Shape := ⟨2, ![1, 128]⟩
abbrev S1x1x128x128 : Shape := ⟨4, ![1, 1, 128, 128]⟩
abbrev S128 : Shape := ⟨1, ![128]⟩
abbrev S128x1 : Shape := ⟨2, ![128, 1]⟩
abbrev S128x2048 : Shape := ⟨2, ![128, 2048]⟩
abbrev S1x128x128 : Shape := ⟨3, ![1, 128, 128]⟩

abbrev nBuf : Space → Nat
  | .hbm => 41
  | .vmem => 28
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .f32⟩
  | .hbm, ⟨3, _⟩ => ⟨S16640x512, .f32⟩
  | .hbm, ⟨4, _⟩ => ⟨S16640x1024, .f32⟩
  | .hbm, ⟨5, _⟩ => ⟨S16640x1024, .f32⟩
  | .hbm, ⟨6, _⟩ => ⟨S8x128x128, .f32⟩
  | .hbm, ⟨7, _⟩ => ⟨S8x128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S8x2x128x128, .f32⟩
  | .hbm, ⟨14, _⟩ => ⟨S8x8x8, .f32⟩
  | .hbm, ⟨15, _⟩ => ⟨S1x8x1x8x1x8, .f32⟩
  | .hbm, ⟨16, _⟩ => ⟨S1x8x16x8x16x8, .f32⟩
  | .hbm, ⟨17, _⟩ => ⟨S8x128x128, .f32⟩
  | .hbm, ⟨18, _⟩ => ⟨S1x8x128x128, .f32⟩
  | .hbm, ⟨19, _⟩ => ⟨S1x8x128x128, .f32⟩
  | .hbm, ⟨20, _⟩ => ⟨S2x8x128x128, .f32⟩
  | .hbm, ⟨21, _⟩ => ⟨S8x8, .f32⟩
  | .hbm, ⟨22, _⟩ => ⟨S1x8x1x8, .f32⟩
  | .hbm, ⟨23, _⟩ => ⟨S1x8x16x8, .f32⟩
  | .hbm, ⟨24, _⟩ => ⟨S8x128, .f32⟩
  | .hbm, ⟨25, _⟩ => ⟨S1x8x128, .f32⟩
  | .hbm, ⟨26, _⟩ => ⟨S1x8x128, .f32⟩
  | .hbm, ⟨27, _⟩ => ⟨S2x8x128, .f32⟩
  | .hbm, ⟨28, _⟩ => ⟨S2x128x8, .f32⟩
  | .hbm, ⟨29, _⟩ => ⟨S2x128x8x1, .f32⟩
  | .hbm, ⟨30, _⟩ => ⟨S2x128x8x64, .f32⟩
  | .hbm, ⟨31, _⟩ => ⟨S2x128x512, .f32⟩
  | .hbm, ⟨32, _⟩ => ⟨S16x128x128, .f32⟩
  | .hbm, ⟨33, _⟩ => ⟨S512x1024, .bf16⟩
  | .hbm, ⟨34, _⟩ => ⟨S512x1024, .bf16⟩
  | .hbm, ⟨35, _⟩ => ⟨S1024x1024, .bf16⟩
  | .hbm, ⟨36, _⟩ => ⟨S1x1024, .f32⟩
  | .hbm, ⟨37, _⟩ => ⟨S1024x2048, .bf16⟩
  | .hbm, ⟨38, _⟩ => ⟨S16640x1024, .f32⟩
  | .hbm, ⟨39, _⟩ => ⟨S16640x1024, .bf16⟩
  | .hbm, ⟨40, _⟩ => ⟨S16x128x16640, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S1x128x512, .f32⟩
  | .local _ .vmem, ⟨15, _⟩ => ⟨S1x128x512, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x2048, .bf16⟩
  | .local _ .vmem, ⟨21, _⟩ => ⟨S16x128x128, .f32⟩
  | .local _ .vmem, ⟨22, _⟩ => ⟨S128x1024, .f32⟩
  | .local _ .vmem, ⟨23, _⟩ => ⟨S128x1024, .f32⟩
  | .local _ .vmem, ⟨24, _⟩ => ⟨S128x1024, .bf16⟩
  | .local _ .vmem, ⟨25, _⟩ => ⟨S128x1024, .bf16⟩
  | .local _ .vmem, ⟨26, _⟩ => ⟨S16x128x128, .f32⟩
  | .local _ .vmem, ⟨27, _⟩ => ⟨S16x128x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c128_i32 : BitVec 32 := 128#32
  let v0 : BitVec 1 := Scalar.cmpi .sge arg0 c128_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_7 (i : grid0.Coords) : Fin 3 → Nat :=
  let arg0 : BitVec 32 := BitVec.ofNat 32 (i 0).val
  let c128_i32 : BitVec 32 := 128#32
  let v0 : BitVec 1 := Scalar.cmpi .sge arg0 c128_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16640x1024 : Shape := ⟨2, ![16640, 1024]⟩
abbrev S16640x512 : Shape := ⟨2, ![16640, 512]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16384x512 : Shape := ⟨2, ![16384, 512]⟩
abbrev S2x8192x512 : Shape := ⟨3, ![2, 8192, 512]⟩
abbrev S_ : Shape := ⟨0, ![]⟩
abbrev S2x64x128x8x64 : Shape := ⟨5, ![2, 64, 128, 8, 64]⟩
abbrev S8x2x64x64x128 : Shape := ⟨5, ![8, 2, 64, 64, 128]⟩
abbrev S128x8 : Shape := ⟨2, ![128, 8]⟩
abbrev S1x1x128x8x1 : Shape := ⟨5, ![1, 1, 128, 8, 1]⟩
abbrev S256x512 : Shape := ⟨2, ![256, 512]⟩
abbrev S32x8x512 : Shape := ⟨3, ![32, 8, 512]⟩
abbrev S32x128x512 : Shape := ⟨3, ![32, 128, 512]⟩
abbrev S32x1x128x8x64 : Shape := ⟨5, ![32, 1, 128, 8, 64]⟩
abbrev S8x32x1x64x128 : Shape := ⟨5, ![8, 32, 1, 64, 128]⟩
abbrev S16640 : Shape := ⟨1, ![16640]⟩
abbrev S16640x1 : Shape := ⟨2, ![16640, 1]⟩
abbrev S1x1024 : Shape := ⟨2, ![1, 1024]⟩
abbrev S16640x2048 : Shape := ⟨2, ![16640, 2048]⟩
abbrev S16640x8x2x128 : Shape := ⟨4, ![16640, 8, 2, 128]⟩
abbrev S8x2x128x16640 : Shape := ⟨4, ![8, 2, 128, 16640]⟩
abbrev S16x128x16640 : Shape := ⟨3, ![16, 128, 16640]⟩

abbrev nBuf : Space → Nat
  | .hbm => 85
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .f32⟩
  | .hbm, ⟨3, _⟩ => ⟨S16640x512, .f32⟩
  | .hbm, ⟨4, _⟩ => ⟨S16640x1024, .f32⟩
  | .hbm, ⟨5, _⟩ => ⟨S16640x1024, .f32⟩
  | .hbm, ⟨6, _⟩ => ⟨S8x128x128, .f32⟩
  | .hbm, ⟨7, _⟩ => ⟨S8x128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S8x2x128x128, .f32⟩
  | .hbm, ⟨14, _⟩ => ⟨S128, .i32⟩
  | .hbm, ⟨15, _⟩ => ⟨S128x1, .i32⟩
  | .hbm, ⟨16, _⟩ => ⟨S128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .f32⟩
  | .hbm, ⟨22, _⟩ => ⟨S1x128x128, .f32⟩
  | .hbm, ⟨23, _⟩ => ⟨S8x128x128, .f32⟩
  | .hbm, ⟨24, _⟩ => ⟨S8x128x128, .f32⟩
  | .hbm, ⟨25, _⟩ => ⟨S16384x512, .f32⟩
  | .hbm, ⟨26, _⟩ => ⟨S2x8192x512, .f32⟩
  | .hbm, ⟨27, _⟩ => ⟨S_, .i32⟩
  | .hbm, ⟨28, _⟩ => ⟨S_, .f32⟩
  | .hbm, ⟨29, _⟩ => ⟨S2x8192x512, .f32⟩
  | .hbm, ⟨30, _⟩ => ⟨S2x64x128x8x64, .f32⟩
  | .hbm, ⟨31, _⟩ => ⟨S8x2x64x64x128, .f32⟩
  | .hbm, ⟨32, _⟩ => ⟨S2x64x128x8x64, .f32⟩
  | .hbm, ⟨33, _⟩ => ⟨S128x8, .f32⟩
  | .hbm, ⟨34, _⟩ => ⟨S1x1x128x8x1, .f32⟩
  | .hbm, ⟨35, _⟩ => ⟨S2x64x128x8x64, .f32⟩
  | .hbm, ⟨36, _⟩ => ⟨S2x64x128x8x64, .f32⟩
  | .hbm, ⟨37, _⟩ => ⟨S2x8192x512, .f32⟩
  | .hbm, ⟨38, _⟩ => ⟨S16384x512, .f32⟩
  | .hbm, ⟨39, _⟩ => ⟨S256x512, .f32⟩
  | .hbm, ⟨40, _⟩ => ⟨S32x8x512, .f32⟩
  | .hbm, ⟨41, _⟩ => ⟨S_, .i32⟩
  | .hbm, ⟨42, _⟩ => ⟨S_, .f32⟩
  | .hbm, ⟨43, _⟩ => ⟨S32x128x512, .f32⟩
  | .hbm, ⟨44, _⟩ => ⟨S32x1x128x8x64, .f32⟩
  | .hbm, ⟨45, _⟩ => ⟨S8x32x1x64x128, .f32⟩
  | .hbm, ⟨46, _⟩ => ⟨S32x1x128x8x64, .f32⟩
  | .hbm, ⟨47, _⟩ => ⟨S128x8, .f32⟩
  | .hbm, ⟨48, _⟩ => ⟨S1x1x128x8x1, .f32⟩
  | .hbm, ⟨49, _⟩ => ⟨S32x1x128x8x64, .f32⟩
  | .hbm, ⟨50, _⟩ => ⟨S32x1x128x8x64, .f32⟩
  | .hbm, ⟨51, _⟩ => ⟨S32x128x512, .f32⟩
  | .hbm, ⟨52, _⟩ => ⟨S32x8x512, .f32⟩
  | .hbm, ⟨53, _⟩ => ⟨S256x512, .f32⟩
  | .hbm, ⟨54, _⟩ => ⟨S16640x512, .f32⟩
  | .hbm, ⟨55, _⟩ => ⟨S16640x512, .f32⟩
  | .hbm, ⟨56, _⟩ => ⟨S16640x512, .f32⟩
  | .hbm, ⟨57, _⟩ => ⟨S16640x1024, .f32⟩
  | .hbm, ⟨58, _⟩ => ⟨S16640x1024, .f32⟩
  | .hbm, ⟨59, _⟩ => ⟨S16640x1024, .f32⟩
  | .hbm, ⟨60, _⟩ => ⟨S16640x1024, .f32⟩
  | .hbm, ⟨61, _⟩ => ⟨S16640x1024, .f32⟩
  | .hbm, ⟨62, _⟩ => ⟨S16640x1024, .f32⟩
  | .hbm, ⟨63, _⟩ => ⟨S16640x1024, .f32⟩
  | .hbm, ⟨64, _⟩ => ⟨S16640x1024, .f32⟩
  | .hbm, ⟨65, _⟩ => ⟨S_, .f32⟩
  | .hbm, ⟨66, _⟩ => ⟨S16640, .f32⟩
  | .hbm, ⟨67, _⟩ => ⟨S16640x1, .f32⟩
  | .hbm, ⟨68, _⟩ => ⟨S_, .f32⟩
  | .hbm, ⟨69, _⟩ => ⟨S16640x1, .f32⟩
  | .hbm, ⟨70, _⟩ => ⟨S16640x1, .f32⟩
  | .hbm, ⟨71, _⟩ => ⟨S_, .f32⟩
  | .hbm, ⟨72, _⟩ => ⟨S16640x1, .f32⟩
  | .hbm, ⟨73, _⟩ => ⟨S16640x1, .f32⟩
  | .hbm, ⟨74, _⟩ => ⟨S16640x1, .f32⟩
  | .hbm, ⟨75, _⟩ => ⟨S16640x1024, .f32⟩
  | .hbm, ⟨76, _⟩ => ⟨S16640x1024, .f32⟩
  | .hbm, ⟨77, _⟩ => ⟨S1x1024, .f32⟩
  | .hbm, ⟨78, _⟩ => ⟨S16640x1024, .f32⟩
  | .hbm, ⟨79, _⟩ => ⟨S16640x1024, .f32⟩
  | .hbm, ⟨80, _⟩ => ⟨S16640x2048, .f32⟩
  | .hbm, ⟨81, _⟩ => ⟨S16640x8x2x128, .f32⟩
  | .hbm, ⟨82, _⟩ => ⟨S8x2x128x16640, .f32⟩
  | .hbm, ⟨83, _⟩ => ⟨S16x128x16640, .f32⟩
  | .hbm, ⟨84, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_0 : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst : Ref sig .tc := ⟨.hbm, 65, rfl⟩
abbrev main_v47 : Ref sig .tc := ⟨.hbm, 66, rfl⟩
abbrev main_v48 : Ref sig .tc := ⟨.hbm, 67, rfl⟩
abbrev main_cst_1 : Ref sig .tc := ⟨.hbm, 68, rfl⟩
abbrev main_v49 : Ref sig .tc := ⟨.hbm, 69, rfl⟩
abbrev main_v50 : Ref sig .tc := ⟨.hbm, 70, rfl⟩
abbrev main_cst_2 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel4.lean ====
abbrev S16640x1024 : Shape := ⟨2, ![16640, 1024]⟩
abbrev S16640x256 : Shape := ⟨2, ![16640, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16640x1024 : Shape := ⟨2, ![16640, 1024]⟩
abbrev S16640x256 : Shape := ⟨2, ![16640, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S16640x1024, .f32⟩
  | .hbm, ⟨7, _⟩ => ⟨S16640x1024, .f32⟩
  | .hbm, ⟨8, _⟩ => ⟨S_, .f32⟩
  | .hbm, ⟨9, _⟩ => ⟨S16640, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S16640x1, .f32⟩
  | .hbm, ⟨18, _⟩ => ⟨S16640x1024, .f32⟩
  | .hbm, ⟨19, _⟩ => ⟨S16640x1024, .f32⟩
  | .hbm, ⟨20, _⟩ => ⟨S1x1024, .f32⟩
  | .hbm, ⟨21, _⟩ => ⟨S16640x1024, .f32⟩
  | .hbm, ⟨22, _⟩ => ⟨S16640x1024, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S_, .f32⟩
  | .hbm, ⟨27, _⟩ => ⟨S16640x1024, .f32⟩
  | .hbm, ⟨28, _⟩ => ⟨S16640x1024, .f32⟩
  | .hbm, ⟨29, _⟩ => ⟨S_, .f32⟩
  | .hbm, ⟨30, _⟩ => ⟨S16640x1024, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.TopK.lean ====
module

public import Idealize.ShloMosaic.Lib.SortPrefix
public import Idealize.ShloMosaic.PureOps.Ideal.Laws

/-!
# The first three positions of a stable descending sort

`topAt s r` is the position that a stable sort of the scores `s`, greatest first, puts at place `r`.
Here are the facts that a routine picking one maximum after another needs: places hold different positions,
every position not yet placed is at most the one placed next, and of equal scores the lower position is placed first.
Then the mask of one such round: the lowest row that holds the column's maximum.
-/

@[expose] public section

noncomputable section

namespace Cert.Proof

open Idealize.ShloMosaic

/-- "The score at `a` is greater than the score at `b`". -/
def gtB {N : Nat} (s : Fin N → EReal) (a b : Fin N) : Bool := decide (s b < s a)

/-- The greater score first and, of equal scores, the lower position first. -/
def gtPosB {N : Nat} (s : Fin N → EReal) (a b : Fin N) : Bool :=
  decide (s b < s a) || (decide (s a = s b) && decide (a < b))

theorem gtPosB_total {N : Nat} (s : Fin N → EReal) : StrictTotalBefore (gtPosB s) where
  irrefl a := by simp [gtPosB]
  trans a b c h h' := by
    simp only [gtPosB, Bool.or_eq_true, decide_eq_true_eq, Bool.and_eq_true] at h h' ⊢
    rcases h with h | ⟨h, hp⟩ <;> rcases h' with h' | ⟨h', hp'⟩
    · exact Or.inl (h'.trans h)
    · exact Or.inl (h' ▸ h)
    · exact Or.inl (h ▸ h')
    · exact Or.inr ⟨h.trans h', hp.trans hp'⟩
  total a b hne := by
    simp only [gtPosB, Bool.or_eq_true, decide_eq_true_eq, Bool.and_eq_true]
    rcases lt_trichotomy (s a) (s b) with h | h | h
    · exact Or.inr (Or.inl h)
    · rcases lt_or_gt_of_ne hne with hp | hp
      · exact Or.inl (Or.inr ⟨h, hp⟩)
      · exact Or.inr (Or.inr ⟨h.symm, hp⟩)
    · exact Or.inl (Or.inl h)

theorem mem_insertBefore {ι : Type} (R : ι → ι → Bool) (a x : ι) (l : List ι) :
    x ∈ insertBefore R a l → x = a ∨ x ∈ l := by
  induction l with
  | nil => intro h; simpa [insertBefore] using h
  | cons b l ih =>
    unfold insertBefore
    split
    · intro h
      rcases List.mem_cons.mp h with h | h
      · exact Or.inr (h ▸ List.mem_cons_self)
      · rcases ih h with h | h
        · exact Or.inl h
        · exact Or.inr (List.mem_cons_of_mem _ h)
    · intro h; exact List.mem_cons.mp h

theorem mem_stableSort {ι : Type} (R : ι → ι → Bool) (x : ι) (l : List ι) : x ∈ stableSort R l → x ∈ l := by
  induction l with
  | nil => intro h; exact h
  | cons b l ih =>
    unfold stableSort
    intro h
    rcases mem_insertBefore R b x _ h with h | h
    · exact h ▸ List.mem_cons_self
    · exact List.mem_cons_of_mem _ (ih h)

/-- On a list of increasing positions, sorting by the score alone is sorting by the score and then the position. -/
theorem stableSort_gtB {N : Nat} (s : Fin N → EReal) (l : List (Fin N)) (hl : l.Pairwise (· < ·)) :
    stableSort (gtB s) l = stableSort (gtPosB s) l := by
  induction l with
  | nil => rfl
  | cons a l ih =>
    rw [List.pairwise_cons] at hl
    unfold stableSort
    rw [ih hl.2]
    refine insertBefore_congr _ _ _ _ fun b hb => ?_
    have hab := hl.1 b (mem_stableSort _ _ _ hb)
    simp [gtB, gtPosB, not_lt.mpr hab.le]

theorem sortedFrom_gtB {N : Nat} (s : Fin N → EReal) : sortedFrom (gtB s) = sortedFrom (gtPosB s) := by
  funext k
  unfold sortedFrom
  have h : sortPositions N (gtB s) = sortPositions N (gtPosB s) :=
    stableSort_gtB s _ (List.pairwise_lt_finRange N)
  rw [List.get_of_eq h]
  rfl

/-- The position at place `r` of the descending stable sort. -/
def topAt (s : Fin 32 → EReal) (r : Fin 3) : Fin 32 := sortedFrom (gtB s) (r.castLE (by decide))

theorem topAt_injective (s : Fin 32 → EReal) : Function.Injective (topAt s) := fun a b h =>
  Fin.castLE_injective _ (sortedFrom_injective _ h)

/-- A position that no earlier place holds does not come before the position at place `r`. -/
theorem topAt_first (s : Fin 32 → EReal) (r : Fin 3) (n : Fin 32) (hn : ∀ r' : Fin 3, r' < r → topAt s r' ≠ n) :
    gtPosB s n (topAt s r) = false := by
  obtain ⟨k, hk⟩ := sortedFrom_surjective (gtB s) n
  rcases lt_trichotomy k (r.castLE (by decide)) with h | h | h
  · have hk3 : k.val < r.val := h
    exact absurd hk (hn ⟨k.val, by omega⟩ hk3)
  · subst h; rw [← hk]; exact (gtPosB_total s).irrefl _
  · rw [← hk]; unfold topAt; rw [sortedFrom_gtB]
    exact sortedFrom_noInversion (gtPosB s) (gtPosB s) (fun a b h => (gtPosB_total s).asymm a b h) (fun _ _ h => h)
      (gtPosB_total s).negTrans _ _ h

theorem topAt_max (s : Fin 32 → EReal) (r : Fin 3) (n : Fin 32) (hn : ∀ r' : Fin 3, r' < r → topAt s r' ≠ n) :
    s n ≤ s (topAt s r) := by
  have h := topAt_first s r n hn
  simp only [gtPosB, Bool.or_eq_false_iff, decide_eq_false_iff_not, not_lt] at h
  exact h.1

theorem topAt_min (s : Fin 32 → EReal) (r : Fin 3) (n : Fin 32) (hn : ∀ r' : Fin 3, r' < r → topAt s r' ≠ n)
    (hlt : n < topAt s r) : s n ≠ s (topAt s r) := by
  have h := topAt_first s r n hn
  intro he
  simp [gtPosB, he, hlt] at h

/-- Where exactly the positions below `own` carry a score other than −∞, place `r < own` holds a position below `own`. -/
theorem topAt_lt (s : Fin 32 → EReal) (own : Nat) (h1 : ∀ n : Fin 32, own ≤ n.val → s n = ⊥)
    (h2 : ∀ n : Fin 32, n.val < own → s n ≠ ⊥) (hown : own ≤ 32) (r : Fin 3) (hr : r.val < own) : (topAt s r).val < own := by
  by_contra hge
  have hb := h1 _ (not_lt.mp hge)
  -- every position below `own` would be at an earlier place
  have hall : ∀ n : Fin own, ∃ r' : Fin r.val, topAt s ⟨r'.val, by omega⟩ = ⟨n.val, by omega⟩ := by
    intro n
    by_contra hno
    have hn : ∀ r' : Fin 3, r' < r → topAt s r' ≠ ⟨n.val, by omega⟩ := fun r' hr' he => hno ⟨⟨r'.val, hr'⟩, he⟩
    have hle := topAt_max s r ⟨n.val, by omega⟩ hn
    rw [hb] at hle
    exact h2 ⟨n.val, by omega⟩ n.isLt (le_bot_iff.mp hle)
  choose f hf using hall
  have hinj : Function.Injective f := fun a b hab => by
    have e := (hf a).symm.trans ((congrArg (fun x : Fin r.val => topAt s ⟨x.val, by omega⟩) hab).trans (hf b))
    exact Fin.ext (congrArg (fun x : Fin 32 => x.val) e)
  have := Fintype.card_le_of_injective f hinj
  simp only [Fintype.card_fin] at this
  omega

/-! ## The mask of one round -/

/-- A fold of `max` that starts at −∞ is at most `y` exactly when every entry is. -/
theorem foldMax_le {N : Nat} (x : Fin N → EReal) (y : EReal) :
    Finset.fold max ⊥ x Finset.univ ≤ y ↔ ∀ n, x n ≤ y := by
  rw [Finset.fold_max_le]; simp

theorem foldMax_eq {N : Nat} (x : Fin N → EReal) (t : Fin N) (h : ∀ n, x n ≤ x t) :
    Finset.fold max ⊥ x Finset.univ = x t := by
  refine le_antisymm ((foldMax_le x _).mpr h) ?_
  rw [Finset.le_fold_max]
  exact Or.inr ⟨t, Finset.mem_univ _, le_rfl⟩

theorem toInt_minsi (a b : BitVec 32) : (IntOp.minsi a b).toInt = min a.toInt b.toInt := by
  unfold IntOp.minsi
  rw [BitVec.slt_eq_decide]
  split <;> rename_i h <;> simp only [decide_eq_true_eq] at h <;> omega

/-- The signed minimum of a family of words that starts at the greatest word is the word `f t` that none is below. -/
theorem foldMin_eq [Std.Commutative (IntOp.minsi (w := 32))] [Std.Associative (IntOp.minsi (w := 32))] {N : Nat}
    (f : Fin N → BitVec 32) (t : Fin N) (h : ∀ n, (f t).toInt ≤ (f n).toInt) :
    Finset.fold IntOp.minsi 2147483647#32 f Finset.univ = f t := by
  refine BitVec.eq_of_toInt_eq ?_
  rw [← Finset.fold_hom (op := IntOp.minsi (w := 32)) (op' := min) (m := BitVec.toInt) toInt_minsi]
  refine le_antisymm ?_ ?_
  · rw [Finset.fold_min_le]
    exact Or.inr ⟨t, Finset.mem_univ _, le_rfl⟩
  · rw [Finset.le_fold_min]
    refine ⟨?_, fun n _ => h n⟩
    have := BitVec.toInt_lt (x := f t)
    have e : (2147483647#32).toInt = 2147483647 := by decide
    rw [e]; omega

end Cert.Proof

end
-- ==== Proof.KSel.lean ====
module

public import proofs.«01_k».proof.Proof.Gen.KernelIdeal.Value
public import proofs.«01_k».proof.Proof.TopK
public import Idealize.ShloMosaic.Lib.Pointwise
public import Idealize.ShloMosaic.PureOps.Ideal.Laws
public import Idealize.ShloMosaic.PureOps.Reduce

/-!
# The kernel's choice of blocks

Three rounds of "take the row with the greatest score, the lowest such row on a tie", and the mask that results.
-/

@[expose] public section

set_option maxRecDepth 16384

noncomputable section

namespace Cert.Proof

open Cert.KernelIdeal Cert.KernelIdeal.Gen Idealize.ShloMosaic Idealize.ShloMosaic.TcCoe

/-- The row number of every entry. -/
def rowNo : IVec S64x256 32 := iota .tc S64x256 32 [0] iota_S64x256_d0_w32

/-- The mask of one round: in each column, the lowest row that holds the column's maximum. -/
def pickV (x : FVec Ideal S64x256 .f32) : IVec S64x256 1 :=
  cmpi .eq rowNo (broadcastTo S64x256 (shapeCast S1x256 (multiReductionI .minsi [0] S256
    (select (cmpf .oeq x (broadcastTo S64x256 (shapeCast S1x256
      (multiReduction .maximumf [0] S256 x 0xFF800000#32 reduces_S64x256_S256 (.inl rfl) rfl)
      shapeCasts_S256_S1x256) broadcasts_S1x256_S64x256)) rowNo (broadcast S64x256 64#32))
    2147483647#32 reduces_S64x256_S256 rfl) shapeCasts_S256_S1x256) broadcasts_S1x256_S64x256)

/-- The scores without the row picked. -/
def dropV (x : FVec Ideal S64x256 .f32) : FVec Ideal S64x256 .f32 :=
  select (pickV x) (broadcast S64x256 (Scalar.ofBits .f32 0xFF800000#32 : Ideal .f32)) x

/-- The rows chosen so far, with the row picked among `x` added where more than `k` blocks lie before. -/
def markV (v10 : IVec S64x256 32) (k : BitVec 32) (x sel : FVec Ideal S64x256 .f32) : FVec Ideal S64x256 .f32 :=
  select (andi (pickV x) (cmpi .sgt v10 (broadcast S64x256 k)))
    (broadcast S64x256 (Scalar.ofBits .f32 0x3F800000#32 : Ideal .f32)) sel

/-- Zero at the chosen rows and the block itself, the mask elsewhere. -/
def allowV (v10 : IVec S64x256 32) (x : FVec Ideal S64x256 .f32) : FVec Ideal S64x256 .f32 :=
  select (ori (cmpf .ogt (markV v10 2#32 (dropV (dropV x)) (markV v10 1#32 (dropV x)
      (markV v10 0#32 x (broadcast S64x256 (Scalar.ofBits .f32 0x00000000#32 : Ideal .f32)))))
      (broadcast S64x256 (Scalar.ofBits .f32 0x00000000#32 : Ideal .f32))) (cmpi .eq rowNo v10))
    (broadcast S64x256 (Scalar.ofBits .f32 0x00000000#32 : Ideal .f32))
    (broadcast S64x256 (Named.named κ "mask" 0xF149F2CA#32 : Ideal .f32))

theorem pay194_eq (i : grid0.Coords) (v4 : Vec Ideal S256x128 .f32) (v6 : Vec Ideal S1x64x128 .f32) (v5 : FVec Ideal S128x256 .f32) :
    k0_pay194 (F := Ideal) v5 rowNo (k0_pay189 i) (k0_pay192 i v4 v6) (k0_pay193 i v4 v6)
      = truncf .bf16 (concatenate S128x256 0 [⟨S64x256, mulf (extractStridedSlice S64x256 ![0, 0] v5 slices_S128x256_o0_0_S64x256)
          (broadcast S64x256 (Scalar.ofBits .f32 0x3E000000#32 : Ideal .f32))⟩, ⟨S64x256, allowV (k0_pay189 i) (k0_pay190 i v4 v6)⟩]
          concatenates_S64x256_S64x256_S128x256_d0) bitsLt_bf16_f32 := rfl

theorem pay203_eq (v5 : FVec Ideal S128x256 .f32) (v7 : FVec Ideal S64x128 .f32) (v8 : IVec S64x128 32) (v10 : IVec S64x256 32) (v81 : IVec S64x128 32) :
    k0_pay203 (F := Ideal) v5 rowNo v10 (k0_pay200 v5 v7 v8 rowNo v10 v81) (k0_pay201 v5 v7 v8 rowNo v10 v81) (k0_pay202 v5 v7 v8 rowNo v10 v81)
      = truncf .bf16 (concatenate S128x256 0 [⟨S64x256, allowV v10 (k0_pay196 v5 v7 v8 rowNo v10 v81)⟩,
          ⟨S64x256, mulf (extractStridedSlice S64x256 ![64, 0] v5 slices_S128x256_o64_0_S64x256)
          (broadcast S64x256 (Scalar.ofBits .f32 0x3E000000#32 : Ideal .f32))⟩]
          concatenates_S64x256_S64x256_S128x256_d0) bitsLt_bf16_f32 := rfl

theorem ofBits_negInf : Ideal.ofBits FTy.f32 4286578688#32 = ⊥ := by simp [Ideal.ofBits, Ideal.ieee]

theorem toInt_ofNat_small (n : Nat) (h : n < 100) : (BitVec.ofNat 32 n).toInt = n := by
  rw [BitVec.toInt_eq_toNat_cond, BitVec.toNat_ofNat]
  split <;> omega

theorem select_ofBool {α : Type} (p : Prop) [Decidable p] (a b : α) :
    Scalar.select (BitVec.ofBool (decide p)) a b = if p then a else b := by
  by_cases h : p <;> simp [Scalar.select, h]

theorem cmpi_eq_ofNat (a b : Nat) (ha : a < 100) (hb : b < 100) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toInt h
    rw [toInt_ofNat_small a ha, toInt_ofNat_small b hb] at this
    omega
  · rintro rfl; rfl

theorem cmpi_sgt_ofNat (a b : Nat) (ha : a < 100) (hb : b < 100) :
    IntOp.cmpi .sgt (BitVec.ofNat 32 a) (BitVec.ofNat 32 b) = BitVec.ofBool (decide (b < a)) := by
  simp only [IntOp.cmpi, BitVec.slt_eq_decide, toInt_ofNat_small a ha, toInt_ofNat_small b hb, Nat.cast_lt]

theorem cmpi_slt_ofNat (a b : Nat) (ha : a < 100) (hb : b < 100) :
    IntOp.cmpi .slt (BitVec.ofNat 32 a) (BitVec.ofNat 32 b) = BitVec.ofBool (decide (a < b)) := by
  simp only [IntOp.cmpi, BitVec.slt_eq_decide, toInt_ofNat_small a ha, toInt_ofNat_small b hb, Nat.cast_lt]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]

theorem named_mask : (Named.named κ "mask" 4048155338#32 : Ideal .f32) = ⊥ := rfl

theorem pickV_apply (x : FVec Ideal S64x256 .f32) (c : Fin 256) (t : Fin 64) (hmax : ∀ n : Fin 64, x (ix2 n c) ≤ x (ix2 t c))
    (hmin : ∀ n : Fin 64, n < t → x (ix2 n c) ≠ x (ix2 t c)) (n : Fin 64) :
    pickV x (ix2 n c) = BitVec.ofBool (decide (n = t)) := by
  pointwise [pickV, rowNo]
  rw [ofBits_negInf, foldMax_eq (fun m : Fin 64 => x (ix2 m c)) t hmax]
  rw [foldMin_eq (fun m : Fin 64 => if x (ix2 m c) = x (ix2 t c) then BitVec.ofNat 32 m.val else 64#32) t]
  · rw [if_pos rfl, cmpi_eq_ofNat _ _ (by omega) (by omega)]
    congr 2
    exact propext Fin.ext_iff.symm
  · intro m
    rw [if_pos rfl, toInt_ofNat_small _ (by omega)]
    split
    · rename_i h
      rw [toInt_ofNat_small _ (by omega)]
      have : ¬ m < t := fun hlt => hmin m hlt h
      have := Fin.not_lt.mp this
      exact_mod_cast this
    · have e : (64#32).toInt = 64 := by decide
      rw [e]; omega

theorem dropV_apply (x : FVec Ideal S64x256 .f32) (c : Fin 256) (t : Fin 64) (hmax : ∀ n : Fin 64, x (ix2 n c) ≤ x (ix2 t c))
    (hmin : ∀ n : Fin 64, n < t → x (ix2 n c) ≠ x (ix2 t c)) (n : Fin 64) :
    dropV x (ix2 n c) = if n = t then ⊥ else x (ix2 n c) := by
  pointwise [dropV]
  rw [pickV_apply x c t hmax hmin, ofBits_negInf, select_ofBool]

/-- A round that counts: more than `k` blocks lie before. -/
theorem markV_apply (v10 : IVec S64x256 32) (k qi : Nat) (hk : k < 100) (hqi : qi < 100) (x sel : FVec Ideal S64x256 .f32) (c : Fin 256)
    (hv : ∀ n : Fin 64, v10 (ix2 n c) = BitVec.ofNat 32 qi) (t : Fin 64)
    (hmax : k < qi → ∀ n : Fin 64, x (ix2 n c) ≤ x (ix2 t c))
    (hmin : k < qi → ∀ n : Fin 64, n < t → x (ix2 n c) ≠ x (ix2 t c)) (n : Fin 64) :
    markV v10 (BitVec.ofNat 32 k) x sel (ix2 n c) = if k < qi ∧ n = t then 1 else sel (ix2 n c) := by
  pointwise [markV]
  rw [hv, cmpi_sgt_ofNat _ _ hqi hk]
  by_cases h : k < qi
  · rw [pickV_apply x c t (hmax h) (hmin h), andi_ofBool, select_ofBool]
    simp [h]
  · simp [h, IntOp.andi, Scalar.select]

/-- Row `m` of a padded column. -/
def up (m : Fin 32) : Fin 64 := ⟨m.val, by omega⟩

theorem up_val (m : Fin 32) : (up m).val = m.val := rfl

theorem up_eq {n : Fin 64} {m : Fin 32} : n = up m ↔ n.val = m.val := Fin.ext_iff

/-- The mask of a column: zero at the first three places of the sort that lie before the block, and at the block itself. -/
theorem allowV_apply (v10 : IVec S64x256 32) (qi : Fin 32) (x : FVec Ideal S64x256 .f32) (c : Fin 256) (s : Fin 32 → EReal)
    (hv : ∀ n : Fin 64, v10 (ix2 n c) = BitVec.ofNat 32 qi.val)
    (hx : ∀ n : Fin 64, x (ix2 n c) = if h : n.val < 32 then s ⟨n.val, h⟩ else ⊥)
    (h1 : ∀ n : Fin 32, qi.val ≤ n.val → s n = ⊥) (h2 : ∀ n : Fin 32, n.val < qi.val → s n ≠ ⊥) (n : Fin 64) :
    allowV v10 x (ix2 n c)
      = if (∃ r : Fin 3, r.val < qi.val ∧ n = up (topAt s r)) ∨ n.val = qi.val then 0 else ⊥ := by
  have hinj := topAt_injective s
  have hlt' := topAt_lt s qi.val h1 h2 qi.isLt.le
  have hmx := topAt_max s
  have hmn := topAt_min s
  generalize topAt s = σ at *
  have hne : ∀ r r' : Fin 3, r ≠ r' → σ r ≠ σ r' := fun r r' h e => h (hinj e)
  have hxt : ∀ m : Fin 32, x (ix2 (up m) c) = s m := fun m => by
    rw [hx, dif_pos (up_val m ▸ m.isLt)]; rfl
  have hlt : ∀ r : Fin 3, r.val < qi.val → s (σ r) ≠ ⊥ := fun r hr => h2 _ (hlt' r hr)
  -- the state before round `r`
  have key : ∀ (r : Fin 3) (y : FVec Ideal S64x256 .f32),
      (∀ n : Fin 64, y (ix2 n c) = if ∃ r' : Fin 3, r' < r ∧ n = up (σ r') then ⊥ else x (ix2 n c)) → r.val < qi.val →
      (∀ n : Fin 64, y (ix2 n c) ≤ y (ix2 (up (σ r)) c)) ∧
      (∀ n : Fin 64, n < up (σ r) → y (ix2 n c) ≠ y (ix2 (up (σ r)) c)) := by
    intro r y hy hr
    have ht : y (ix2 (up (σ r)) c) = s (σ r) := by
      rw [hy, if_neg, hxt]
      rintro ⟨r', hr', e⟩
      have e' : σ r = σ r' := Fin.ext (up_eq.mp e)
      exact hne r r' (ne_of_gt hr') e'
    have main : ∀ n : Fin 64, y (ix2 n c) = ⊥ ∨ ∃ h : n.val < 32, y (ix2 n c) = s ⟨n.val, h⟩ ∧
        ∀ r' : Fin 3, r' < r → σ r' ≠ ⟨n.val, h⟩ := by
      intro n
      by_cases hp : ∃ r' : Fin 3, r' < r ∧ n = up (σ r')
      · exact Or.inl (by rw [hy, if_pos hp])
      · by_cases hn : n.val < 32
        · refine Or.inr ⟨hn, by rw [hy, if_neg hp, hx, dif_pos hn], fun r' hr' e => hp ⟨r', hr', up_eq.mpr (congrArg Fin.val e).symm⟩⟩
        · exact Or.inl (by rw [hy, if_neg hp, hx, dif_neg hn])
    refine ⟨fun n => ?_, fun n hn => ?_⟩ <;> rw [ht]
    · rcases main n with h | ⟨h, e, hp⟩
      · rw [h]; exact bot_le
      · rw [e]; exact hmx r _ hp
    · rcases main n with h | ⟨h, e, hp⟩
      · rw [h]; exact (hlt r hr).symm
      · rw [e]; exact hmn r _ hp hn
  -- the scores after each round
  have y0 : ∀ n : Fin 64, x (ix2 n c) = if ∃ r' : Fin 3, r' < 0 ∧ n = up (σ r') then ⊥ else x (ix2 n c) := fun n => by
    rw [if_neg]; rintro ⟨r', h, -⟩; exact absurd h (Fin.not_lt_zero _)
  have y1 : 0 < qi.val → ∀ n : Fin 64, dropV x (ix2 n c)
      = if ∃ r' : Fin 3, r' < 1 ∧ n = up (σ r') then ⊥ else x (ix2 n c) := fun h n => by
    have k0 := key 0 x y0 h
    rw [dropV_apply x c _ k0.1 k0.2]
    refine if_congr ⟨fun e => ⟨0, by decide, e⟩, ?_⟩ rfl rfl
    rintro ⟨r', hr', e⟩
    obtain rfl : r' = 0 := by omega
    exact e
  have y2 : 1 < qi.val → ∀ n : Fin 64, dropV (dropV x) (ix2 n c)
      = if ∃ r' : Fin 3, r' < 2 ∧ n = up (σ r') then ⊥ else x (ix2 n c) := fun h n => by
    have k1 := key 1 (dropV x) (y1 (by omega)) h
    rw [dropV_apply _ c _ k1.1 k1.2, y1 (by omega)]
    by_cases e : n = up (σ 1)
    · rw [if_pos e, if_pos ⟨1, by decide, e⟩]
    · rw [if_neg e]
      refine if_congr ⟨?_, ?_⟩ rfl rfl
      · rintro ⟨r', hr', e'⟩; exact ⟨r', by omega, e'⟩
      · rintro ⟨r', hr', e'⟩
        refine ⟨r', ?_, e'⟩
        have : r' ≠ 1 := fun h => e (h ▸ e')
        omega
  have k0 := fun h : 0 < qi.val => key 0 x y0 h
  have k1 := fun h : 1 < qi.val => key 1 (dropV x) (y1 (by omega)) h
  have k2 := fun h : 2 < qi.val => key 2 (dropV (dropV x)) (y2 (by omega)) h
  have mk : markV v10 2#32 (dropV (dropV x)) (markV v10 1#32 (dropV x) (markV v10 0#32 x (broadcast S64x256 0))) (ix2 n c)
      = if ∃ r : Fin 3, r.val < qi.val ∧ n = up (σ r) then (1 : EReal) else 0 := by
    rw [markV_apply v10 2 qi.val (by omega) (by omega) _ _ c hv _ (fun h => (k2 h).1) (fun h => (k2 h).2),
      markV_apply v10 1 qi.val (by omega) (by omega) _ _ c hv _ (fun h => (k1 h).1) (fun h => (k1 h).2),
      markV_apply v10 0 qi.val (by omega) (by omega) _ _ c hv _ (fun h => (k0 h).1) (fun h => (k0 h).2)]
    by_cases e2 : 2 < qi.val ∧ n = up (σ 2)
    · rw [if_pos e2, if_pos ⟨2, e2⟩]
    rw [if_neg e2]
    by_cases e1 : 1 < qi.val ∧ n = up (σ 1)
    · rw [if_pos e1, if_pos ⟨1, e1⟩]
    rw [if_neg e1]
    by_cases e0 : 0 < qi.val ∧ n = up (σ 0)
    · rw [if_pos e0, if_pos ⟨0, e0⟩]
    rw [if_neg e0, if_neg]
    · rfl
    · rintro ⟨r, hr⟩
      fin_cases r
      · exact e0 hr
      · exact e1 hr
      · exact e2 hr
  pointwise [allowV, rowNo]
  rw [mk, hv, cmpi_eq_ofNat _ _ (by omega) (by omega), ori_ofBool, select_ofBool, named_mask]
  refine if_congr (or_congr ?_ Iff.rfl) rfl rfl
  by_cases hp : ∃ r : Fin 3, r.val < qi.val ∧ n = up (σ r)
  · rw [if_pos hp]; exact ⟨fun _ => hp, fun _ => zero_lt_one⟩
  · rw [if_neg hp]; exact ⟨fun h => absurd h (lt_irrefl _), fun h => absurd h hp⟩

end Cert.Proof

end
-- ==== Proof.Softmax.lean ====
module

public import Idealize.ShloMosaic.PureOps.Ideal.Laws
public import Mathlib.Data.EReal.Inv
public import proofs.«01_k».proof.Proof.TopK

/-!
# Sums of exponentials, kept with a running maximum

The running sums of the kernel are the plain sums `∑ exp x · v` scaled by `exp (-μ)` for the running maximum `μ`.
A logit may be −∞ (a masked one): its exponential is zero. The values may be any extended reals.
-/

@[expose] public section

noncomputable section

namespace Cert.Proof

open Idealize.ShloMosaic

/-- The exponential of a logit that is not +∞, as a real. -/
def eexp : EReal → ℝ
  | ⊥ => 0
  | ⊤ => 0
  | (r : ℝ) => Real.exp r

@[simp] theorem eexp_bot : eexp ⊥ = 0 := rfl
@[simp] theorem eexp_coe (r : ℝ) : eexp (r : EReal) = Real.exp r := rfl

theorem eexp_nonneg (x : EReal) : 0 ≤ eexp x := by
  induction x with
  | bot => exact le_rfl
  | top => exact le_rfl
  | coe r => exact (Real.exp_pos r).le

theorem mul_coe_add (a : ℝ) (ha : 0 ≤ a) (x y : EReal) : (a : EReal) * (x + y) = a * x + a * y :=
  EReal.left_distrib_of_nonneg_of_ne_top (EReal.coe_nonneg.mpr ha) (EReal.coe_ne_top a) x y

theorem mul_coe_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_coe_add a ha, ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp_sub_coe (x : EReal) (hx : x ≠ ⊤) (μ : ℝ) :
    Ideal.exp (x - μ) = ((Real.exp (-μ) : ℝ) : EReal) * ((eexp x : ℝ) : EReal) := by
  induction x with
  | bot => rw [EReal.bot_sub]; simp
  | top => exact absurd rfl hx
  | coe r =>
    rw [← EReal.coe_sub, Ideal.exp_coe, eexp_coe, ← EReal.coe_mul, ← Real.exp_add]
    congr 2; ring

theorem max_real {N : Nat} (lg : Fin N → EReal) (h : ∀ j, lg j ≠ ⊤) (μ : ℝ) :
    ∃ μ' : ℝ, max (μ : EReal) (Finset.fold max ⊥ lg Finset.univ) = μ' := by
  have htop : Finset.fold max ⊥ lg Finset.univ ≠ ⊤ := by
    intro he
    have : ¬ Finset.fold max ⊥ lg Finset.univ < ⊤ := by rw [he]; exact lt_irrefl _
    exact this (by rw [Finset.fold_max_lt]; exact ⟨bot_lt_top, fun j _ => lt_top_iff_ne_top.mpr (h j)⟩)
  refine ⟨(max (μ : EReal) (Finset.fold max ⊥ lg Finset.univ)).toReal, (EReal.coe_toReal ?_ ?_).symm⟩
  · rcases max_choice (μ : EReal) (Finset.fold max ⊥ lg Finset.univ) with e | e <;> rw [e]
    · exact EReal.coe_ne_top μ
    · exact htop
  · intro e
    have := le_max_left (μ : EReal) (Finset.fold max ⊥ lg Finset.univ)
    rw [e] at this
    exact EReal.coe_ne_bot μ (le_bot_iff.mp this)

theorem fold_real {N : Nat} (lg : Fin N → EReal) (h : ∀ j, lg j ≠ ⊤) (j0 : Fin N) (r : ℝ) (h0 : lg j0 = r) :
    ∃ μ' : ℝ, Finset.fold max ⊥ lg Finset.univ = μ' := by
  obtain ⟨μ', e⟩ := max_real lg h r
  refine ⟨μ', ?_⟩
  rw [← e, max_eq_right]
  rw [Finset.le_fold_max]
  exact Or.inr ⟨j0, Finset.mem_univ _, h0.ge⟩

/-- The weighted sum below a maximum `μ`. -/
theorem sum_exp_sub {N : Nat} (lg : Fin N → EReal) (h : ∀ j, lg j ≠ ⊤) (μ : ℝ) (v : Fin N → EReal) :
    ∑ j, v j * Ideal.exp (lg j - μ) = ((Real.exp (-μ) : ℝ) : EReal) * ∑ j, v j * ((eexp (lg j) : ℝ) : EReal) := by
  rw [mul_coe_sum _ _ (Real.exp_pos _).le]
  refine Finset.sum_congr rfl fun j _ => ?_
  rw [exp_sub_coe _ (h j), mul_left_comm]

/-- One step: the old sum rescaled to the new maximum, and the block's sum below it. -/
theorem step_sum {N : Nat} (lg : Fin N → EReal) (h : ∀ j, lg j ≠ ⊤) (μ μ' : ℝ) (A : EReal) (v : Fin N → EReal) :
    Ideal.exp ((μ : EReal) - μ') * (((Real.exp (-μ) : ℝ) : EReal) * A) + ∑ j, v j * Ideal.exp (lg j - μ')
      = ((Real.exp (-μ') : ℝ) : EReal) * (A + ∑ j, v j * ((eexp (lg j) : ℝ) : EReal)) := by
  rw [sum_exp_sub lg h, mul_coe_add _ (Real.exp_pos _).le]
  congr 1
  rw [← EReal.coe_sub, Ideal.exp_coe, ← mul_assoc, ← EReal.coe_mul, ← Real.exp_add]
  congr 3; ring

/-- The scale cancels in the quotient. -/
theorem div_scaled (μ : ℝ) (A : EReal) (W : ℝ) (hW : 0 < W) :
    Ideal.div (((Real.exp (-μ) : ℝ) : EReal) * A) (((Real.exp (-μ) : ℝ) : EReal) * (W : EReal)) = A * ((W⁻¹ : ℝ) : EReal) := by
  have he := Real.exp_pos (-μ)
  have hne : Real.exp (-μ) * W ≠ 0 := (mul_pos he hW).ne'
  rw [← EReal.coe_mul]
  unfold Ideal.div
  rw [if_neg (by exact_mod_cast hne), ← EReal.coe_inv, mul_comm _ A, mul_assoc, ← EReal.coe_mul]
  congr 2
  field_simp

/-- Dividing each weight by the total is dividing the weighted sum. -/
theorem sum_div_mul {ι : Type} [Fintype ι] (W μ : ℝ) (hW : 0 < W) (x : ι → EReal) (hx : ∀ i, x i ≠ ⊤) (v : ι → EReal) :
    ∑ i, Ideal.div (Ideal.exp (x i - μ)) (((Real.exp (-μ) : ℝ) : EReal) * (W : EReal)) * v i
      = (∑ i, v i * ((eexp (x i) : ℝ) : EReal)) * ((W⁻¹ : ℝ) : EReal) := by
  rw [mul_comm (∑ i, v i * ((eexp (x i) : ℝ) : EReal)) ((W⁻¹ : ℝ) : EReal), mul_coe_sum _ _ (inv_pos.mpr hW).le]
  refine Finset.sum_congr rfl fun i _ => ?_
  rw [exp_sub_coe _ (hx i), div_scaled μ _ W hW]
  ac_rfl

/-- A sum over the first `q` numbers of what the chosen ones carry is the sum over the places. -/
theorem sum_chosen {M : Type} [AddCommMonoid M] (q : Nat) (σ : Fin 3 → Fin 32) (hinj : Function.Injective σ)
    (hlt : ∀ r : Fin 3, r.val < q → (σ r).val < q) (f : Nat → M) :
    (∑ n ∈ Finset.range q, if ∃ r : Fin 3, r.val < q ∧ n = (σ r).val then f n else 0)
      = ∑ r : Fin 3, if r.val < q then f (σ r).val else 0 := by
  have h1 : ∀ n ∈ Finset.range q, (if ∃ r : Fin 3, r.val < q ∧ n = (σ r).val then f n else 0)
      = ∑ r : Fin 3, if r.val < q ∧ n = (σ r).val then f n else 0 := by
    intro n _
    by_cases h : ∃ r : Fin 3, r.val < q ∧ n = (σ r).val
    · rw [if_pos h]
      obtain ⟨r, hr, e⟩ := h
      rw [Finset.sum_eq_single r]
      · rw [if_pos ⟨hr, e⟩]
      · intro b _ hb
        rw [if_neg]
        rintro ⟨-, e'⟩
        exact hb (hinj (Fin.ext (e'.symm.trans e)))
      · intro h; exact absurd (Finset.mem_univ _) h
    · rw [if_neg h]
      refine (Finset.sum_eq_zero fun r _ => ?_).symm
      rw [if_neg]; intro hr; exact h ⟨r, hr⟩
  rw [Finset.sum_congr rfl h1, Finset.sum_comm]
  refine Finset.sum_congr rfl fun r _ => ?_
  by_cases hr : r.val < q
  · rw [if_pos hr, Finset.sum_eq_single (σ r).val]
    · rw [if_pos ⟨hr, rfl⟩]
    · intro b _ hb; rw [if_neg]; rintro ⟨-, e⟩; exact hb e
    · intro h; exact absurd (Finset.mem_range.mpr (hlt r hr)) h
  · rw [if_neg hr]
    refine Finset.sum_eq_zero fun n _ => ?_
    rw [if_neg]; rintro ⟨h, -⟩; exact hr h

end Cert.Proof

end
-- ==== Proof.KCol.lean ====
module

public import proofs.«01_k».proof.Proof.KSel
public import proofs.«01_k».proof.Proof.Softmax

/-!
# One head's loop, column by column

`Rep` says that a head's running maximum, sum and accumulator hold, in a column, the plain sums scaled by the maximum.
-/

@[expose] public section

set_option maxRecDepth 16384

noncomputable section

namespace Cert.Proof

open Cert.KernelIdeal Cert.KernelIdeal.Gen Idealize.ShloMosaic Idealize.ShloMosaic.TcCoe

/-- The logit of key row `j` in column `c`: the key row against the extended query column. -/
def lg (w : FVec Ideal S128x256 .bf16) (k : Vec Ideal S1x1x256x128 .bf16) (c j : Fin 256) : EReal :=
  ∑ l : Fin 128, k (ix4 0 0 j l) * w (ix2 l c)

/-- In column `c` the running maximum is a real `μ`, and the sums are `W` and `A` scaled by `exp (-μ)`. -/
def Rep (c : Fin 256) (m l : FVec Ideal S1x256 .f32) (acc : FVec Ideal S64x256 .f32) (W : EReal) (A : Fin 64 → EReal) : Prop :=
  ∃ μ : ℝ, m (ix2 0 c) = (μ : EReal) ∧ l (ix2 0 c) = ((Real.exp (-μ) : ℝ) : EReal) * W ∧
    ∀ d : Fin 64, acc (ix2 d c) = ((Real.exp (-μ) : ℝ) : EReal) * A d

theorem pay161_apply (w : FVec Ideal S128x256 .bf16) (k : Vec Ideal S1x1x256x128 .bf16) (j c : Fin 256) :
    k0_pay161 (F := Ideal) w k (ix2 j c) = lg w k c j := by
  pointwise [k0_pay161]
  rfl

theorem pay162_apply (w : FVec Ideal S128x256 .bf16) (m : FVec Ideal S1x256 .f32) (k : Vec Ideal S1x1x256x128 .bf16) (c : Fin 256) :
    k0_pay162 (F := Ideal) w m k (ix2 0 c) = max (m (ix2 0 c)) (Finset.fold max ⊥ (lg w k c) Finset.univ) := by
  pointwise [k0_pay162]
  simp only [pay161_apply, ofBits_negInf]

theorem pay165_apply (w : FVec Ideal S128x256 .bf16) (m l : FVec Ideal S1x256 .f32) (k : Vec Ideal S1x1x256x128 .bf16) (c : Fin 256) :
    k0_pay165 (F := Ideal) w m l k (ix2 0 c) =
      Ideal.exp (m (ix2 0 c) - k0_pay162 (F := Ideal) w m k (ix2 0 c)) * l (ix2 0 c)
        + ∑ j : Fin 256, Ideal.exp (lg w k c j - k0_pay162 (F := Ideal) w m k (ix2 0 c)) := by
  pointwise [k0_pay165, k0_pay163, k0_pay164]
  simp only [pay161_apply]

theorem pay166_apply (w : FVec Ideal S128x256 .bf16) (m : FVec Ideal S1x256 .f32) (acc : FVec Ideal S64x256 .f32) (k : Vec Ideal S1x1x256x128 .bf16)
    (v : Vec Ideal S1x64x256 .bf16) (d : Fin 64) (c : Fin 256) :
    k0_pay166 (F := Ideal) w m acc k v (ix2 d c) =
      Ideal.exp (m (ix2 0 c) - k0_pay162 (F := Ideal) w m k (ix2 0 c)) * acc (ix2 d c)
        + ∑ j : Fin 256, v (ix3 0 d j) * Ideal.exp (lg w k c j - k0_pay162 (F := Ideal) w m k (ix2 0 c)) := by
  pointwise [k0_pay166, k0_pay163, k0_pay164]
  simp only [pay161_apply]

/-- One block of the loop. -/
theorem rep_step (w : FVec Ideal S128x256 .bf16) (m l : FVec Ideal S1x256 .f32) (acc : FVec Ideal S64x256 .f32) (k : Vec Ideal S1x1x256x128 .bf16)
    (v : Vec Ideal S1x64x256 .bf16) (c : Fin 256) (W : EReal) (A : Fin 64 → EReal) (h : Rep c m l acc W A) (hl : ∀ j, lg w k c j ≠ ⊤) :
    Rep c (k0_pay162 (F := Ideal) w m k) (k0_pay165 (F := Ideal) w m l k) (k0_pay166 (F := Ideal) w m acc k v)
      (W + ∑ j, ((eexp (lg w k c j) : ℝ) : EReal)) (fun d => A d + ∑ j, v (ix3 0 d j) * ((eexp (lg w k c j) : ℝ) : EReal)) := by
  obtain ⟨μ, hm, hl', ha⟩ := h
  obtain ⟨μ', hμ'⟩ := max_real (lg w k c) hl μ
  have hm' : k0_pay162 (F := Ideal) w m k (ix2 0 c) = (μ' : EReal) := by rw [pay162_apply, hm, hμ']
  refine ⟨μ', hm', ?_, fun d => ?_⟩
  · rw [pay165_apply, hm', hm, hl']
    have := step_sum (lg w k c) hl μ μ' W (fun _ => 1)
    simpa only [one_mul] using this
  · rw [pay166_apply, hm', hm, ha]
    exact step_sum (lg w k c) hl μ μ' (A d) fun j => v (ix3 0 d j)

/-- The own block's logits: −∞ after the column's own position. -/
def lgO (w : FVec Ideal S128x256 .bf16) (k : Vec Ideal S1x1x256x128 .bf16) (c j : Fin 256) : EReal :=
  if j.val ≤ c.val then lg w k c j else ⊥

theorem cmpi_sle_row (a b : Nat) (ha : a < 256) (hb : b < 256) :
    IntOp.cmpi .sle (BitVec.ofNat 32 a) (BitVec.ofNat 32 b) = BitVec.ofBool (decide (a ≤ b)) := by
  have e : ∀ n : Nat, n < 256 → (BitVec.ofNat 32 n).toInt = n := fun n h => by
    rw [BitVec.toInt_eq_toNat_cond, BitVec.toNat_ofNat]; split <;> omega
  simp only [IntOp.cmpi, BitVec.sle_eq_decide, e a ha, e b hb, Nat.cast_le]

theorem pay204_apply (w : FVec Ideal S128x256 .bf16) (k : Vec Ideal S1x1x256x128 .bf16) (j c : Fin 256) :
    k0_pay204 (F := Ideal) w k (ix2 j c) = lgO w k c j := by
  pointwise [k0_pay204]
  rw [cmpi_sle_row _ _ j.isLt c.isLt, select_ofBool, named_mask]
  rfl

theorem pay205_apply (w : FVec Ideal S128x256 .bf16) (k : Vec Ideal S1x1x256x128 .bf16) (c : Fin 256) :
    k0_pay205 (F := Ideal) w k (ix2 0 c) = Finset.fold max ⊥ (lgO w k c) Finset.univ := by
  pointwise [k0_pay205]
  simp only [pay204_apply, ofBits_negInf]

theorem pay207_apply (w : FVec Ideal S128x256 .bf16) (k : Vec Ideal S1x1x256x128 .bf16) (c : Fin 256) :
    k0_pay207 (F := Ideal) w k (ix2 0 c) = ∑ j : Fin 256, Ideal.exp (lgO w k c j - k0_pay205 (F := Ideal) w k (ix2 0 c)) := by
  pointwise [k0_pay207, k0_pay206]
  simp only [pay204_apply]

theorem pay208_apply (w : FVec Ideal S128x256 .bf16) (k : Vec Ideal S1x1x256x128 .bf16) (v : Vec Ideal S1x64x256 .bf16) (d : Fin 64) (c : Fin 256) :
    k0_pay208 (F := Ideal) (k0_pay206 (F := Ideal) w k) v (ix2 d c)
      = ∑ j : Fin 256, v (ix3 0 d j) * Ideal.exp (lgO w k c j - k0_pay205 (F := Ideal) w k (ix2 0 c)) := by
  pointwise [k0_pay208, k0_pay206]
  simp only [pay204_apply]

/-- The own block, which begins the loop. -/
theorem rep_init (w : FVec Ideal S128x256 .bf16) (k : Vec Ideal S1x1x256x128 .bf16) (v : Vec Ideal S1x64x256 .bf16) (c : Fin 256)
    (hl : ∀ j, lg w k c j ≠ ⊤) (r : ℝ) (h0 : lg w k c 0 = r) :
    Rep c (k0_pay205 (F := Ideal) w k) (k0_pay207 (F := Ideal) w k) (k0_pay208 (F := Ideal) (k0_pay206 (F := Ideal) w k) v)
      (∑ j, ((eexp (lgO w k c j) : ℝ) : EReal)) (fun d => ∑ j, v (ix3 0 d j) * ((eexp (lgO w k c j) : ℝ) : EReal)) := by
  have hO : ∀ j, lgO w k c j ≠ ⊤ := fun j => by
    unfold lgO; split
    · exact hl j
    · exact bot_ne_top
  obtain ⟨μ, hμ⟩ := fold_real (lgO w k c) hO 0 r ((if_pos (Nat.zero_le c.val)).trans h0)
  have hm : k0_pay205 (F := Ideal) w k (ix2 0 c) = (μ : EReal) := by rw [pay205_apply, hμ]
  refine ⟨μ, hm, ?_, fun d => ?_⟩
  · rw [pay207_apply, hm]
    have := sum_exp_sub (lgO w k c) hO μ (fun _ => 1)
    simpa only [one_mul] using this
  · rw [pay208_apply, hm]
    exact sum_exp_sub (lgO w k c) hO μ fun j => v (ix3 0 d j)

/-- The second head's steps are the first head's, on its own operands. -/
theorem head1_m : @k0_pay168 Ideal _ = @k0_pay162 Ideal _ := rfl
theorem head1_l : @k0_pay171 Ideal _ = @k0_pay165 Ideal _ := rfl
theorem head1_acc (w : FVec Ideal S128x256 .bf16) (m : FVec Ideal S1x256 .f32) (acc : FVec Ideal S64x256 .f32) (k : Vec Ideal S1x1x256x128 .bf16)
    (v : Vec Ideal S1x64x256 .bf16) : k0_pay214 (k0_pay170 w m k) (k0_pay172 w m acc k) v = k0_pay166 w m acc k v := rfl

/-- What the block writes: each head's quotient. -/
theorem pay216_apply (l0 : FVec Ideal S1x256 .f32) (a0 : FVec Ideal S64x256 .f32) (l1 : FVec Ideal S1x256 .f32) (a1 : FVec Ideal S64x256 .f32)
    (c : Fin 256) (d : Fin 128) :
    k0_pay216 (F := Ideal) l0 a0 l1 a1 (ix2 c d)
      = if h : d.val < 64 then Ideal.div (a0 (ix2 ⟨d.val, h⟩ c)) (l0 (ix2 0 c))
        else Ideal.div (a1 (ix2 ⟨d.val - 64, by omega⟩ c)) (l1 (ix2 0 c)) := by
  pointwise [k0_pay216]

end Cert.Proof

end
-- ==== Proof.KQ.lean ====
module

public import proofs.«01_k».proof.Proof.KCol

/-!
# The extended query columns and the logits of a block

The kernel extends each head's 64 query lanes by 64 lanes that hold the mask of each block, and each key row by a row of the
identity: one product of 128 lanes is the logit plus the mask of the key's block.
-/

@[expose] public section

set_option maxRecDepth 16384

noncomputable section

namespace Cert.Proof

open Cert.KernelIdeal Cert.KernelIdeal.Gen Idealize.ShloMosaic Idealize.ShloMosaic.TcCoe

/-- Lane `d` of head `h` of a pair. -/
def lane (h : Fin 2) (d : Fin 64) : Fin 128 := ⟨64 * h.val + d.val, by omega⟩

theorem lane_val (h : Fin 2) (d : Fin 64) : (lane h d).val = 64 * h.val + d.val := rfl

theorem lane0_val (d : Fin 64) : (lane 0 d).val = d.val := by rw [lane_val]; simp

theorem lane1_val (d : Fin 64) : (lane 1 d).val = 64 + d.val := by rw [lane_val]; simp

theorem sum_lanes (f : Fin 128 → EReal) : ∑ l, f l = (∑ d, f (lane 0 d)) + ∑ d, f (lane 1 d) := by
  have h := Fin.sum_univ_add (a := 64) (b := 64) f
  rw [h]
  have e : ∀ d : Fin 64, Fin.castAdd 64 d = lane 0 d := fun d => Fin.ext (lane0_val d).symm
  have e' : ∀ d : Fin 64, Fin.natAdd 64 d = lane 1 d := fun d => Fin.ext (lane1_val d).symm
  simp only [e, e']

theorem sum_lanes' (h h' : Fin 2) (hne : h ≠ h') (f : Fin 128 → EReal) :
    ∑ l, f l = (∑ d, f (lane h d)) + ∑ d, f (lane h' d) := by
  rw [sum_lanes]
  fin_cases h <;> fin_cases h'
  · exact absurd rfl hne
  · rfl
  · exact add_comm _ _
  · exact absurd rfl hne

theorem ofBits_eighth : Ideal.ofBits FTy.f32 1040187392#32 = (((1 : ℝ) / 8 : ℝ) : EReal) := by
  simp [Ideal.ofBits, Ideal.ieee]
  rw [← EReal.coe_mul]
  norm_num

/-- The score of block `n` for query row `c`, head `h`. -/
def sc (q : Fin 256 → Fin 128 → ℝ) (kb : Fin 64 → Fin 128 → ℝ) (h : Fin 2) (n : Fin 64) (c : Fin 256) : ℝ :=
  ∑ d : Fin 64, kb n (lane h d) * q c (lane h d)

theorem lane_slt (h : Fin 2) (d : Fin 64) :
    IntOp.cmpi .slt (BitVec.ofNat 32 (lane h d).val) 64#32 = BitVec.ofBool (decide (h = 0)) := by
  have e : (BitVec.ofNat 32 (lane h d).val).toInt = (lane h d).val := by
    rw [BitVec.toInt_eq_toNat_cond, BitVec.toNat_ofNat]; split <;> omega
  have e' : (64#32).toInt = 64 := by decide
  simp only [IntOp.cmpi, BitVec.slt_eq_decide, e, e']
  obtain rfl | rfl : h = 0 ∨ h = 1 := by omega
  · rw [lane0_val]; congr 1; rw [decide_eq_decide]; exact ⟨fun _ => rfl, fun _ => by omega⟩
  · rw [lane1_val]; congr 1; rw [decide_eq_decide]; exact ⟨fun _ => by omega, fun h => absurd h (by decide)⟩

theorem lane_sge (h : Fin 2) (d : Fin 64) :
    IntOp.cmpi .sge (BitVec.ofNat 32 (lane h d).val) 64#32 = BitVec.ofBool (decide (h = 1)) := by
  have e : (BitVec.ofNat 32 (lane h d).val).toInt = (lane h d).val := by
    rw [BitVec.toInt_eq_toNat_cond, BitVec.toNat_ofNat]; split <;> omega
  have e' : (64#32).toInt = 64 := by decide
  simp only [IntOp.cmpi, BitVec.sle_eq_decide, e, e']
  obtain rfl | rfl : h = 0 ∨ h = 1 := by omega
  · rw [lane0_val]; congr 1; rw [decide_eq_decide]; exact ⟨fun _ => by omega, fun h => absurd h (by decide)⟩
  · rw [lane1_val]; congr 1; rw [decide_eq_decide]; exact ⟨fun _ => rfl, fun _ => by omega⟩

section Block

variable (i : grid0.Coords) (v4 : Vec Ideal S256x128 .f32) (v6 : Vec Ideal S1x64x128 .f32)
  (q : Fin 256 → Fin 128 → ℝ) (kb : Fin 64 → Fin 128 → ℝ)
  (hq : ∀ c l, v4 (ix2 c l) = (q c l : EReal)) (hkb : ∀ n l, v6 (ix3 0 n l) = (kb n l : EReal))

/-- Head 1's scores, as the kernel states them. -/
abbrev sc1V (i : grid0.Coords) (v4 : Vec Ideal S256x128 .f32) (v6 : Vec Ideal S1x64x128 .f32) : FVec Ideal S64x256 .f32 :=
  k0_pay196 (F := Ideal) (k0_pay187 v4) (k0_pay188 v6) (iota .tc S64x128 32 [1] iota_S64x128_d1_w32) rowNo (k0_pay189 i) k0_pay195

/-- Head 0's extended query columns. -/
def w0 (i : grid0.Coords) (v4 : Vec Ideal S256x128 .f32) (v6 : Vec Ideal S1x64x128 .f32) : FVec Ideal S128x256 .bf16 :=
  k0_pay194 (F := Ideal) (k0_pay187 v4) rowNo (k0_pay189 i) (k0_pay192 i v4 v6) (k0_pay193 i v4 v6)

/-- Head 1's extended query columns. -/
def w1 (i : grid0.Coords) (v4 : Vec Ideal S256x128 .f32) (v6 : Vec Ideal S1x64x128 .f32) : FVec Ideal S128x256 .bf16 :=
  k0_pay203 (F := Ideal) (k0_pay187 v4) rowNo (k0_pay189 i)
    (k0_pay200 (k0_pay187 v4) (k0_pay188 v6) (iota .tc S64x128 32 [1] iota_S64x128_d1_w32) rowNo (k0_pay189 i) k0_pay195)
    (k0_pay201 (k0_pay187 v4) (k0_pay188 v6) (iota .tc S64x128 32 [1] iota_S64x128_d1_w32) rowNo (k0_pay189 i) k0_pay195)
    (k0_pay202 (k0_pay187 v4) (k0_pay188 v6) (iota .tc S64x128 32 [1] iota_S64x128_d1_w32) rowNo (k0_pay189 i) k0_pay195)

/-- The mask of head `h`. -/
def alV (i : grid0.Coords) (v4 : Vec Ideal S256x128 .f32) (v6 : Vec Ideal S1x64x128 .f32) (h : Fin 2) : FVec Ideal S64x256 .f32 :=
  if h = 0 then allowV (k0_pay189 i) (k0_pay190 i v4 v6) else allowV (k0_pay189 i) (sc1V i v4 v6)

def wV (i : grid0.Coords) (v4 : Vec Ideal S256x128 .f32) (v6 : Vec Ideal S1x64x128 .f32) (h : Fin 2) : FVec Ideal S128x256 .bf16 :=
  if h = 0 then w0 i v4 v6 else w1 i v4 v6

include hq hkb in
theorem pay190_apply (n : Fin 64) (c : Fin 256) :
    k0_pay190 (F := Ideal) i v4 v6 (ix2 n c) = if n.val < (i 2).val then ((sc q kb 0 n c : ℝ) : EReal) else ⊥ := by
  pointwise [k0_pay190, k0_pay187, k0_pay188, k0_pay189]
  rw [cmpi_slt_ofNat _ _ (by omega) (lt_of_lt_of_le (i 2).isLt (by decide)), select_ofBool, named_mask, sum_lanes]
  simp only [lane_slt, select_ofBool, hq, hkb, if_true, Fin.one_eq_zero_iff, if_false, Nat.succ_ne_self, Finset.sum_const_zero, add_zero,
    ← EReal.coe_mul, ← coe_sum, sc, OfNat.ofNat_ne_one]

include hq hkb in
theorem sc1V_apply (n : Fin 64) (c : Fin 256) :
    sc1V i v4 v6 (ix2 n c) = if n.val < (i 2).val then ((sc q kb 1 n c : ℝ) : EReal) else ⊥ := by
  pointwise [sc1V, k0_pay196, k0_pay187, k0_pay188, k0_pay189, rowNo, k0_pay195]
  rw [cmpi_slt_ofNat _ _ (by omega) (lt_of_lt_of_le (i 2).isLt (by decide)), select_ofBool, named_mask, sum_lanes]
  simp only [lane_sge, select_ofBool, hq, hkb, if_true, Fin.zero_eq_one_iff, if_false, Nat.succ_ne_self, Finset.sum_const_zero, zero_add,
    ← EReal.coe_mul, ← coe_sum, sc, OfNat.ofNat_ne_one]

include hq in
theorem wV_own (h : Fin 2) (d : Fin 64) (c : Fin 256) :
    wV i v4 v6 h (ix2 (lane h d) c) = ((q c (lane h d) * (1 / 8) : ℝ) : EReal) := by
  unfold wV
  split
  · rename_i h0; subst h0
    unfold w0
    rw [pay194_eq]
    pointwise [k0_pay187]
    rw [dif_pos (by rw [lane_val]; simp), hq, ofBits_eighth, ← EReal.coe_mul]
  · rename_i h0
    obtain rfl : h = 1 := by omega
    unfold w1
    rw [pay203_eq]
    pointwise [k0_pay187]
    rw [dif_neg (by rw [lane_val]; simp)]
    have e : (⟨64 + ((lane 1 d).val - 64), by rw [lane_val]; have := d.isLt; simp; omega⟩ : Fin 128) = lane 1 d :=
      Fin.ext (by have := lane1_val d; simp only []; omega)
    rw [e, hq, ofBits_eighth, ← EReal.coe_mul]

theorem wV_mask (h h' : Fin 2) (hne : h ≠ h') (n : Fin 64) (c : Fin 256) :
    wV i v4 v6 h (ix2 (lane h' n) c) = alV i v4 v6 h (ix2 n c) := by
  unfold wV alV
  split
  · rename_i h0; subst h0
    obtain rfl : h' = 1 := by omega
    unfold w0
    rw [pay194_eq]
    pointwise [k0_pay187]
    rw [dif_neg (by rw [lane_val]; simp)]
    have e : (⟨(lane 1 n).val - 64, by rw [lane_val]; have := n.isLt; simp⟩ : Fin 64) = n :=
      Fin.ext (by have := lane1_val n; simp only []; omega)
    rw [e]
  · rename_i h0
    obtain rfl : h' = 0 := by omega
    unfold w1
    rw [pay203_eq]
    pointwise []
    rw [dif_pos (by rw [lane_val]; simp)]
    have e : (⟨(lane 0 n).val, by rw [lane_val]; have := n.isLt; simp⟩ : Fin 64) = n := Fin.ext (lane0_val n)
    rw [e]

/-- The scores of query row `c` as the sort sees them: −∞ from the row's own block on. -/
def scS (q : Fin 256 → Fin 128 → ℝ) (kb : Fin 64 → Fin 128 → ℝ) (qi : Fin 32) (h : Fin 2) (c : Fin 256) (n : Fin 32) : EReal :=
  if n.val < qi.val then ((sc q kb h (up n) c : ℝ) : EReal) else ⊥

include hq hkb in
theorem alV_apply (qi : Fin 32) (hi : (i 2).val = qi.val) (h : Fin 2) (n : Fin 64) (c : Fin 256) :
    alV i v4 v6 h (ix2 n c)
      = if (∃ r : Fin 3, r.val < qi.val ∧ n = up (topAt (scS q kb qi h c) r)) ∨ n.val = qi.val then 0 else ⊥ := by
  have hv : ∀ n : Fin 64, k0_pay189 i (ix2 n c) = BitVec.ofNat 32 qi.val := fun n => by
    pointwise [k0_pay189]; rw [hi]
  have h1 : ∀ n : Fin 32, qi.val ≤ n.val → scS q kb qi h c n = ⊥ := fun n hn => if_neg (not_lt.mpr hn)
  have h2 : ∀ n : Fin 32, n.val < qi.val → scS q kb qi h c n ≠ ⊥ := fun n hn => by
    unfold scS; rw [if_pos hn]; exact EReal.coe_ne_bot _
  have hcol : ∀ n : Fin 64, (if n.val < qi.val then ((sc q kb h n c : ℝ) : EReal) else ⊥)
      = if h' : n.val < 32 then scS q kb qi h c ⟨n.val, h'⟩ else ⊥ := fun n => by
    by_cases hn : n.val < 32
    · rw [dif_pos hn]; rfl
    · rw [dif_neg hn, if_neg]; omega
  unfold alV
  split
  · rename_i h0; subst h0
    refine allowV_apply _ qi _ c _ hv (fun n => ?_) h1 h2 n
    rw [pay190_apply i v4 v6 q kb hq hkb, hi, hcol]
  · rename_i h0
    obtain rfl : h = 1 := by omega
    refine allowV_apply _ qi _ c _ hv (fun n => ?_) h1 h2 n
    rw [sc1V_apply i v4 v6 q kb hq hkb, hi, hcol]

/-- The logit of a key row for query row `c`, head `h`. -/
def lgt (q : Fin 256 → Fin 128 → ℝ) (K : Fin 256 → Fin 128 → ℝ) (h : Fin 2) (c j : Fin 256) : ℝ :=
  ∑ d : Fin 64, K j (lane h d) * (q c (lane h d) * (1 / 8))

/-- Head `h`'s extended key rows of block `n`: the keys on the head's lanes, row `n` of the identity on the other's. -/
def IsKaug (h h' : Fin 2) (n : Fin 32) (K : Fin 256 → Fin 128 → ℝ) (k : Vec Ideal S1x1x256x128 .bf16) : Prop :=
  ∀ j : Fin 256, (∀ d : Fin 64, k (ix4 0 0 j (lane h d)) = ((K j (lane h d) : ℝ) : EReal)) ∧
    ∀ m : Fin 64, k (ix4 0 0 j (lane h' m)) = if m = up n then 1 else 0

include hq in
theorem lg_eq (h h' : Fin 2) (hne : h ≠ h') (n : Fin 32) (K : Fin 256 → Fin 128 → ℝ) (k : Vec Ideal S1x1x256x128 .bf16)
    (hk : IsKaug h h' n K k) (c j : Fin 256) :
    lg (wV i v4 v6 h) k c j = ((lgt q K h c j : ℝ) : EReal) + alV i v4 v6 h (ix2 (up n) c) := by
  unfold lg
  rw [sum_lanes' h h' hne]
  congr 1
  · unfold lgt
    rw [coe_sum]
    refine Finset.sum_congr rfl fun d _ => ?_
    rw [(hk j).1 d, wV_own i v4 v6 q hq, ← EReal.coe_mul]
  · rw [Finset.sum_eq_single (up n)]
    · rw [(hk j).2, if_pos rfl, one_mul, wV_mask i v4 v6 h h' hne]
    · intro m _ hm
      rw [(hk j).2, if_neg hm, zero_mul]
    · intro h; exact absurd (Finset.mem_univ _) h

end Block

end Cert.Proof

end
-- ==== Proof.KBlock.lean ====
module

public import proofs.«01_k».proof.Proof.KQ
public import Idealize.ShloMosaic.Lib.VecWindow
public import Idealize.ShloMosaic.Lib.WritesUnit

/-!
# What one grid point leaves in its output block

The loop over the earlier blocks, told on the two scratch arrays as vectors.
-/

@[expose] public section

set_option maxRecDepth 16384

noncomputable section

namespace Cert.Proof

open Cert.KernelIdeal Cert.KernelIdeal.Gen Idealize.ShloMosaic Idealize.ShloMosaic.TcCoe

/-- What the loop carries: each head's running maximum, sum and accumulator. -/
abbrev St : Type := FVec Ideal S1x256 .f32 × FVec Ideal S1x256 .f32 × FVec Ideal S64x256 .f32 × FVec Ideal S1x256 .f32 × FVec Ideal S1x256 .f32 × FVec Ideal S64x256 .f32

/-- Head `h`'s extended key rows of block `n`. -/
def ldK (S0 : Vec Ideal S2x32x256x128 .bf16) (h : Fin 2) (n : Fin 32) : Vec Ideal S1x1x256x128 .bf16 :=
  fun x => S0 (ix4 h n (x 2) (x 3))

/-- Head `h`'s transposed value rows of block `n`. -/
def ldV (S1 : Vec Ideal S32x128x256 .bf16) (h : Fin 2) (n : Fin 32) : Vec Ideal S1x64x256 .bf16 :=
  fun x => S1 (ix3 n (lane h (x 1)) (x 2))

/-- The loop's first value, from the own block. -/
def initSt (S0 : Vec Ideal S2x32x256x128 .bf16) (S1 : Vec Ideal S32x128x256 .bf16) (wa wb : FVec Ideal S128x256 .bf16) (qi : Fin 32) : St :=
  (k0_pay205 wa (ldK S0 0 qi), k0_pay207 wa (ldK S0 0 qi), k0_pay208 (k0_pay206 wa (ldK S0 0 qi)) (ldV S1 0 qi),
   k0_pay205 wb (ldK S0 1 qi), k0_pay207 wb (ldK S0 1 qi), k0_pay208 (k0_pay206 wb (ldK S0 1 qi)) (ldV S1 1 qi))

/-- One block of the loop. -/
def stepSt (S0 : Vec Ideal S2x32x256x128 .bf16) (S1 : Vec Ideal S32x128x256 .bf16) (wa wb : FVec Ideal S128x256 .bf16) (n : Fin 32) (s : St) : St :=
  (k0_pay162 wa s.1 (ldK S0 0 n), k0_pay165 wa s.1 s.2.1 (ldK S0 0 n), k0_pay166 wa s.1 s.2.2.1 (ldK S0 0 n) (ldV S1 0 n),
   k0_pay162 wb s.2.2.2.1 (ldK S0 1 n), k0_pay165 wb s.2.2.2.1 s.2.2.2.2.1 (ldK S0 1 n),
   k0_pay166 wb s.2.2.2.1 s.2.2.2.2.2 (ldK S0 1 n) (ldV S1 1 n))

/-- The value before block `k`. -/
def loopSt (S0 : Vec Ideal S2x32x256x128 .bf16) (S1 : Vec Ideal S32x128x256 .bf16) (wa wb : FVec Ideal S128x256 .bf16) (qi : Fin 32) : ℕ → St
  | 0 => initSt S0 S1 wa wb qi
  | k + 1 => if h : k < 32 then stepSt S0 S1 wa wb ⟨k, h⟩ (loopSt S0 S1 wa wb qi k) else loopSt S0 S1 wa wb qi k

/-- The output block. -/
def outV (S0 : Vec Ideal S2x32x256x128 .bf16) (S1 : Vec Ideal S32x128x256 .bf16) (wa wb : FVec Ideal S128x256 .bf16) (qi : Fin 32) : Vec Ideal S256x128 .bf16 :=
  k0_pay216 (loopSt S0 S1 wa wb qi qi.val).2.1 (loopSt S0 S1 wa wb qi qi.val).2.2.1
    (loopSt S0 S1 wa wb qi qi.val).2.2.2.2.1 (loopSt S0 S1 wa wb qi qi.val).2.2.2.2.2

/-- The point's block number. -/
abbrev qiOf (i : grid0.Coords) : Fin 32 := i 2

theorem trips1 (i : grid0.Coords) : (k0_t1_loop i).trips = (i 2).val := by
  have h : ∀ n : Fin 32, Scf.trips 0#32 (Scalar.addi 0#32 (Scalar.muli (Scalar.divsi (Scalar.subi (BitVec.ofNat 32 n.val) 0#32) 1#32) 1#32)) 1#32 = n.val := by
    decide
  exact h (i 2)

theorem trips2 (i : grid0.Coords) : (k0_t2_loop i).trips = 0 := by
  have h : ∀ n : Fin 32, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide
  exact h (i 2)

theorem toNat_small (n : Nat) (h : n < 32) : (BitVec.ofNat 32 n).toNat = n := by
  rw [BitVec.toNat_ofNat]; omega

theorem off1 (i : grid0.Coords) : k0_off1 i = ![0, (i 2).val, 0, 0] := by
  unfold k0_off1
  simp only [Scalar.indexCast]
  rw [show (BitVec.ofNat 32 (i 2).val).toNat = (i 2).val from toNat_small _ (i 2).isLt]

theorem loadK (v : View sig .tc .vmem S2x32x256x128 .bf16) (X : v.ty.Contents (Elt Ideal)) (off : Fin 4 → ℕ) (h : Fin 2) (n : Fin 32)
    (e : off = ![h.val, n.val, 0, 0]) (inb : ∀ a, off a + S1x1x256x128.size a ≤ S2x32x256x128.size a) :
    View.readAt (Elt Ideal) v (Rect.unit (s := S2x32x256x128) off S1x1x256x128.size inb).toLoadRect X = ldK (v.read (Elt Ideal) X) h n := by
  subst e
  funext x
  refine congrArg (v.read (Elt Ideal) X) (funext fun a => Fin.ext ?_)
  have h0 : (x 0).val < 1 := (x 0).isLt
  have h1 : (x 1).val < 1 := (x 1).isLt
  fin_cases a
  · show h.val + 1 * (x 0).val = h.val; omega
  · show n.val + 1 * (x 1).val = n.val; omega
  · show 0 + 1 * (x 2).val = (x 2).val; omega
  · show 0 + 1 * (x 3).val = (x 3).val; omega

theorem loadV (v : View sig .tc .vmem S32x128x256 .bf16) (X : v.ty.Contents (Elt Ideal)) (off : Fin 3 → ℕ) (h : Fin 2) (n : Fin 32)
    (e : off = ![n.val, 64 * h.val, 0]) (inb : ∀ a, off a + S1x64x256.size a ≤ S32x128x256.size a) :
    View.readAt (Elt Ideal) v (Rect.unit (s := S32x128x256) off S1x64x256.size inb).toLoadRect X = ldV (v.read (Elt Ideal) X) h n := by
  subst e
  funext x
  refine congrArg (v.read (Elt Ideal) X) (funext fun a => Fin.ext ?_)
  have h0 : (x 0).val < 1 := (x 0).isLt
  fin_cases a
  · show n.val + 1 * (x 0).val = n.val; omega
  · show 64 * h.val + 1 * (x 1).val = 64 * h.val + (x 1).val; omega
  · show 0 + 1 * (x 2).val = (x 2).val; omega

section Point

variable (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole)
  (wa wb : FVec Ideal S128x256 .bf16) (X8 : BufTy.Contents (Elt Ideal) arg8.view.ty) (X9 : BufTy.Contents (Elt Ideal) arg9.view.ty)

theorem trip_eq (k : Fin (k0_t1_loop i).trips) (n : Fin 32) (hn : n.val = k.val) (s : St) :
    (trip_k0_t1 (F := Ideal) Variants.none c none i arg3 harg3 arg4 harg4 arg5 harg5 arg6 harg6 arg7 harg7 arg8 harg8 arg9 harg9 wa wb X8 X9 k).1 s
      = stepSt (arg8.view.read (Elt Ideal) X8) (arg9.view.read (Elt Ideal) X9) wa wb n s := by
  have hiv : (Scf.iv 0#32 1#32 k.val).toNat = n.val := by
    rw [hn]
    have : k.val < (i 2).val := lt_of_lt_of_eq k.isLt (trips1 i)
    have h32 : k.val < 32 := lt_of_lt_of_le this (Nat.le_of_lt (i 2).isLt)
    have h : ∀ m : Fin 32, (Scf.iv 0#32 1#32 m.val).toNat = m.val := by decide
    exact h ⟨k.val, h32⟩
  have e5 : k0_off5 i k = ![(0 : Fin 2).val, n.val, 0, 0] := by
    unfold k0_off5; simp only [Scalar.indexCast]; rw [← hiv]; rfl
  have e6 : k0_off6 i k = ![n.val, 64 * (0 : Fin 2).val, 0] := by
    unfold k0_off6; simp only [Scalar.indexCast]; rw [← hiv]; rfl
  have e7 : k0_off7 i k = ![(1 : Fin 2).val, n.val, 0, 0] := by
    unfold k0_off7; simp only [Scalar.indexCast]; rw [← hiv]; rfl
  have e8 : k0_off8 i k = ![n.val, 64 * (1 : Fin 2).val, 0] := by
    unfold k0_off8; simp only [Scalar.indexCast]; rw [← hiv]; rfl
  unfold stepSt
  rw [← loadK arg8.view X8 _ 0 n e5 (k0_off5_inb i k), ← loadK arg8.view X8 _ 1 n e7 (k0_off7_inb i k),
    ← loadV arg9.view X9 _ 0 n e6 (k0_off6_inb i k), ← loadV arg9.view X9 _ 1 n e8 (k0_off8_inb i k)]
  unfold trip_k0_t1
  rfl

theorem st_eq (s0 : St) (h0 : s0 = initSt (arg8.view.read (Elt Ideal) X8) (arg9.view.read (Elt Ideal) X9) wa wb (qiOf i)) (k : ℕ) (hk : k ≤ (i 2).val) :
    st_k0_t1 (F := Ideal) Variants.none c none i arg3 harg3 arg4 harg4 arg5 harg5 arg6 harg6 arg7 harg7 arg8 harg8 arg9 harg9 wa wb X8 X9 s0 k
      = loopSt (arg8.view.read (Elt Ideal) X8) (arg9.view.read (Elt Ideal) X9) wa wb (qiOf i) k := by
  induction k with
  | zero => exact h0
  | succ k ih =>
    have hk' : k < (k0_t1_loop i).trips := by rw [trips1]; omega
    have h32 : k < 32 := lt_of_lt_of_le (Nat.lt_of_succ_le hk) (Nat.le_of_lt (i 2).isLt)
    rw [st_k0_t1_succ Variants.none c none i arg3 harg3 arg4 harg4 arg5 harg5 arg6 harg6 arg7 harg7 arg8 harg8 arg9 harg9 wa wb X8 X9 s0 ⟨k, hk'⟩, ih (by omega)]
    unfold tripR_k0_t1
    rw [trip_eq c i arg3 harg3 arg4 harg4 arg5 harg5 arg6 harg6 arg7 harg7 arg8 harg8 arg9 harg9 wa wb X8 X9 ⟨k, hk'⟩ ⟨k, h32⟩ rfl]
    rw [loopSt, dif_pos h32]

end Point

end Cert.Proof

end
-- ==== Proof.KScr.lean ====
module

public import proofs.«01_k».proof.Proof.KBlock
public import proofs.«01_k».proof.Proof.Gen.KernelIdeal.Frame
public import Idealize.ShloMosaic.Lib.VecWindow
public import Idealize.ShloMosaic.Lib.WritesUnit

/-!
# What the first point of a head pair leaves in the two scratch arrays

Each head's key rows beside a row of the identity, and the value rows transposed.
-/

@[expose] public section

set_option maxRecDepth 16384

noncomputable section

namespace Cert.Proof

open Cert.KernelIdeal Cert.KernelIdeal.Gen Idealize.ShloMosaic Idealize.ShloMosaic.TcCoe

theorem cmpi_eq_big (a b : Nat) (ha : a < 1000) (hb : b < 1000) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toNat h
    rw [BitVec.toNat_ofNat, BitVec.toNat_ofNat] at this
    omega
  · intro h; rw [h]

theorem toInt_big (a : Nat) (ha : a < 1000) : (BitVec.ofNat 32 a).toInt = a := by
  rw [BitVec.toInt_eq_toNat_cond, BitVec.toNat_ofNat]; split <;> omega

theorem cmpi_slt_big (a b : Nat) (ha : a < 1000) (hb : b < 1000) :
    IntOp.cmpi .slt (BitVec.ofNat 32 a) (BitVec.ofNat 32 b) = BitVec.ofBool (decide (a < b)) := by
  simp only [IntOp.cmpi, BitVec.slt_eq_decide, toInt_big a ha, toInt_big b hb, Nat.cast_lt]

theorem cmpi_sge_big (a b : Nat) (ha : a < 1000) (hb : b < 1000) :
    IntOp.cmpi .sge (BitVec.ofNat 32 a) (BitVec.ofNat 32 b) = BitVec.ofBool (decide (b ≤ a)) := by
  simp only [IntOp.cmpi, BitVec.sle_eq_decide, toInt_big a ha, toInt_big b hb, Nat.cast_le]

/-- Head 0's extended rows of block `N`. -/
def kp0 (N : ℕ) (rows : Vec Ideal S256x128 .bf16) : FVec Ideal S1x1x256x128 .bf16 :=
  shapeCast S1x1x256x128 (truncf .bf16 (select (cmpi .slt (iota .tc S256x128 32 [1] iota_S256x128_d1_w32) (broadcast S256x128 64#32))
    (extf .f32 rows bitsLt_bf16_f32)
    (select (cmpi .eq (iota .tc S256x128 32 [1] iota_S256x128_d1_w32) (broadcast S256x128 (BitVec.ofNat 32 (64 + N))))
      (broadcast S256x128 (Scalar.ofBits (F := Ideal) .f32 0x3F800000#32)) (broadcast S256x128 (Scalar.ofBits (F := Ideal) .f32 0x00000000#32)))) bitsLt_bf16_f32)
    shapeCasts_S256x128_S1x1x256x128

/-- Head 1's extended rows of block `N`. -/
def kp1 (N : ℕ) (rows : Vec Ideal S256x128 .bf16) : FVec Ideal S1x1x256x128 .bf16 :=
  shapeCast S1x1x256x128 (truncf .bf16 (select (cmpi .sge (iota .tc S256x128 32 [1] iota_S256x128_d1_w32) (broadcast S256x128 64#32))
    (extf .f32 rows bitsLt_bf16_f32)
    (select (cmpi .eq (iota .tc S256x128 32 [1] iota_S256x128_d1_w32) (broadcast S256x128 (BitVec.ofNat 32 N)))
      (broadcast S256x128 (Scalar.ofBits (F := Ideal) .f32 0x3F800000#32)) (broadcast S256x128 (Scalar.ofBits (F := Ideal) .f32 0x00000000#32)))) bitsLt_bf16_f32)
    shapeCasts_S256x128_S1x1x256x128

theorem kp0_apply (N : ℕ) (hN : N < 32) (rows : Vec Ideal S256x128 .bf16) (j : Fin 256) (l : Fin 128) :
    kp0 N rows (ix4 0 0 j l) = if l.val < 64 then rows (ix2 j l) else if l.val = 64 + N then 1 else 0 := by
  unfold kp0
  pointwise []
  rw [cmpi_slt_big _ _ (by omega) (by omega), select_ofBool, cmpi_eq_big _ _ (by omega) (by omega), select_ofBool]

theorem kp1_apply (N : ℕ) (hN : N < 32) (rows : Vec Ideal S256x128 .bf16) (j : Fin 256) (l : Fin 128) :
    kp1 N rows (ix4 0 0 j l) = if 64 ≤ l.val then rows (ix2 j l) else if l.val = N then 1 else 0 := by
  unfold kp1
  pointwise []
  rw [cmpi_sge_big _ _ (by omega) (by omega), select_ofBool, cmpi_eq_big _ _ (by omega) (by omega), select_ofBool]

theorem pay4_apply (rows : Vec Ideal S256x128 .bf16) (l : Fin 128) (j : Fin 256) :
    k0_pay4 rows (ix3 0 l j) = rows (ix2 j l) := by
  pointwise [k0_pay4]

/-- The 256 rows of block `N`. -/
def rowsOf (N : ℕ) (hN : N < 32) (x : Vec Ideal S8192x128 .bf16) : Vec Ideal S256x128 .bf16 :=
  fun y => x (ix2 (⟨256 * N + (y 0).val, by have : (y 0).val < 256 := (y 0).isLt; omega⟩ : Fin 8192) (y 1))

theorem rows_inb (N : ℕ) (hN : N < 32) : ∀ a, (![256 * N, 0] : Fin 2 → ℕ) a + S256x128.size a ≤ S8192x128.size a := by
  intro a
  fin_cases a
  · show 256 * N + 256 ≤ 8192; omega
  · show 0 + 128 ≤ 128; omega

theorem loadRows (m : Memref sig .tc .vmem S8192x128 .bf16) (hm : m.IsWhole) (x : Vec Ideal S8192x128 .bf16) (N : ℕ) (hN : N < 32) :
    View.readAt (Elt Ideal) m.view (Rect.unit (s := S8192x128) ![256 * N, 0] S256x128.size (rows_inb N hN)).toLoadRect (hm.unread x) = rowsOf N hN x := by
  funext y
  refine (congrFun (hm.read_unread x) _).trans (congrArg x (funext fun a => Fin.ext ?_))
  fin_cases a
  · show 256 * N + 1 * (y 0).val = 256 * N + (y 0).val; omega
  · show 0 + 1 * (y 1).val = (y 1).val; omega

/-- The extended key rows of the whole head pair. -/
def G0 (x : Vec Ideal S8192x128 .bf16) : Vec Ideal S2x32x256x128 .bf16 := fun y =>
  if (y 0).val = 0 then
    if (y 3).val < 64 then rowsOf (y 1).val (y 1).isLt x (ix2 (y 2) (y 3)) else if (y 3).val = 64 + (y 1).val then 1 else 0
  else
    if 64 ≤ (y 3).val then rowsOf (y 1).val (y 1).isLt x (ix2 (y 2) (y 3)) else if (y 3).val = (y 1).val then 1 else 0

/-- The transposed value rows of the whole head pair. -/
def G1 (x : Vec Ideal S8192x128 .bf16) : Vec Ideal S32x128x256 .bf16 := fun y =>
  rowsOf (y 0).val (y 0).isLt x (ix2 (y 2) (y 1))

section Steps

variable (m : Memref sig .tc .vmem S8192x128 .bf16) (hm : m.IsWhole) (x : Vec Ideal S8192x128 .bf16)

theorem stepK0 (v : View sig .tc .vmem S2x32x256x128 .bf16) (f : v.ty.Contents (Elt Ideal)) (N : ℕ) (hN : N < 32) (off : Fin 4 → ℕ) (hoff : off = ![0, N, 0, 0])
    (inb : ∀ a, off a + S1x1x256x128.size a ≤ S2x32x256x128.size a) (w : Vec Ideal S1x1x256x128 .bf16)
    (L : List (View.Piece (Elt Ideal) S2x32x256x128 .bf16))
    (hw : w = kp0 N (View.readAt (Elt Ideal) m.view (Rect.unit (s := S8192x128) ![256 * N, 0] S256x128.size (rows_inb N hN)).toLoadRect (hm.unread x)))
    (hL : ∀ y : S2x32x256x128.Idx, 2 * (y 1).val + (y 0).val < 2 * N → v.read (Elt Ideal) (v.writes (Elt Ideal) f L) y = G0 x y) :
    ∀ y : S2x32x256x128.Idx, 2 * (y 1).val + (y 0).val < 2 * N + 1 →
      v.read (Elt Ideal) (v.writes (Elt Ideal) f ((⟨Rect.unit (s := S2x32x256x128) off S1x1x256x128.size inb, w⟩ : View.Piece (Elt Ideal) S2x32x256x128 .bf16) :: L)) y = G0 x y := by
  intro y hy
  have h0 : (y 0).val < 2 := (y 0).isLt
  by_cases h : (y 0).val = 0 ∧ (y 1).val = N
  · refine (View.read_writes_cons_unit_of_mem v f inb w L y (ix4 (0 : Fin 1) (0 : Fin 1) (y 2) (y 3)) hoff ?_).trans ?_
    · intro a
      fin_cases a
      · show (y 0).val = 0 + 0; omega
      · show (y 1).val = N + 0; omega
      · show (y 2).val = 0 + (y 2).val; omega
      · show (y 3).val = 0 + (y 3).val; omega
    · rw [hw, loadRows m hm x N hN]
      refine (kp0_apply N hN _ (y 2) (y 3)).trans ?_
      obtain ⟨ha, rfl⟩ := h
      unfold G0
      rw [if_pos ha]
  · rw [not_and_or] at h
    obtain h | h := h
    · refine (View.read_writes_cons_unit_of_not_mem v f inb w L y hoff 0 (Or.inr ?_)).trans (hL y (by omega))
      show 0 + 1 ≤ (y 0).val; omega
    · refine (View.read_writes_cons_unit_of_not_mem v f inb w L y hoff 1 (Or.inl ?_)).trans (hL y (by omega))
      show (y 1).val < N; omega

theorem stepK1 (v : View sig .tc .vmem S2x32x256x128 .bf16) (f : v.ty.Contents (Elt Ideal)) (N : ℕ) (hN : N < 32) (off : Fin 4 → ℕ) (hoff : off = ![1, N, 0, 0])
    (inb : ∀ a, off a + S1x1x256x128.size a ≤ S2x32x256x128.size a) (w : Vec Ideal S1x1x256x128 .bf16)
    (L : List (View.Piece (Elt Ideal) S2x32x256x128 .bf16))
    (hw : w = kp1 N (View.readAt (Elt Ideal) m.view (Rect.unit (s := S8192x128) ![256 * N, 0] S256x128.size (rows_inb N hN)).toLoadRect (hm.unread x)))
    (hL : ∀ y : S2x32x256x128.Idx, 2 * (y 1).val + (y 0).val < 2 * N + 1 → v.read (Elt Ideal) (v.writes (Elt Ideal) f L) y = G0 x y) :
    ∀ y : S2x32x256x128.Idx, 2 * (y 1).val + (y 0).val < 2 * (N + 1) →
      v.read (Elt Ideal) (v.writes (Elt Ideal) f ((⟨Rect.unit (s := S2x32x256x128) off S1x1x256x128.size inb, w⟩ : View.Piece (Elt Ideal) S2x32x256x128 .bf16) :: L)) y = G0 x y := by
  intro y hy
  have h0 : (y 0).val < 2 := (y 0).isLt
  by_cases h : (y 0).val = 1 ∧ (y 1).val = N
  · refine (View.read_writes_cons_unit_of_mem v f inb w L y (ix4 (0 : Fin 1) (0 : Fin 1) (y 2) (y 3)) hoff ?_).trans ?_
    · intro a
      fin_cases a
      · show (y 0).val = 1 + 0; omega
      · show (y 1).val = N + 0; omega
      · show (y 2).val = 0 + (y 2).val; omega
      · show (y 3).val = 0 + (y 3).val; omega
    · rw [hw, loadRows m hm x N hN]
      refine (kp1_apply N hN _ (y 2) (y 3)).trans ?_
      obtain ⟨ha, rfl⟩ := h
      unfold G0
      rw [if_neg (show ¬ (y 0).val = 0 by omega)]
  · rw [not_and_or] at h
    obtain h | h := h
    · refine (View.read_writes_cons_unit_of_not_mem v f inb w L y hoff 0 (Or.inl ?_)).trans (hL y (by omega))
      show (y 0).val < 1; omega
    · refine (View.read_writes_cons_unit_of_not_mem v f inb w L y hoff 1 (Or.inl ?_)).trans (hL y (by omega))
      show (y 1).val < N; omega

theorem stepV (v : View sig .tc .vmem S32x128x256 .bf16) (f : v.ty.Contents (Elt Ideal)) (N : ℕ) (hN : N < 32) (off : Fin 3 → ℕ) (hoff : off = ![N, 0, 0])
    (inb : ∀ a, off a + S1x128x256.size a ≤ S32x128x256.size a) (w : Vec Ideal S1x128x256 .bf16)
    (L : List (View.Piece (Elt Ideal) S32x128x256 .bf16))
    (hw : w = k0_pay4 (View.readAt (Elt Ideal) m.view (Rect.unit (s := S8192x128) ![256 * N, 0] S256x128.size (rows_inb N hN)).toLoadRect (hm.unread x)))
    (hL : ∀ y : S32x128x256.Idx, (y 0).val < N → v.read (Elt Ideal) (v.writes (Elt Ideal) f L) y = G1 x y) :
    ∀ y : S32x128x256.Idx, (y 0).val < N + 1 →
      v.read (Elt Ideal) (v.writes (Elt Ideal) f ((⟨Rect.unit (s := S32x128x256) off S1x128x256.size inb, w⟩ : View.Piece (Elt Ideal) S32x128x256 .bf16) :: L)) y = G1 x y := by
  intro y hy
  by_cases h : (y 0).val = N
  · refine (View.read_writes_cons_unit_of_mem v f inb w L y (ix3 (0 : Fin 1) (y 1) (y 2)) hoff ?_).trans ?_
    · intro a
      fin_cases a
      · show (y 0).val = N + 0; omega
      · show (y 1).val = 0 + (y 1).val; omega
      · show (y 2).val = 0 + (y 2).val; omega
    · rw [hw, loadRows m hm x N hN]
      refine (pay4_apply _ (y 1) (y 2)).trans ?_
      subst h
      rfl
  · refine (View.read_writes_cons_unit_of_not_mem v f inb w L y hoff 0 (Or.inl ?_)).trans (hL y (by omega))
    show (y 0).val < N; omega

end Steps

set_option maxHeartbeats 2000000 in
theorem scrK (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : cond0_0 i)
    (x0 : Vec Ideal S256x128 .f32) (x1 : Vec Ideal S8192x128 .bf16) (x2 : Vec Ideal S8192x128 .bf16) (x3 : Vec Ideal S1x64x128 .f32) (v : View sig .tc .vmem S2x32x256x128 .bf16) (f : v.ty.Contents (Elt Ideal)) :
    v.read (Elt Ideal) (v.writes (Elt Ideal) f (kernelRun0_A.sl.HS0_64 c arg4 harg4 x1)) = G0 x1 := by
  have h : ∀ y : S2x32x256x128.Idx, 2 * (y 1).val + (y 0).val < 2 * (31 + 1) →
      v.read (Elt Ideal) (v.writes (Elt Ideal) f (kernelRun0_A.sl.HS0_64 c arg4 harg4 x1)) y = G0 x1 y := by
    unfold kernelRun0_A.sl.HS0_64
    refine stepK1 arg4 harg4 x1 v f 31 (by omega) _ rfl _ _ _ rfl ?_
    refine stepK0 arg4 harg4 x1 v f 31 (by omega) _ rfl _ _ _ rfl ?_
    refine stepK1 arg4 harg4 x1 v f 30 (by omega) _ rfl _ _ _ rfl ?_
    refine stepK0 arg4 harg4 x1 v f 30 (by omega) _ rfl _ _ _ rfl ?_
    refine stepK1 arg4 harg4 x1 v f 29 (by omega) _ rfl _ _ _ rfl ?_
    refine stepK0 arg4 harg4 x1 v f 29 (by omega) _ rfl _ _ _ rfl ?_
    refine stepK1 arg4 harg4 x1 v f 28 (by omega) _ rfl _ _ _ rfl ?_
    refine stepK0 arg4 harg4 x1 v f 28 (by omega) _ rfl _ _ _ rfl ?_
    refine stepK1 arg4 harg4 x1 v f 27 (by omega) _ rfl _ _ _ rfl ?_
    refine stepK0 arg4 harg4 x1 v f 27 (by omega) _ rfl _ _ _ rfl ?_
    refine stepK1 arg4 harg4 x1 v f 26 (by omega) _ rfl _ _ _ rfl ?_
    refine stepK0 arg4 harg4 x1 v f 26 (by omega) _ rfl _ _ _ rfl ?_
    refine stepK1 arg4 harg4 x1 v f 25 (by omega) _ rfl _ _ _ rfl ?_
    refine stepK0 arg4 harg4 x1 v f 25 (by omega) _ rfl _ _ _ rfl ?_
    refine stepK1 arg4 harg4 x1 v f 24 (by omega) _ rfl _ _ _ rfl ?_
    refine stepK0 arg4 harg4 x1 v f 24 (by omega) _ rfl _ _ _ rfl ?_
    refine stepK1 arg4 harg4 x1 v f 23 (by omega) _ rfl _ _ _ rfl ?_
    refine stepK0 arg4 harg4 x1 v f 23 (by omega) _ rfl _ _ _ rfl ?_
    refine stepK1 arg4 harg4 x1 v f 22 (by omega) _ rfl _ _ _ rfl ?_
    refine stepK0 arg4 harg4 x1 v f 22 (by omega) _ rfl _ _ _ rfl ?_
    refine stepK1 arg4 harg4 x1 v f 21 (by omega) _ rfl _ _ _ rfl ?_
    refine stepK0 arg4 harg4 x1 v f 21 (by omega) _ rfl _ _ _ rfl ?_
    refine stepK1 arg4 harg4 x1 v f 20 (by omega) _ rfl _ _ _ rfl ?_
    refine stepK0 arg4 harg4 x1 v f 20 (by omega) _ rfl _ _ _ rfl ?_
    refine stepK1 arg4 harg4 x1 v f 19 (by omega) _ rfl _ _ _ rfl ?_
    refine stepK0 arg4 harg4 x1 v f 19 (by omega) _ rfl _ _ _ rfl ?_
    refine stepK1 arg4 harg4 x1 v f 18 (by omega) _ rfl _ _ _ rfl ?_
    refine stepK0 arg4 harg4 x1 v f 18 (by omega) _ rfl _ _ _ rfl ?_
    refine stepK1 arg4 harg4 x1 v f 17 (by omega) _ rfl _ _ _ rfl ?_
    refine stepK0 arg4 harg4 x1 v f 17 (by omega) _ rfl _ _ _ rfl ?_
    refine stepK1 arg4 harg4 x1 v f 16 (by omega) _ rfl _ _ _ rfl ?_
    refine stepK0 arg4 harg4 x1 v f 16 (by omega) _ rfl _ _ _ rfl ?_
    refine stepK1 arg4 harg4 x1 v f 15 (by omega) _ rfl _ _ _ rfl ?_
    refine stepK0 arg4 harg4 x1 v f 15 (by omega) _ rfl _ _ _ rfl ?_
    refine stepK1 arg4 harg4 x1 v f 14 (by omega) _ rfl _ _ _ rfl ?_
    refine stepK0 arg4 harg4 x1 v f 14 (by omega) _ rfl _ _ _ rfl ?_
    refine stepK1 arg4 harg4 x1 v f 13 (by omega) _ rfl _ _ _ rfl ?_
    refine stepK0 arg4 harg4 x1 v f 13 (by omega) _ rfl _ _ _ rfl ?_
    refine stepK1 arg4 harg4 x1 v f 12 (by omega) _ rfl _ _ _ rfl ?_
    refine stepK0 arg4 harg4 x1 v f 12 (by omega) _ rfl _ _ _ rfl ?_
    refine stepK1 arg4 harg4 x1 v f 11 (by omega) _ rfl _ _ _ rfl ?_
    refine stepK0 arg4 harg4 x1 v f 11 (by omega) _ rfl _ _ _ rfl ?_
    refine stepK1 arg4 harg4 x1 v f 10 (by omega) _ rfl _ _ _ rfl ?_
    refine stepK0 arg4 harg4 x1 v f 10 (by omega) _ rfl _ _ _ rfl ?_
    refine stepK1 arg4 harg4 x1 v f 9 (by omega) _ rfl _ _ _ rfl ?_
    refine stepK0 arg4 harg4 x1 v f 9 (by omega) _ rfl _ _ _ rfl ?_
    refine stepK1 arg4 harg4 x1 v f 8 (by omega) _ rfl _ _ _ rfl ?_
    refine stepK0 arg4 harg4 x1 v f 8 (by omega) _ rfl _ _ _ rfl ?_
    refine stepK1 arg4 harg4 x1 v f 7 (by omega) _ rfl _ _ _ rfl ?_
    refine stepK0 arg4 harg4 x1 v f 7 (by omega) _ rfl _ _ _ rfl ?_
    refine stepK1 arg4 harg4 x1 v f 6 (by omega) _ rfl _ _ _ rfl ?_
    refine stepK0 arg4 harg4 x1 v f 6 (by omega) _ rfl _ _ _ rfl ?_
    refine stepK1 arg4 harg4 x1 v f 5 (by omega) _ rfl _ _ _ rfl ?_
    refine stepK0 arg4 harg4 x1 v f 5 (by omega) _ rfl _ _ _ rfl ?_
    refine stepK1 arg4 harg4 x1 v f 4 (by omega) _ rfl _ _ _ rfl ?_
    refine stepK0 arg4 harg4 x1 v f 4 (by omega) _ rfl _ _ _ rfl ?_
    refine stepK1 arg4 harg4 x1 v f 3 (by omega) _ rfl _ _ _ rfl ?_
    refine stepK0 arg4 harg4 x1 v f 3 (by omega) _ rfl _ _ _ rfl ?_
    refine stepK1 arg4 harg4 x1 v f 2 (by omega) _ rfl _ _ _ rfl ?_
    refine stepK0 arg4 harg4 x1 v f 2 (by omega) _ rfl _ _ _ rfl ?_
    refine stepK1 arg4 harg4 x1 v f 1 (by omega) _ rfl _ _ _ rfl ?_
    refine stepK0 arg4 harg4 x1 v f 1 (by omega) _ rfl _ _ _ rfl ?_
    refine stepK1 arg4 harg4 x1 v f 0 (by omega) _ rfl _ _ _ rfl ?_
    refine stepK0 arg4 harg4 x1 v f 0 (by omega) _ rfl _ _ _ rfl ?_
    intro y hy
    omega
  funext y
  refine h y ?_
  have h0 : (y 0).val < 2 := (y 0).isLt
  have h1 : (y 1).val < 32 := (y 1).isLt
  omega

set_option maxHeartbeats 2000000 in
theorem scrV (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : cond0_0 i)
    (x0 : Vec Ideal S256x128 .f32) (x1 : Vec Ideal S8192x128 .bf16) (x2 : Vec Ideal S8192x128 .bf16) (x3 : Vec Ideal S1x64x128 .f32) (v : View sig .tc .vmem S32x128x256 .bf16) (f : v.ty.Contents (Elt Ideal)) :
    v.read (Elt Ideal) (v.writes (Elt Ideal) f (kernelRun0_A.sl.HS1_32 c arg5 harg5 x2)) = G1 x2 := by
  have h : ∀ y : S32x128x256.Idx, (y 0).val < 31 + 1 →
      v.read (Elt Ideal) (v.writes (Elt Ideal) f (kernelRun0_A.sl.HS1_32 c arg5 harg5 x2)) y = G1 x2 y := by
    unfold kernelRun0_A.sl.HS1_32
    refine stepV arg5 harg5 x2 v f 31 (by omega) _ rfl _ _ _ rfl ?_
    refine stepV arg5 harg5 x2 v f 30 (by omega) _ rfl _ _ _ rfl ?_
    refine stepV arg5 harg5 x2 v f 29 (by omega) _ rfl _ _ _ rfl ?_
    refine stepV arg5 harg5 x2 v f 28 (by omega) _ rfl _ _ _ rfl ?_
    refine stepV arg5 harg5 x2 v f 27 (by omega) _ rfl _ _ _ rfl ?_
    refine stepV arg5 harg5 x2 v f 26 (by omega) _ rfl _ _ _ rfl ?_
    refine stepV arg5 harg5 x2 v f 25 (by omega) _ rfl _ _ _ rfl ?_
    refine stepV arg5 harg5 x2 v f 24 (by omega) _ rfl _ _ _ rfl ?_
    refine stepV arg5 harg5 x2 v f 23 (by omega) _ rfl _ _ _ rfl ?_
    refine stepV arg5 harg5 x2 v f 22 (by omega) _ rfl _ _ _ rfl ?_
    refine stepV arg5 harg5 x2 v f 21 (by omega) _ rfl _ _ _ rfl ?_
    refine stepV arg5 harg5 x2 v f 20 (by omega) _ rfl _ _ _ rfl ?_
    refine stepV arg5 harg5 x2 v f 19 (by omega) _ rfl _ _ _ rfl ?_
    refine stepV arg5 harg5 x2 v f 18 (by omega) _ rfl _ _ _ rfl ?_
    refine stepV arg5 harg5 x2 v f 17 (by omega) _ rfl _ _ _ rfl ?_
    refine stepV arg5 harg5 x2 v f 16 (by omega) _ rfl _ _ _ rfl ?_
    refine stepV arg5 harg5 x2 v f 15 (by omega) _ rfl _ _ _ rfl ?_
    refine stepV arg5 harg5 x2 v f 14 (by omega) _ rfl _ _ _ rfl ?_
    refine stepV arg5 harg5 x2 v f 13 (by omega) _ rfl _ _ _ rfl ?_
    refine stepV arg5 harg5 x2 v f 12 (by omega) _ rfl _ _ _ rfl ?_
    refine stepV arg5 harg5 x2 v f 11 (by omega) _ rfl _ _ _ rfl ?_
    refine stepV arg5 harg5 x2 v f 10 (by omega) _ rfl _ _ _ rfl ?_
    refine stepV arg5 harg5 x2 v f 9 (by omega) _ rfl _ _ _ rfl ?_
    refine stepV arg5 harg5 x2 v f 8 (by omega) _ rfl _ _ _ rfl ?_
    refine stepV arg5 harg5 x2 v f 7 (by omega) _ rfl _ _ _ rfl ?_
    refine stepV arg5 harg5 x2 v f 6 (by omega) _ rfl _ _ _ rfl ?_
    refine stepV arg5 harg5 x2 v f 5 (by omega) _ rfl _ _ _ rfl ?_
    refine stepV arg5 harg5 x2 v f 4 (by omega) _ rfl _ _ _ rfl ?_
    refine stepV arg5 harg5 x2 v f 3 (by omega) _ rfl _ _ _ rfl ?_
    refine stepV arg5 harg5 x2 v f 2 (by omega) _ rfl _ _ _ rfl ?_
    refine stepV arg5 harg5 x2 v f 1 (by omega) _ rfl _ _ _ rfl ?_
    refine stepV arg5 harg5 x2 v f 0 (by omega) _ rfl _ _ _ rfl ?_
    intro y hy
    omega
  funext y
  refine h y ?_
  have h0 : (y 0).val < 32 := (y 0).isLt
  omega

end Cert.Proof

end
-- ==== Proof.KOut.lean ====
module

public import proofs.«01_k».proof.Proof.KBlock
public import proofs.«01_k».proof.Proof.Gen.KernelIdeal.Frame
public import Idealize.ShloMosaic.Lib.VecWindow
public import Idealize.ShloMosaic.Lib.WritesUnit

/-!
# What one grid point leaves in its output block

The stored block of either case is the loop's result on what the scratch arrays read.
-/

@[expose] public section

set_option maxRecDepth 16384

noncomputable section

namespace Cert.Proof

open Cert.KernelIdeal Cert.KernelIdeal.Gen Idealize.ShloMosaic Idealize.ShloMosaic.TcCoe

theorem loadQ (arg3 : Memref sig .tc .vmem S256x128 .f32) (harg3 : arg3.IsWhole) (x0 : Vec Ideal S256x128 .f32) :
    View.readAt (Elt Ideal) arg3.view (Rect.unit ![0, 0] S256x128.size inb_S256x128_S256x128_0_0).toLoadRect (harg3.unread x0) = x0 :=
  (View.readAt_full _ _ _).trans (harg3.read_unread x0)

theorem loadM (arg6 : Memref sig .tc .vmem S1x64x128 .f32) (harg6 : arg6.IsWhole) (x3 : Vec Ideal S1x64x128 .f32) :
    View.readAt (Elt Ideal) arg6.view (Rect.unit ![0, 0, 0] S1x64x128.size inb_S1x64x128_S1x64x128_0_0_0).toLoadRect (harg6.unread x3) = x3 :=
  (View.readAt_full _ _ _).trans (harg6.read_unread x3)

section Point

variable (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole)

theorem init_eq (wa wb : FVec Ideal S128x256 .bf16) (X8 : BufTy.Contents (Elt Ideal) arg8.view.ty) (X9 : BufTy.Contents (Elt Ideal) arg9.view.ty)
    (b1 b2 : IVec S256x256 32) (e1 : b1 = iota .tc S256x256 32 [0] iota_S256x256_d0_w32) (e2 : b2 = iota .tc S256x256 32 [1] iota_S256x256_d1_w32) :
    (k0_pay205 wa (View.readAt (Elt Ideal) arg8.view (Rect.unit (s := S2x32x256x128) (k0_off1 i) S1x1x256x128.size (k0_off1_inb i)).toLoadRect X8),
     k0_pay207 wa (View.readAt (Elt Ideal) arg8.view (Rect.unit (s := S2x32x256x128) (k0_off1 i) S1x1x256x128.size (k0_off1_inb i)).toLoadRect X8),
     k0_pay208 (k0_pay206 wa (View.readAt (Elt Ideal) arg8.view (Rect.unit (s := S2x32x256x128) (k0_off1 i) S1x1x256x128.size (k0_off1_inb i)).toLoadRect X8))
       (View.readAt (Elt Ideal) arg9.view (Rect.unit (s := S32x128x256) (k0_off2 i) S1x64x256.size (k0_off2_inb i)).toLoadRect X9),
     k0_pay210 wb b1 b2 (View.readAt (Elt Ideal) arg8.view (Rect.unit (s := S2x32x256x128) (k0_off3 i) S1x1x256x128.size (k0_off3_inb i)).toLoadRect X8),
     k0_pay212 wb b1 b2 (View.readAt (Elt Ideal) arg8.view (Rect.unit (s := S2x32x256x128) (k0_off3 i) S1x1x256x128.size (k0_off3_inb i)).toLoadRect X8),
     k0_pay213 wb b1 b2 (View.readAt (Elt Ideal) arg8.view (Rect.unit (s := S2x32x256x128) (k0_off3 i) S1x1x256x128.size (k0_off3_inb i)).toLoadRect X8)
       (View.readAt (Elt Ideal) arg9.view (Rect.unit (s := S32x128x256) (k0_off4 i) S1x64x256.size (k0_off4_inb i)).toLoadRect X9))
      = initSt (arg8.view.read (Elt Ideal) X8) (arg9.view.read (Elt Ideal) X9) wa wb (qiOf i) := by
  have hq : (BitVec.ofNat 32 (i 2).val).toNat = (i 2).val := toNat_small _ (i 2).isLt
  have e1' : k0_off1 i = ![(0 : Fin 2).val, (qiOf i).val, 0, 0] := by
    unfold k0_off1; simp only [Scalar.indexCast]; rw [hq]; rfl
  have e2' : k0_off2 i = ![(qiOf i).val, 64 * (0 : Fin 2).val, 0] := by
    unfold k0_off2; simp only [Scalar.indexCast]; rw [hq]; rfl
  have e3' : k0_off3 i = ![(1 : Fin 2).val, (qiOf i).val, 0, 0] := by
    unfold k0_off3; simp only [Scalar.indexCast]; rw [hq]; rfl
  have e4' : k0_off4 i = ![(qiOf i).val, 64 * (1 : Fin 2).val, 0] := by
    unfold k0_off4; simp only [Scalar.indexCast]; rw [hq]; rfl
  rw [loadK arg8.view X8 _ 0 (qiOf i) e1', loadK arg8.view X8 _ 1 (qiOf i) e3',
    loadV arg9.view X9 _ 0 (qiOf i) e2', loadV arg9.view X9 _ 1 (qiOf i) e4', e1, e2]
  rfl

theorem finish (wa wb : FVec Ideal S128x256 .bf16) (X8 : BufTy.Contents (Elt Ideal) arg8.view.ty) (X9 : BufTy.Contents (Elt Ideal) arg9.view.ty)
    (s0 : St) (h0 : s0 = initSt (arg8.view.read (Elt Ideal) X8) (arg9.view.read (Elt Ideal) X9) wa wb (qiOf i))
    (s1 : St) (h1 : s1 = st_k0_t1 (F := Ideal) Variants.none c none i arg3 harg3 arg4 harg4 arg5 harg5 arg6 harg6 arg7 harg7 arg8 harg8 arg9 harg9 wa wb X8 X9 s0 (k0_t1_loop i).trips)
    (z : BitVec 32) (s2 : St) (h2 : s2 = st_k0_t2 (F := Ideal) Variants.none c none i arg3 harg3 arg4 harg4 arg5 harg5 arg6 harg6 arg7 harg7 arg8 harg8 arg9 harg9 wa wb z X8 X9 s1 (k0_t2_loop i).trips) :
    k0_pay216 s2.2.1 s2.2.2.1 s2.2.2.2.2.1 s2.2.2.2.2.2
      = outV (arg8.view.read (Elt Ideal) X8) (arg9.view.read (Elt Ideal) X9) wa wb (qiOf i) := by
  rw [trips2, st_k0_t2_zero] at h2
  rw [trips1, st_eq c i arg3 harg3 arg4 harg4 arg5 harg5 arg6 harg6 arg7 harg7 arg8 harg8 arg9 harg9 wa wb X8 X9 s0 h0 _ le_rfl] at h1
  rw [h2, h1]
  rfl

end Point

theorem outB (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : ¬cond0_0 i)
    (x0 : Vec Ideal S256x128 .f32) (x1 : Vec Ideal S8192x128 .bf16) (x2 : Vec Ideal S8192x128 .bf16) (x3 : Vec Ideal S1x64x128 .f32) (xs0 : Vec Ideal S2x32x256x128 .bf16) (xs1 : Vec Ideal S32x128x256 .bf16) :
    out0_B_4 c i arg3 harg3 arg4 harg4 arg5 harg5 arg6 harg6 arg7 harg7 arg8 harg8 arg9 harg9 hc0 x0 x1 x2 x3 xs0 xs1 = outV xs0 xs1 (w0 i x0 x3) (w1 i x0 x3) (qiOf i) := by
  have ea : kernelRun0_B.sl.r_4 (F := Ideal) c i arg3 harg3 arg6 harg6 x0 x3 = w0 i x0 x3 := by
    unfold kernelRun0_B.sl.r_4 kernelRun0_B.sl.r_3 kernelRun0_B.sl.r_2 kernelRun0_B.sl.r
    rw [loadQ, loadM]
    rfl
  have eb : kernelRun0_B.sl.r_8 (F := Ideal) c i arg3 harg3 arg6 harg6 x0 x3 = w1 i x0 x3 := by
    unfold kernelRun0_B.sl.r_8 kernelRun0_B.sl.r_7 kernelRun0_B.sl.r_6 kernelRun0_B.sl.r_5 kernelRun0_B.sl.r_1 kernelRun0_B.sl.r
    rw [loadQ, loadM]
    rfl
  unfold out0_B_4 kernelRun0_B
  refine (View.read_writes_full _ _ _ _ _).trans ?_
  rw [← ea, ← eb]
  refine (finish c i arg3 harg3 arg4 harg4 arg5 harg5 arg6 harg6 arg7 harg7 arg8 harg8 arg9 harg9 _ _ (harg8.unread xs0) (harg9.unread xs1) _
    (init_eq i arg8 arg9 _ _ _ _ kernelRun0_B.sl.v151 kernelRun0_B.sl.v152 rfl rfl) _ rfl _ _ rfl).trans ?_
  rw [harg8.read_unread, harg9.read_unread]

theorem outA (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : cond0_0 i)
    (x0 : Vec Ideal S256x128 .f32) (x1 : Vec Ideal S8192x128 .bf16) (x2 : Vec Ideal S8192x128 .bf16) (x3 : Vec Ideal S1x64x128 .f32) :
    out0_A_4 c i arg3 harg3 arg4 harg4 arg5 harg5 arg6 harg6 arg7 harg7 arg8 harg8 arg9 harg9 hc0 x0 x1 x2 x3
      = outV (arg8.view.read (Elt Ideal) (arg8.view.writes (Elt Ideal) arg8.view.junk (kernelRun0_A.sl.HS0_64 c arg4 harg4 x1)))
          (arg9.view.read (Elt Ideal) (arg9.view.writes (Elt Ideal) arg9.view.junk (kernelRun0_A.sl.HS1_32 c arg5 harg5 x2))) (w0 i x0 x3) (w1 i x0 x3) (qiOf i) := by
  have ea : kernelRun0_A.sl.r_6 (F := Ideal) c i arg3 harg3 arg6 harg6 x0 x3 = w0 i x0 x3 := by
    unfold kernelRun0_A.sl.r_6 kernelRun0_A.sl.r_5 kernelRun0_A.sl.r_4 kernelRun0_A.sl.r_2
    rw [loadQ, loadM]
    rfl
  have eb : kernelRun0_A.sl.r_10 (F := Ideal) c i arg3 harg3 arg6 harg6 x0 x3 = w1 i x0 x3 := by
    unfold kernelRun0_A.sl.r_10 kernelRun0_A.sl.r_9 kernelRun0_A.sl.r_8 kernelRun0_A.sl.r_7 kernelRun0_A.sl.r_3 kernelRun0_A.sl.r_2
    rw [loadQ, loadM]
    rfl
  unfold out0_A_4 kernelRun0_A
  refine (View.read_writes_full _ _ _ _ _).trans ?_
  rw [← ea, ← eb]
  exact finish c i arg3 harg3 arg4 harg4 arg5 harg5 arg6 harg6 arg7 harg7 arg8 harg8 arg9 harg9 _ _ _ _ _
    (init_eq i arg8 arg9 _ _ _ _ kernelRun0_A.sl.v151 kernelRun0_A.sl.v152 rfl rfl) _ rfl _ _ rfl

end Cert.Proof

end
-- ==== Proof.KVal.lean ====
module

public import proofs.«01_k».proof.Proof.KBlock
public import proofs.«01_k».proof.Proof.KScr
public import proofs.«01_k».proof.Proof.KOut
public import Idealize.ShloMosaic.Lib.VecWindow
public import Idealize.ShloMosaic.Lib.WritesUnit

/-!
# The value of one output block

After the loop each column holds the softmax-weighted values of the chosen blocks and the own block.
-/

@[expose] public section

set_option maxRecDepth 16384

noncomputable section

namespace Cert.Proof

open Cert.KernelIdeal Cert.KernelIdeal.Gen Idealize.ShloMosaic Idealize.ShloMosaic.TcCoe

/-- The block at place `r` of a choice: its three blocks, then the own block. -/
def slB (qi : Fin 32) (σ : Fin 3 → Fin 32) (r : Fin 4) : Fin 32 := if h : r.val < 3 then σ ⟨r.val, h⟩ else qi

theorem slB_last (qi : Fin 32) (σ : Fin 3 → Fin 32) : slB qi σ (Fin.last 3) = qi := dif_neg (by decide)

theorem slB_castSucc (qi : Fin 32) (σ : Fin 3 → Fin 32) (r : Fin 3) : slB qi σ r.castSucc = σ r := dif_pos r.isLt

/-- The block read at place `r`: the three best earlier blocks, then the own block. -/
def slotB (qi : Fin 32) (s : Fin 32 → EReal) (r : Fin 4) : Fin 32 :=
  slB qi (topAt s) r

/-- The rows of block `n`. -/
def Kn (K : Fin 8192 → Fin 128 → ℝ) (n : Fin 32) (j : Fin 256) (l : Fin 128) : ℝ := K ⟨256 * n.val + j.val, by omega⟩ l

/-- The masked logit at place `r`, row `j`. -/
def slotL (q : Fin 256 → Fin 128 → ℝ) (K : Fin 8192 → Fin 128 → ℝ) (qi : Fin 32) (s : Fin 32 → EReal) (h : Fin 2) (c : Fin 256) (r : Fin 4) (j : Fin 256) : EReal :=
  if (r.val < 3 ∧ r.val < qi.val) ∨ (r.val = 3 ∧ j.val ≤ c.val) then ((lgt q (Kn K (slotB qi s r)) h c j : ℝ) : EReal) else ⊥

/-- The softmax's denominator, without its shift. -/
def attW (q : Fin 256 → Fin 128 → ℝ) (K : Fin 8192 → Fin 128 → ℝ) (qi : Fin 32) (s : Fin 32 → EReal) (h : Fin 2) (c : Fin 256) : ℝ :=
  ∑ r : Fin 4, ∑ j : Fin 256, eexp (slotL q K qi s h c r j)

/-- The numerator at lane `d`. -/
def attA (q : Fin 256 → Fin 128 → ℝ) (K : Fin 8192 → Fin 128 → ℝ) (V : Fin 8192 → Fin 128 → EReal) (qi : Fin 32) (s : Fin 32 → EReal) (h : Fin 2) (c : Fin 256) (d : Fin 64) : EReal :=
  ∑ r : Fin 4, ∑ j : Fin 256, V ⟨256 * (slotB qi s r).val + j.val, by omega⟩ (lane h d) * ((eexp (slotL q K qi s h c r j) : ℝ) : EReal)

/-- One head's maximum, sum and accumulator before block `k`. -/
def hd (w : FVec Ideal S128x256 .bf16) (ks : Fin 32 → Vec Ideal S1x1x256x128 .bf16) (vs : Fin 32 → Vec Ideal S1x64x256 .bf16) (qi : Fin 32) :
    ℕ → FVec Ideal S1x256 .f32 × FVec Ideal S1x256 .f32 × FVec Ideal S64x256 .f32
  | 0 => (k0_pay205 w (ks qi), k0_pay207 w (ks qi), k0_pay208 (k0_pay206 w (ks qi)) (vs qi))
  | k + 1 => if h : k < 32 then
      (k0_pay162 w (hd w ks vs qi k).1 (ks ⟨k, h⟩), k0_pay165 w (hd w ks vs qi k).1 (hd w ks vs qi k).2.1 (ks ⟨k, h⟩),
        k0_pay166 w (hd w ks vs qi k).1 (hd w ks vs qi k).2.2 (ks ⟨k, h⟩) (vs ⟨k, h⟩))
    else hd w ks vs qi k

theorem hd_zero (w : FVec Ideal S128x256 .bf16) (ks : Fin 32 → Vec Ideal S1x1x256x128 .bf16) (vs : Fin 32 → Vec Ideal S1x64x256 .bf16) (qi : Fin 32) :
    hd w ks vs qi 0 = (k0_pay205 w (ks qi), k0_pay207 w (ks qi), k0_pay208 (k0_pay206 w (ks qi)) (vs qi)) := by
  rw [hd]

theorem loopSt_zero (S0 : Vec Ideal S2x32x256x128 .bf16) (S1 : Vec Ideal S32x128x256 .bf16) (wa wb : FVec Ideal S128x256 .bf16) (qi : Fin 32) :
    loopSt S0 S1 wa wb qi 0 = initSt S0 S1 wa wb qi := by
  rw [loopSt]

theorem hd_succ (w : FVec Ideal S128x256 .bf16) (ks : Fin 32 → Vec Ideal S1x1x256x128 .bf16) (vs : Fin 32 → Vec Ideal S1x64x256 .bf16) (qi : Fin 32) (k : ℕ) (h : k < 32) :
    hd w ks vs qi (k + 1) = (k0_pay162 w (hd w ks vs qi k).1 (ks ⟨k, h⟩), k0_pay165 w (hd w ks vs qi k).1 (hd w ks vs qi k).2.1 (ks ⟨k, h⟩),
        k0_pay166 w (hd w ks vs qi k).1 (hd w ks vs qi k).2.2 (ks ⟨k, h⟩) (vs ⟨k, h⟩)) := dif_pos h

theorem loopSt_succ (S0 : Vec Ideal S2x32x256x128 .bf16) (S1 : Vec Ideal S32x128x256 .bf16) (wa wb : FVec Ideal S128x256 .bf16) (qi : Fin 32) (k : ℕ) (h : k < 32) :
    loopSt S0 S1 wa wb qi (k + 1) = stepSt S0 S1 wa wb ⟨k, h⟩ (loopSt S0 S1 wa wb qi k) := dif_pos h

theorem loopSt_hd (S0 : Vec Ideal S2x32x256x128 .bf16) (S1 : Vec Ideal S32x128x256 .bf16) (wa wb : FVec Ideal S128x256 .bf16) (qi : Fin 32) (k : ℕ) (hk : k ≤ 32) :
    loopSt S0 S1 wa wb qi k
      = ((hd wa (ldK S0 0) (ldV S1 0) qi k).1, (hd wa (ldK S0 0) (ldV S1 0) qi k).2.1, (hd wa (ldK S0 0) (ldV S1 0) qi k).2.2,
         (hd wb (ldK S0 1) (ldV S1 1) qi k).1, (hd wb (ldK S0 1) (ldV S1 1) qi k).2.1, (hd wb (ldK S0 1) (ldV S1 1) qi k).2.2) := by
  induction k with
  | zero =>
    rw [loopSt_zero, hd_zero, hd_zero]
    unfold initSt
    with_reducible rfl
  | succ k ih =>
    have h : k < 32 := hk
    rw [loopSt_succ S0 S1 wa wb qi k h, ih (Nat.le_of_lt h), hd_succ wa _ _ qi k h, hd_succ wb _ _ qi k h]
    rfl

theorem hd_rep (w : FVec Ideal S128x256 .bf16) (ks : Fin 32 → Vec Ideal S1x1x256x128 .bf16) (vs : Fin 32 → Vec Ideal S1x64x256 .bf16) (qi : Fin 32) (c : Fin 256)
    (hl : ∀ n j, lg w (ks n) c j ≠ ⊤) (r : ℝ) (h0 : lg w (ks qi) c 0 = r) (k : ℕ) (hk : k ≤ 32) :
    Rep c (hd w ks vs qi k).1 (hd w ks vs qi k).2.1 (hd w ks vs qi k).2.2
      ((∑ j, ((eexp (lgO w (ks qi) c j) : ℝ) : EReal)) + ∑ n ∈ Finset.range k, if h : n < 32 then ∑ j, ((eexp (lg w (ks ⟨n, h⟩) c j) : ℝ) : EReal) else 0)
      (fun d => (∑ j, vs qi (ix3 0 d j) * ((eexp (lgO w (ks qi) c j) : ℝ) : EReal))
        + ∑ n ∈ Finset.range k, if h : n < 32 then ∑ j, vs ⟨n, h⟩ (ix3 0 d j) * ((eexp (lg w (ks ⟨n, h⟩) c j) : ℝ) : EReal) else 0) := by
  induction k with
  | zero =>
    simp only [Finset.range_zero, Finset.sum_empty, add_zero]
    rw [hd_zero]
    with_reducible exact rep_init w (ks qi) (vs qi) c (hl qi) r h0
  | succ k ih =>
    have h : k < 32 := hk
    have := rep_step w _ _ _ (ks ⟨k, h⟩) (vs ⟨k, h⟩) c _ _ (ih (Nat.le_of_lt h)) (hl ⟨k, h⟩)
    simp only [Finset.sum_range_succ, dif_pos h, ← add_assoc]
    rw [hd_succ w ks vs qi k h]
    exact this

theorem eexp_mask (x : ℝ) (p : Prop) [Decidable p] : eexp ((x : EReal) + if p then 0 else ⊥) = if p then Real.exp x else 0 := by
  split
  · rw [add_zero, eexp_coe]
  · rw [EReal.add_bot, eexp_bot]

theorem sums_core (qi : Fin 32) (c : Fin 256) (σ : Fin 3 → Fin 32) (hlt : ∀ r : Fin 3, r.val < qi.val → (σ r).val < qi.val) (hinj : Function.Injective σ)
    (lgf : Fin 32 → Fin 256 → EReal) (L : Fin 32 → Fin 256 → ℝ)
    (hlg : ∀ n j, lgf n j = ((L n j : ℝ) : EReal) + if (∃ r : Fin 3, r.val < qi.val ∧ n.val = (σ r).val) ∨ n = qi then 0 else ⊥)
    (u : Fin 32 → Fin 256 → EReal) :
    (∑ j : Fin 256, u qi j * ((eexp (if j.val ≤ c.val then lgf qi j else ⊥) : ℝ) : EReal))
        + ∑ n ∈ Finset.range qi.val, (if hn : n < 32 then ∑ j, u ⟨n, hn⟩ j * ((eexp (lgf ⟨n, hn⟩ j) : ℝ) : EReal) else 0)
      = ∑ r : Fin 4, ∑ j, u (slB qi σ r) j * ((eexp (if (r.val < 3 ∧ r.val < qi.val) ∨ (r.val = 3 ∧ j.val ≤ c.val) then ((L (slB qi σ r) j : ℝ) : EReal) else ⊥) : ℝ) : EReal) := by
  refine Eq.trans ?_ (Fin.sum_univ_castSucc (n := 3) _).symm
  rw [add_comm]
  congr 1
  · have e : ∀ n ∈ Finset.range qi.val,
        (if hn : n < 32 then ∑ j, u ⟨n, hn⟩ j * ((eexp (lgf ⟨n, hn⟩ j) : ℝ) : EReal) else 0)
          = if ∃ r : Fin 3, r.val < qi.val ∧ n = (σ r).val then
              (if hn : n < 32 then ∑ j, u ⟨n, hn⟩ j * ((Real.exp (L ⟨n, hn⟩ j) : ℝ) : EReal) else 0) else 0 := by
      intro n hn
      have hnq : n < qi.val := Finset.mem_range.mp hn
      have h32 : n < 32 := lt_trans hnq qi.isLt
      rw [dif_pos h32, dif_pos h32]
      by_cases hp : ∃ r : Fin 3, r.val < qi.val ∧ n = (σ r).val
      · rw [if_pos hp]
        refine Finset.sum_congr rfl fun j _ => ?_
        rw [hlg, eexp_mask, if_pos (Or.inl hp)]
      · rw [if_neg hp]
        refine Finset.sum_eq_zero fun j _ => ?_
        rw [hlg, eexp_mask, if_neg, EReal.coe_zero, mul_zero]
        rintro (h1 | h1)
        · exact hp h1
        · have := congrArg Fin.val h1
          simp only [] at this
          omega
    rw [Finset.sum_congr rfl e]
    have eif : ∀ (p : Prop) (d d' : Decidable p) (a b : EReal), @ite _ p d a b = @ite _ p d' a b := fun p d d' a b => by
      by_cases h : p <;> simp [h]
    refine ((Finset.sum_congr rfl fun n _ => eif _ _ _ _ _).trans (sum_chosen qi.val σ hinj hlt
      (fun n => if hn : n < 32 then ∑ j, u ⟨n, hn⟩ j * ((Real.exp (L ⟨n, hn⟩ j) : ℝ) : EReal) else 0))).trans ?_
    refine Finset.sum_congr rfl fun r _ => ?_
    rw [dif_pos (σ r).isLt, slB_castSucc]
    have er : (r.castSucc : Fin 4).val = r.val := rfl
    by_cases hr : r.val < qi.val
    · rw [if_pos hr]
      refine Finset.sum_congr rfl fun j _ => ?_
      rw [if_pos (Or.inl ⟨by rw [er]; exact r.isLt, by rw [er]; exact hr⟩), eexp_coe]
    · rw [if_neg hr]
      refine (Finset.sum_eq_zero fun j _ => ?_).symm
      rw [if_neg, eexp_bot, EReal.coe_zero, mul_zero]
      rw [er]
      rintro (h1 | h1)
      · exact hr h1.2
      · have := r.isLt; omega
  · refine Finset.sum_congr rfl fun j _ => ?_
    rw [slB_last]
    have el : (Fin.last 3).val = 3 := rfl
    by_cases hj : j.val ≤ c.val
    · rw [if_pos hj, if_pos (Or.inr ⟨el, hj⟩), hlg, eexp_mask, if_pos (Or.inr rfl), eexp_coe]
    · rw [if_neg hj, if_neg]
      rintro (h1 | h1)
      · rw [el] at h1; omega
      · exact hj h1.2

theorem up_eq_iff (m : Fin 64) (n : Fin 32) : m = up n ↔ m.val = n.val := by
  rw [Fin.ext_iff, up_val]

section Block

variable (i : grid0.Coords) (v4 : Vec Ideal S256x128 .f32) (v6 : Vec Ideal S1x64x128 .f32) (x1 x2 : Vec Ideal S8192x128 .bf16)
  (q : Fin 256 → Fin 128 → ℝ) (kb : Fin 64 → Fin 128 → ℝ) (K : Fin 8192 → Fin 128 → ℝ)
  (hq : ∀ (c : Fin 256) (l : Fin 128), v4 (ix2 c l) = ((q c l : ℝ) : EReal))
  (hkb : ∀ (n : Fin 64) (l : Fin 128), v6 (ix3 0 n l) = ((kb n l : ℝ) : EReal))
  (hK : ∀ (n : Fin 8192) (l : Fin 128), x1 (ix2 n l) = ((K n l : ℝ) : EReal))

theorem ldK_G0 (h : Fin 2) (n : Fin 32) (j : Fin 256) (l : Fin 128) :
    ldK (G0 x1) h n (ix4 0 0 j l)
      = if h.val = 0 then (if l.val < 64 then x1 (ix2 (⟨256 * n.val + j.val, by omega⟩ : Fin 8192) l) else if l.val = 64 + n.val then 1 else 0)
        else (if 64 ≤ l.val then x1 (ix2 (⟨256 * n.val + j.val, by omega⟩ : Fin 8192) l) else if l.val = n.val then 1 else 0) := rfl

include hK in
theorem kaug (h h' : Fin 2) (hne : h ≠ h') (n : Fin 32) : IsKaug h h' n (Kn K n) (ldK (G0 x1) h n) := by
  intro j
  obtain ⟨rfl, rfl⟩ | ⟨rfl, rfl⟩ : (h = 0 ∧ h' = 1) ∨ (h = 1 ∧ h' = 0) := by omega
  · refine ⟨fun d => ?_, fun m => ?_⟩
    · rw [ldK_G0, if_pos (show (0 : Fin 2).val = 0 from rfl), if_pos (by rw [lane0_val]; exact d.isLt), hK]; rfl
    · rw [ldK_G0, if_pos (show (0 : Fin 2).val = 0 from rfl), if_neg (by rw [lane1_val]; omega)]
      refine if_congr ?_ rfl rfl
      rw [lane1_val, up_eq_iff]; omega
  · refine ⟨fun d => ?_, fun m => ?_⟩
    · rw [ldK_G0, if_neg (by decide), if_pos (by rw [lane1_val]; omega), hK]; rfl
    · rw [ldK_G0, if_neg (by decide), if_neg (by rw [lane0_val]; omega)]
      refine if_congr ?_ rfl rfl
      rw [lane0_val, up_eq_iff]

theorem chosen_lt (qi : Fin 32) (h : Fin 2) (c : Fin 256) (r : Fin 3) (hr : r.val < qi.val) : (topAt (scS q kb qi h c) r).val < qi.val := by
  refine topAt_lt _ _ (fun n hn => if_neg (not_lt.mpr hn)) (fun n hn => ?_) (by omega) r hr
  rw [if_pos hn]
  exact EReal.coe_ne_bot _

include hq hkb hK in
theorem lgW (qi : Fin 32) (hi : (i 2).val = qi.val) (h h' : Fin 2) (hne : h ≠ h') (n : Fin 32) (c j : Fin 256) :
    lg (wV i v4 v6 h) (ldK (G0 x1) h n) c j = ((lgt q (Kn K n) h c j : ℝ) : EReal)
      + if (∃ r : Fin 3, r.val < qi.val ∧ n.val = (topAt (scS q kb qi h c) r).val) ∨ n = qi then 0 else ⊥ := by
  rw [lg_eq i v4 v6 q hq h h' hne n (Kn K n) _ (kaug x1 K hK h h' hne n), alV_apply i v4 v6 q kb hq hkb qi hi]
  congr 1
  refine if_congr (or_congr ?_ ?_) rfl rfl
  · refine exists_congr fun r => and_congr Iff.rfl ?_
    rw [Fin.ext_iff, up_val, up_val]
  · rw [Fin.ext_iff, up_val]

include hq hkb hK in
theorem sums_eq (qi : Fin 32) (hi : (i 2).val = qi.val) (h h' : Fin 2) (hne : h ≠ h') (c : Fin 256) (u : Fin 32 → Fin 256 → EReal) :
    (∑ j, u qi j * ((eexp (lgO (wV i v4 v6 h) (ldK (G0 x1) h qi) c j) : ℝ) : EReal))
        + ∑ n ∈ Finset.range qi.val, (if hn : n < 32 then ∑ j, u ⟨n, hn⟩ j * ((eexp (lg (wV i v4 v6 h) (ldK (G0 x1) h ⟨n, hn⟩) c j) : ℝ) : EReal) else 0)
      = ∑ r : Fin 4, ∑ j, u (slotB qi (scS q kb qi h c) r) j * ((eexp (slotL q K qi (scS q kb qi h c) h c r j) : ℝ) : EReal) :=
  sums_core qi c (topAt (scS q kb qi h c)) (chosen_lt q kb qi h c) (topAt_injective _)
    (fun n j => lg (wV i v4 v6 h) (ldK (G0 x1) h n) c j) (fun n j => lgt q (Kn K n) h c j)
    (fun n j => lgW i v4 v6 x1 q kb K hq hkb hK qi hi h h' hne n c j) u

theorem attW_pos (qi : Fin 32) (s : Fin 32 → EReal) (h : Fin 2) (c : Fin 256) : 0 < attW q K qi s h c := by
  unfold attW
  refine Finset.sum_pos' (fun r _ => Finset.sum_nonneg fun j _ => eexp_nonneg _) ⟨Fin.last 3, Finset.mem_univ _, ?_⟩
  refine Finset.sum_pos' (fun j _ => eexp_nonneg _) ⟨c, Finset.mem_univ _, ?_⟩
  unfold slotL
  rw [if_pos (Or.inr ⟨rfl, le_rfl⟩), eexp_coe]
  exact Real.exp_pos _

include hq hkb hK in
theorem head_out (qi : Fin 32) (hi : (i 2).val = qi.val) (h h' : Fin 2) (hne : h ≠ h') (c : Fin 256) (d : Fin 64) :
    Ideal.div ((hd (wV i v4 v6 h) (ldK (G0 x1) h) (ldV (G1 x2) h) qi qi.val).2.2 (ix2 d c))
        ((hd (wV i v4 v6 h) (ldK (G0 x1) h) (ldV (G1 x2) h) qi qi.val).2.1 (ix2 0 c))
      = attA q K (fun n l => x2 (ix2 n l)) qi (scS q kb qi h c) h c d * (((attW q K qi (scS q kb qi h c) h c)⁻¹ : ℝ) : EReal) := by
  have hlg := fun n j => lgW i v4 v6 x1 q kb K hq hkb hK qi hi h h' hne n c j
  have hl : ∀ n j, lg (wV i v4 v6 h) (ldK (G0 x1) h n) c j ≠ ⊤ := by
    intro n j
    rw [hlg]
    split
    · rw [add_zero]; exact EReal.coe_ne_top _
    · rw [EReal.add_bot]; exact bot_ne_top
  have h0 : lg (wV i v4 v6 h) (ldK (G0 x1) h qi) c 0 = ((lgt q (Kn K qi) h c 0 : ℝ) : EReal) := by
    rw [hlg, if_pos (Or.inr rfl), add_zero]
  obtain ⟨μ, -, hL, hA⟩ := hd_rep (wV i v4 v6 h) (ldK (G0 x1) h) (ldV (G1 x2) h) qi c hl _ h0 qi.val (le_of_lt qi.isLt)
  have eW := sums_eq i v4 v6 x1 q kb K hq hkb hK qi hi h h' hne c (fun _ _ => 1)
  simp only [one_mul] at eW
  have eA := sums_eq i v4 v6 x1 q kb K hq hkb hK qi hi h h' hne c (fun n j => ldV (G1 x2) h n (ix3 0 d j))
  rw [hL, hA d]
  simp only []
  rw [eW, eA]
  have eW' : (∑ r : Fin 4, ∑ j : Fin 256, ((eexp (slotL q K qi (scS q kb qi h c) h c r j) : ℝ) : EReal)) = ((attW q K qi (scS q kb qi h c) h c : ℝ) : EReal) := by
    unfold attW
    rw [coe_sum]
    refine Finset.sum_congr rfl fun r _ => ?_
    rw [coe_sum]
  rw [eW', div_scaled _ _ _ (attW_pos q K qi _ h c)]
  rfl

include hq hkb hK in
/-- The output block, index by index. -/
theorem outV_apply (qi : Fin 32) (hi : (i 2).val = qi.val) (h : Fin 2) (c : Fin 256) (d : Fin 64) :
    outV (G0 x1) (G1 x2) (w0 i v4 v6) (w1 i v4 v6) qi (ix2 c (lane h d))
      = attA q K (fun n l => x2 (ix2 n l)) qi (scS q kb qi h c) h c d * (((attW q K qi (scS q kb qi h c) h c)⁻¹ : ℝ) : EReal) := by
  unfold outV
  rw [loopSt_hd _ _ _ _ qi qi.val (le_of_lt qi.isLt)]
  refine (pay216_apply _ _ _ _ c (lane h d)).trans ?_
  obtain rfl | rfl : h = 0 ∨ h = 1 := by omega
  · rw [dif_pos (by rw [lane0_val]; exact d.isLt)]
    have e : (⟨(lane 0 d).val, by rw [lane0_val]; exact d.isLt⟩ : Fin 64) = d := Fin.ext (lane0_val d)
    rw [e]
    exact head_out i v4 v6 x1 x2 q kb K hq hkb hK qi hi 0 1 (by decide) c d
  · rw [dif_neg (by rw [lane1_val]; omega)]
    have e : (⟨(lane 1 d).val - 64, by rw [lane1_val]; omega⟩ : Fin 64) = d := Fin.ext (by have := lane1_val d; simp only []; omega)
    rw [e]
    exact head_out i v4 v6 x1 x2 q kb K hq hkb hK qi hi 1 0 (by decide) c d

end Block

end Cert.Proof

end
-- ==== Proof.KArr.lean ====
module

public import proofs.«01_k».proof.Proof.KVal
public import proofs.«01_k».proof.Proof.Gen.KernelIdeal.Value
public import Idealize.ShloMosaic.Lib.Pipeline.ValueKit.Point
public import proofs.«01_k».proof.Proof.Gen.KernelIdeal.Frame
public import Idealize.ShloMosaic.Lib.VecWindow
public import Idealize.ShloMosaic.Lib.WritesUnit

/-!
# The windows of the kernel's grid

Which part of each array a grid point reads, what the scratch arrays hold there, and the result array.
-/

@[expose] public section

set_option maxRecDepth 16384

noncomputable section

namespace Cert.Proof

open Cert.KernelIdeal Cert.KernelIdeal.Gen Idealize.ShloMosaic Idealize.ShloMosaic.TcCoe

variable (m : (ℓ : Loc nD τ sig) → Buf (Elt Ideal) ℓ)

theorem coords0 (t : Fin cfg0.N) : (grid0.coords t 0).val = t.val / 128 := by
  have ht : t.val < 256 := Nat.lt_of_lt_of_eq t.isLt N_0
  have e0 : (grid0.coords t 0).val = t.val / 128 % 2 := Pipeline.Grid.coords_val t 0 (by decide) rfl
  omega

theorem coords1 (t : Fin cfg0.N) : (grid0.coords t 1).val = t.val / 32 % 4 := Pipeline.Grid.coords_val t 1 (by decide) rfl

theorem coords2 (t : Fin cfg0.N) : (grid0.coords t 2).val = t.val % 32 := by
  have e2 : (grid0.coords t 2).val = t.val / 1 % 32 := Pipeline.Grid.coords_val t 2 (by decide) rfl
  rw [e2, Nat.div_one]

theorem idx0 : ∀ t : Fin cfg0.N, (cfg0.win 0).index t = ![t.val / 128 * 32 + t.val % 32, t.val / 32 % 4] := by decide +kernel
theorem idx1 : ∀ t : Fin cfg0.N, (cfg0.win 1).index t = ![t.val / 128, t.val / 32 % 4] := by decide +kernel
theorem idx2 : ∀ t : Fin cfg0.N, (cfg0.win 2).index t = ![t.val / 128, t.val / 32 % 4] := by decide +kernel
theorem idx3 : ∀ t : Fin cfg0.N, (cfg0.win 3).index t = ![t.val / 128, 0, t.val / 32 % 4] := by decide +kernel
theorem idx4 : ∀ t : Fin cfg0.N, (cfg0.win 4).index t = ![t.val / 128 * 32 + t.val % 32, t.val / 32 % 4] := by decide +kernel

theorem blkQ (c : Dev nD) (t : Fin cfg0.N) (r : Fin 256) (l : Fin 128) :
    iblk m c 0 t (ix2 r l) = m ((c : Thread nD τ).loc main_arg0)
      (ix2 (⟨(t.val / 128 * 32 + t.val % 32) * 256 + r.val, by have := Nat.lt_of_lt_of_eq t.isLt N_0; omega⟩ : Fin 16640)
        (⟨t.val / 32 % 4 * 128 + l.val, by omega⟩ : Fin 512)) := by
  blk_point [iblk, V, idx0 t]

theorem blkK (c : Dev nD) (t : Fin cfg0.N) (r : Fin 8192) (l : Fin 128) :
    X0_1 m c t (ix2 r l) = m ((c : Thread nD τ).loc main_arg1)
      (ix2 (⟨t.val / 128 * 8192 + r.val, by have := Nat.lt_of_lt_of_eq t.isLt N_0; omega⟩ : Fin 16640)
        (⟨t.val / 32 % 4 * 128 + l.val, by omega⟩ : Fin 512)) := by
  unfold X0_1 Pipeline.Window.fill
  rw [dif_pos (moved0_1 t _)]
  blk_point [iblk, V, idx1 t]

theorem blkV (c : Dev nD) (t : Fin cfg0.N) (r : Fin 8192) (l : Fin 128) :
    X0_2 m c t (ix2 r l) = m ((c : Thread nD τ).loc main_arg2)
      (ix2 (⟨t.val / 128 * 8192 + r.val, by have := Nat.lt_of_lt_of_eq t.isLt N_0; omega⟩ : Fin 16640)
        (⟨t.val / 32 % 4 * 128 + l.val, by omega⟩ : Fin 512)) := by
  unfold X0_2 Pipeline.Window.fill
  rw [dif_pos (moved0_2 t _)]
  blk_point [iblk, V, idx2 t]

theorem hostM (c : Dev nD) : V m c main_v2 =
    pad S2x64x512 ![0, 0, 0] ![0, 32, 0] ![0, 0, 0]
      (shapeCast S2x32x512 (extractStridedSlice S64x1x512 ![0, 0, 0] (m ((c : Thread nD τ).loc main_arg3)) slices_S65x1x512_S64x1x512_0_0_0) shapeCasts_S64x1x512_S2x32x512)
      (sitofp (F := Ideal) .f32 (constantI S_ 32 0#32)) pads_S2x32x512_S2x64x512_000_0320_000 h_S_ := by
  unfold_abbrev_sides
  dsimp only [List.flatten_cons, List.flatten_nil, List.append_nil, List.cons_append, List.nil_append, List.flatten, List.append]
  after_results
  rfl

theorem blkM (c : Dev nD) (t : Fin cfg0.N) (n : Fin 64) (l : Fin 128) :
    iblk m c 3 t (ix3 0 n l) = if h : n.val < 32 then m ((c : Thread nD τ).loc main_arg3)
      (ix3 (⟨t.val / 128 * 32 + n.val, by have := Nat.lt_of_lt_of_eq t.isLt N_0; omega⟩ : Fin 65) (0 : Fin 1)
        (⟨t.val / 32 % 4 * 128 + l.val, by omega⟩ : Fin 512)) else (0 : EReal) := by
  have e : iblk m c 3 t (ix3 0 n l) = V m c main_v2 (ix3 (⟨t.val / 128, by have := Nat.lt_of_lt_of_eq t.isLt N_0; omega⟩ : Fin 2) n (⟨t.val / 32 % 4 * 128 + l.val, by omega⟩ : Fin 512)) := by
    blk_point [iblk, idx3 t]
  rw [e, hostM]
  pointwise []
  have h1 : t.val / 128 < 2 := by have := Nat.lt_of_lt_of_eq t.isLt N_0; omega
  have h2 : t.val / 32 % 4 * 128 + l.val < 512 := by omega
  by_cases hn : n.val < 32
  · rw [dif_pos ⟨h1, hn, h2⟩, dif_pos hn]
  · rw [dif_neg fun h => hn h.2.1, dif_neg hn]
    exact (by first | exact sitofp_zero .. | simp [FloatOps.sitofp] : (FloatOps.sitofp (F := Ideal) FTy.f32 (0#32) : EReal) = 0)

theorem kprev (c : Dev nD) (t s : Fin cfg0.N) (h : t.val % 32 ≠ 0) (hs : s.val = t.val - 1) : X0_1 m c s = X0_1 m c t := by
  have hN := Nat.lt_of_lt_of_eq t.isLt N_0
  funext y
  rw [show y = ix2 (⟨(y 0).val, (y 0).isLt⟩ : Fin 8192) (⟨(y 1).val, (y 1).isLt⟩ : Fin 128) from by funext a; fin_cases a <;> rfl, blkK, blkK]
  exact congrArg (m ((c : Thread nD τ).loc main_arg1)) (congrArg₂ ix2 (Fin.ext (by show _ * 8192 + (y 0).val = _ * 8192 + (y 0).val; omega)) (Fin.ext (by show _ * 128 + (y 1).val = _ * 128 + (y 1).val; omega)))

theorem vprev (c : Dev nD) (t s : Fin cfg0.N) (h : t.val % 32 ≠ 0) (hs : s.val = t.val - 1) : X0_2 m c s = X0_2 m c t := by
  have hN := Nat.lt_of_lt_of_eq t.isLt N_0
  funext y
  rw [show y = ix2 (⟨(y 0).val, (y 0).isLt⟩ : Fin 8192) (⟨(y 1).val, (y 1).isLt⟩ : Fin 128) from by funext a; fin_cases a <;> rfl, blkV, blkV]
  exact congrArg (m ((c : Thread nD τ).loc main_arg2)) (congrArg₂ ix2 (Fin.ext (by show _ * 8192 + (y 0).val = _ * 8192 + (y 0).val; omega)) (Fin.ext (by show _ * 128 + (y 1).val = _ * 128 + (y 1).val; omega)))

/-- What a grid point leaves in its output block. -/
def outT (c : Dev nD) (t : Fin cfg0.N) : Vec Ideal S256x128 .bf16 :=
  outV (G0 (X0_1 m c t)) (G1 (X0_2 m c t)) (w0 (grid0.coords t) (iblk m c 0 t) (iblk m c 3 t))
    (w1 (grid0.coords t) (iblk m c 0 t) (iblk m c 3 t)) (qiOf (grid0.coords t))

theorem soutA0 (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : cond0_0 i)
    (x0 : Vec Ideal S256x128 .f32) (x1 : Vec Ideal S8192x128 .bf16) (x2 : Vec Ideal S8192x128 .bf16) (x3 : Vec Ideal S1x64x128 .f32) :
    sout0_A_0 c i arg3 harg3 arg4 harg4 arg5 harg5 arg6 harg6 arg7 harg7 arg8 harg8 arg9 harg9 hc0 x0 x1 x2 x3 = G0 x1 := by
  unfold sout0_A_0 kernelRun0_A
  exact scrK c i arg3 harg3 arg4 harg4 arg5 harg5 arg6 harg6 arg7 harg7 arg8 harg8 arg9 harg9 hc0 x0 x1 x2 x3 _ _

theorem soutA1 (c : Dev nD) (i : grid0.Coords) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64x128 .f32) (harg6 : arg6.IsWhole) (arg7 : Memref sig .tc .vmem S256x128 .bf16) (harg7 : arg7.IsWhole) (arg8 : Memref sig .tc .vmem S2x32x256x128 .bf16) (harg8 : arg8.IsWhole) (arg9 : Memref sig .tc .vmem S32x128x256 .bf16) (harg9 : arg9.IsWhole) (hc0 : cond0_0 i)
    (x0 : Vec Ideal S256x128 .f32) (x1 : Vec Ideal S8192x128 .bf16) (x2 : Vec Ideal S8192x128 .bf16) (x3 : Vec Ideal S1x64x128 .f32) :
    sout0_A_1 c i arg3 harg3 arg4 harg4 arg5 harg5 arg6 harg6 arg7 harg7 arg8 harg8 arg9 harg9 hc0 x0 x1 x2 x3 = G1 x2 := by
  unfold sout0_A_1 kernelRun0_A
  exact scrV c i arg3 harg3 arg4 harg4 arg5 harg5 arg6 harg6 arg7 harg7 arg8 harg8 arg9 harg9 hc0 x0 x1 x2 x3 _ _

theorem outs_A (c : Dev nD) (t : Fin cfg0.N) (h0 : t.val % 32 = 0) :
    outsAt0 m c t.val t.isLt = (outT m c t, G0 (X0_1 m c t), G1 (X0_2 m c t)) := by
  unfold outT
  rw [outsAt0_A m c t h0, soutA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (X0_1 m c t) (X0_2 m c t) (iblk m c 3 t), soutA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (X0_1 m c t) (X0_2 m c t) (iblk m c 3 t), outA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (X0_1 m c t) (X0_2 m c t) (iblk m c 3 t),
    scrK c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (X0_1 m c t) (X0_2 m c t) (iblk m c 3 t), scrV c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (X0_1 m c t) (X0_2 m c t) (iblk m c 3 t)]

theorem outs_eq (c : Dev nD) : ∀ (n : ℕ) (hn : n < cfg0.N),
    outsAt0 m c n hn = (outT m c ⟨n, hn⟩, G0 (X0_1 m c ⟨n, hn⟩), G1 (X0_2 m c ⟨n, hn⟩)) := by
  intro n
  induction n with
  | zero => intro hn; exact outs_A m c ⟨0, hn⟩ rfl
  | succ n ih =>
    intro hn
    by_cases h0 : (n + 1) % 32 = 0
    · exact outs_A m c ⟨n + 1, hn⟩ h0
    · have hp : n < cfg0.N := lt_trans (Nat.lt_succ_self n) hn
      refine (outsAt0_B m c ⟨n + 1, hn⟩ h0).trans ?_
      have e : outsAt0 m c ((⟨n + 1, hn⟩ : Fin cfg0.N).val - 1) (Nat.lt_of_le_of_lt (Nat.sub_le _ _) hn) = (outT m c ⟨n, hp⟩, G0 (X0_1 m c ⟨n + 1, hn⟩), G1 (X0_2 m c ⟨n + 1, hn⟩)) := by
        rw [← kprev m c ⟨n + 1, hn⟩ ⟨n, hp⟩ h0 rfl, ← vprev m c ⟨n + 1, hn⟩ ⟨n, hp⟩ h0 rfl]
        exact ih hp
      refine Prod.ext ?_ (Prod.ext ?_ ?_)
      · refine (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (iblk m c 0 ⟨n + 1, hn⟩) (X0_1 m c ⟨n + 1, hn⟩) (X0_2 m c ⟨n + 1, hn⟩) (iblk m c 3 ⟨n + 1, hn⟩) _ _).trans ?_
        rw [e]; rfl
      · exact congrArg (fun p => p.2.1) e
      · exact congrArg (fun p => p.2.2) e

end Cert.Proof

end
-- ==== Proof.KRes.lean ====
module

public import proofs.«01_k».proof.Proof.KArr

/-!
# The kernel's result array

Every entry of the result array, as the attention of its query row over the chosen blocks.
-/

@[expose] public section

set_option maxRecDepth 16384

noncomputable section

namespace Cert.Proof

open Cert.KernelIdeal Cert.KernelIdeal.Gen Idealize.ShloMosaic Idealize.ShloMosaic.TcCoe

/-- The query rows of block `qi` of batch row `b`, at lane group `p`. -/
def qB (Q : Fin 16640 → Fin 512 → ℝ) (b : Fin 2) (qi : Fin 32) (p : Fin 4) (c : Fin 256) (l : Fin 128) : ℝ :=
  Q ⟨(b.val * 32 + qi.val) * 256 + c.val, by omega⟩ ⟨p.val * 128 + l.val, by omega⟩

/-- The block means of batch row `b`, padded to 64 rows. -/
def bB (B : Fin 65 → Fin 512 → ℝ) (b : Fin 2) (p : Fin 4) (n : Fin 64) (l : Fin 128) : ℝ :=
  if h : n.val < 32 then B ⟨b.val * 32 + n.val, by omega⟩ ⟨p.val * 128 + l.val, by omega⟩ else 0

/-- The rows of batch row `b`, at lane group `p`. -/
def rB {α : Type} (K : Fin 16640 → Fin 512 → α) (b : Fin 2) (p : Fin 4) (n : Fin 8192) (l : Fin 128) : α :=
  K ⟨b.val * 8192 + n.val, by omega⟩ ⟨p.val * 128 + l.val, by omega⟩

/-- The masked block scores of one query row. -/
def sB (Q : Fin 16640 → Fin 512 → ℝ) (B : Fin 65 → Fin 512 → ℝ) (b : Fin 2) (qi : Fin 32) (p : Fin 4) (h : Fin 2) (c : Fin 256) : Fin 32 → EReal :=
  scS (qB Q b qi p) (bB B b p) qi h c

/-- One entry of the result. -/
def resAt (Q : Fin 16640 → Fin 512 → ℝ) (B : Fin 65 → Fin 512 → ℝ) (K : Fin 16640 → Fin 512 → ℝ) (V : Fin 16640 → Fin 512 → EReal)
    (b : Fin 2) (qi : Fin 32) (p : Fin 4) (h : Fin 2) (c : Fin 256) (d : Fin 64) : EReal :=
  attA (qB Q b qi p) (rB K b p) (rB V b p) qi (sB Q B b qi p h c) h c d
    * (((attW (qB Q b qi p) (rB K b p) qi (sB Q B b qi p h c) h c)⁻¹ : ℝ) : EReal)

/-- The result array. -/
def resArr (Q : Fin 16640 → Fin 512 → ℝ) (B : Fin 65 → Fin 512 → ℝ) (K : Fin 16640 → Fin 512 → ℝ) (V : Fin 16640 → Fin 512 → EReal)
    (row : Fin 16384) (col : Fin 512) : EReal :=
  resAt Q B K V ⟨row.val / 8192, by omega⟩ ⟨row.val / 256 % 32, by omega⟩ ⟨col.val / 128, by omega⟩ ⟨col.val / 64 % 2, by omega⟩
    ⟨row.val % 256, by omega⟩ ⟨col.val % 64, by omega⟩

theorem resArr_at (Q : Fin 16640 → Fin 512 → ℝ) (B : Fin 65 → Fin 512 → ℝ) (K : Fin 16640 → Fin 512 → ℝ) (V : Fin 16640 → Fin 512 → EReal)
    (t : ℕ) (ht : t < 256) (r : ℕ) (hr : r < 256) (l : ℕ) (hl : l < 128) (row : Fin 16384) (col : Fin 512)
    (e0 : row.val = (t / 128 * 32 + t % 32) * 256 + r) (e1 : col.val = t / 32 % 4 * 128 + l) :
    resArr Q B K V row col = resAt Q B K V ⟨t / 128, by omega⟩ ⟨t % 32, by omega⟩ ⟨t / 32 % 4, by omega⟩ ⟨l / 64, by omega⟩ ⟨r, hr⟩ ⟨l % 64, by omega⟩ := by
  unfold resArr
  congr 1 <;> refine Fin.ext ?_ <;> dsimp only <;> omega

variable (m : (ℓ : Loc nD τ sig) → Buf (Elt Ideal) ℓ) (c : Dev nD)
  (Q : Fin 16640 → Fin 512 → ℝ) (B : Fin 65 → Fin 512 → ℝ) (K : Fin 16640 → Fin 512 → ℝ)
  (hQ : ∀ r l, m ((c : Thread nD τ).loc main_arg0) (ix2 r l) = ((Q r l : ℝ) : EReal))
  (hK : ∀ r l, m ((c : Thread nD τ).loc main_arg1) (ix2 r l) = ((K r l : ℝ) : EReal))
  (hB : ∀ r l, m ((c : Thread nD τ).loc main_arg3) (ix3 r (0 : Fin 1) l) = ((B r l : ℝ) : EReal))

include hQ hK hB in
theorem outT_apply (t : Fin cfg0.N) (r : Fin 256) (h : Fin 2) (d : Fin 64) :
    outT m c t (ix2 r (lane h d)) = resAt Q B K (fun r l => m ((c : Thread nD τ).loc main_arg2) (ix2 r l))
      ⟨t.val / 128, by have := Nat.lt_of_lt_of_eq t.isLt N_0; omega⟩ ⟨t.val % 32, by omega⟩ ⟨t.val / 32 % 4, by omega⟩ h r d := by
  have hN := Nat.lt_of_lt_of_eq t.isLt N_0
  unfold outT resAt sB
  have hqi : qiOf (grid0.coords t) = (⟨t.val % 32, by omega⟩ : Fin 32) := Fin.ext (coords2 t)
  rw [hqi]
  have hv : (fun (n : Fin 8192) (l : Fin 128) => X0_2 m c t (ix2 n l)) = rB (fun r l => m ((c : Thread nD τ).loc main_arg2) (ix2 r l)) (⟨t.val / 128, by omega⟩ : Fin 2) (⟨t.val / 32 % 4, by omega⟩ : Fin 4) := by
    funext n l
    rw [blkV]; rfl
  rw [← hv]
  refine outV_apply (grid0.coords t) (iblk m c 0 t) (iblk m c 3 t) (X0_1 m c t) (X0_2 m c t) _ _ _ (fun c' l => ?_) (fun n l => ?_) (fun n l => ?_) _ (coords2 t) h r d
  · rw [blkQ, hQ]; rfl
  · rw [blkM]
    unfold bB
    split
    · exact hB _ _
    · rfl
  · rw [blkK, hK]; rfl

include hQ hK hB in
theorem arr_eq : (dats m 0 c).arrAt 4 cfg0.N
    = fun y : S16384x512.Idx => resArr Q B K (fun r l => m ((c : Thread nD τ).loc main_arg2) (ix2 r l)) (y 0) (y 1) := by
  refine (dats m 0 c).arrAt_eq_of_covers 4 _ (by decide +kernel) fun t hf y => ?_
  rw [after0_4, outs_eq]
  have hN := Nat.lt_of_lt_of_eq t.isLt N_0
  blk_simp
  have e0 : ((win0_4.blk t).view.emb y 0).val = (t.val / 128 * 32 + t.val % 32) * 256 + (y 0).val := by
    blk_simp [idx4 t]
    try rfl
  have e1 : ((win0_4.blk t).view.emb y 1).val = t.val / 32 % 4 * 128 + (y 1).val := by
    blk_simp [idx4 t]
    try rfl
  have h0 : (y 0).val < 256 := (y 0).isLt
  have h1 : (y 1).val < 128 := (y 1).isLt
  have hy : y = ix2 (⟨(y 0).val, h0⟩ : Fin 256) (lane ⟨(y 1).val / 64, by omega⟩ ⟨(y 1).val % 64, by omega⟩) := by
    funext a
    fin_cases a
    · rfl
    · refine Fin.ext ?_
      show (y 1).val = (lane _ _).val
      rw [lane_val]
      exact (Nat.div_add_mod (y 1).val 64).symm
  refine (congrArg (outT m c t) hy).trans ?_
  rw [outT_apply m c Q B K hQ hK hB]
  exact (resArr_at Q B K _ t.val hN (y 0).val h0 (y 1).val h1 _ _ e0 e1).symm

end Cert.Proof

end
-- ==== Proof.RIn.lean ====
module

public import proofs.«01_k».proof.Proof.KRes
public import proofs.«01_k».proof.Proof.Gen.ReferenceIdeal.Read
public import Idealize.ShloMosaic.Lib.Pointwise
public import Idealize.ShloMosaic.Lib.ValueIdxRank6

/-!
# The reference's operands

The reference's queries, keys, values and means by batch row, head and position, and its block scores.
-/

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S16640x512, .f32⟩ : BufTy).Contents (Elt Ideal)) (x1 x2 : (⟨S16640x512, .bf16⟩ : BufTy).Contents (Elt Ideal))
  (x3 : (⟨S65x1x512, .f32⟩ : BufTy).Contents (Elt Ideal))

theorem r1 (b : Fin 2) (pos : Fin 8192) (g : Fin 8) (d : Fin 64) :
    val_main_v1 (F := Ideal) x0 (ix4 b pos g d) = x0 (ix2 (⟨b.val * 8192 + pos.val, by omega⟩ : Fin 16640) (⟨g.val * 64 + d.val, by omega⟩ : Fin 512)) := by
  rw [val_main_v1_apply, val_main_v0_apply]
  congr 1
  funext a
  fin_cases a <;> refine Fin.ext ?_ <;> simp [ix2, ix4] <;> omega

theorem r9 (b : Fin 2) (g : Fin 8) (n : Fin 32) (j : Fin 256) (d : Fin 64) :
    val_main_v9 (F := Ideal) x1 (ix5 b g n j d) = x1 (ix2 (⟨b.val * 8192 + (256 * n.val + j.val), by omega⟩ : Fin 16640) (⟨g.val * 64 + d.val, by omega⟩ : Fin 512)) := by
  pointwise [val_main_v9, val_main_v8, val_main_v4, val_main_v3, val_main_v2]
  exact congrArg _ (congrArg₂ ix2 (Fin.ext (by show b.val * 8192 + n.val * 256 + j.val = b.val * 8192 + (256 * n.val + j.val); omega)) rfl)

theorem r11 (b : Fin 2) (g : Fin 8) (n : Fin 32) (j : Fin 256) (d : Fin 64) :
    val_main_v11 (F := Ideal) x2 (ix5 b g n j d) = x2 (ix2 (⟨b.val * 8192 + (256 * n.val + j.val), by omega⟩ : Fin 16640) (⟨g.val * 64 + d.val, by omega⟩ : Fin 512)) := by
  pointwise [val_main_v11, val_main_v10, val_main_v7, val_main_v6, val_main_v5]
  exact congrArg _ (congrArg₂ ix2 (Fin.ext (by show b.val * 8192 + n.val * 256 + j.val = b.val * 8192 + (256 * n.val + j.val); omega)) rfl)

theorem r14 (b : Fin 2) (g : Fin 8) (n : Fin 32) (d : Fin 64) :
    val_main_v14 (F := Ideal) x3 (ix4 b g n d) = x3 (ix3 (⟨b.val * 32 + n.val, by omega⟩ : Fin 65) (0 : Fin 1) (⟨g.val * 64 + d.val, by omega⟩ : Fin 512)) := by
  rw [val_main_v14_apply, val_main_v13_apply, val_main_v12_apply]
  congr 1
  funext a
  fin_cases a <;> refine Fin.ext ?_ <;> simp [ix3, ix4] <;> omega

theorem floor256 : ∀ pos : Fin 8192, Scalar.select
      (IntOp.andi
        (IntOp.cmpi CmpIPredicate.ne
          (if BitVec.ofNat 32 pos.val = 0 then 0 else if (BitVec.ofNat 32 pos.val).msb = true then -1 else 1)
          (if (256#32) = 0 then 0 else if BitVec.msb (256#32) = true then -1 else (1 : BitVec 32)))
        (IntOp.cmpi CmpIPredicate.ne (IntOp.remsi ArithUnit.host (BitVec.ofNat 32 pos.val) (256#32)) 0#32))
      (IntOp.subi (IntOp.divsi ArithUnit.host (BitVec.ofNat 32 pos.val) (256#32)) 1#32)
      (IntOp.divsi ArithUnit.host (BitVec.ofNat 32 pos.val) (256#32)) = BitVec.ofNat 32 (pos.val / 256) := by
  decide +kernel

theorem r20 (pos : Fin 8192) : val_main_v20 (F := Ideal) (ix1 pos) = BitVec.ofNat 32 (pos.val / 256) := by
  pointwise [val_main_v20, val_main_call0_v11, val_main_call0_v13, val_main_call0_v2, val_main_call0_v6, val_main_call0_v10, val_main_v19, val_main_call0_v1, val_main_call0_v0, val_main_c, val_main_call0_v12, val_main_call0_c_0, val_main_call0_v9, val_main_call0_c, val_main_call0_v8, val_main_call0_v7, val_main_call0_v5, val_main_call0_v4, val_main_call0_v3]
  show Scalar.select
      (IntOp.andi
        (IntOp.cmpi CmpIPredicate.ne
          (if BitVec.ofNat 32 pos.val = 0 then 0 else if (BitVec.ofNat 32 pos.val).msb = true then -1 else 1)
          (if (256#32) = 0 then 0 else if BitVec.msb (256#32) = true then -1 else (1 : BitVec 32)))
        (IntOp.cmpi CmpIPredicate.ne (IntOp.remsi ArithUnit.host (BitVec.ofNat 32 pos.val) (256#32)) 0#32))
      (IntOp.subi (IntOp.divsi ArithUnit.host (BitVec.ofNat 32 pos.val) (256#32)) 1#32)
      (IntOp.divsi ArithUnit.host (BitVec.ofNat 32 pos.val) (256#32)) = BitVec.ofNat 32 (pos.val / 256)
  exact floor256 pos

theorem r21 (b : Fin 2) (g : Fin 8) (pos : Fin 8192) (n : Fin 32) :
    val_main_v21 (F := Ideal) x0 x3 (ix4 b g pos n) = ∑ d : Fin 64, x0 (ix2 (⟨b.val * 8192 + pos.val, by omega⟩ : Fin 16640) (⟨g.val * 64 + d.val, by omega⟩ : Fin 512))
      * x3 (ix3 (⟨b.val * 32 + n.val, by omega⟩ : Fin 65) (0 : Fin 1) (⟨g.val * 64 + d.val, by omega⟩ : Fin 512)) := by
  rw [val_main_v21_apply]
  refine Finset.sum_congr rfl fun d _ => ?_
  rw [← r1 x0 b pos g d, ← r14 x3 b g n d]
  congr 2 <;> (funext a; fin_cases a <;> rfl)

theorem r28 (b : Fin 2) (g : Fin 8) (pos : Fin 8192) (n : Fin 32) :
    val_main_v28 (F := Ideal) x0 x3 (ix4 b g pos n) = if n.val < pos.val / 256 then val_main_v21 (F := Ideal) x0 x3 (ix4 b g pos n) else (⊥ : EReal) := by
  pointwise [val_main_v28, val_main_call1_v1, val_main_call1_v2, val_main_call1_v0, val_main_v27, val_main_v25, val_main_v26, val_main_v23, val_main_v22, val_main_v24, val_main_cst]
  rw [r20, cmpi_slt_ofNat _ _ (by omega) (by omega), select_ofBool]
  show (if _ then _ else Ideal.ofBits .f32 0xFF800000#32) = _
  rw [ofBits_negInf]

end Cert.Proof

end
-- ==== Proof.RSel.lean ====
module

public import proofs.«01_k».proof.Proof.RIn
public import proofs.«01_k».proof.Proof.Gen.ReferenceIdeal.Read
public import Idealize.ShloMosaic.Lib.Pointwise
public import Idealize.ShloMosaic.Lib.ValueIdxRank6

/-!
# The reference's chosen blocks

The positions of the three greatest scores, and the rows gathered at them.
-/

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S16640x512, .f32⟩ : BufTy).Contents (Elt Ideal)) (x1 x2 : (⟨S16640x512, .bf16⟩ : BufTy).Contents (Elt Ideal))
  (x3 : (⟨S65x1x512, .f32⟩ : BufTy).Contents (Elt Ideal))

theorem gt_word (a b : EReal) : (FloatOps.cmpfTotal (F := Ideal) (φ := .f32) CmpDirection.gt a b == 1#1) = decide (b < a) := by
  show (BitVec.ofBool (decide (b < a)) == 1#1) = decide (b < a)
  by_cases h : b < a <;> simp [h]

theorem rIdx (b : Fin 2) (g : Fin 8) (pos : Fin 8192) (r : Fin 3) :
    val_main_indices (F := Ideal) x0 x3 (ix4 b g pos r) = BitVec.ofNat 32 (topAt (fun n => val_main_v28 (F := Ideal) x0 x3 (ix4 b g pos n)) r).val := by
  unfold val_main_indices
  generalize val_main_v28 (F := Ideal) x0 x3 = X
  unfold Host.topK Host.sort2 topAt
  simp only [dif_pos (show 3 < S2x8x8192x32.rank by decide)]
  have al : ∀ (r' k : Fin 32) (h3 : 3 < S2x8x8192x32.rank), Shape.Idx.along (s := S2x8x8192x32) (ix4 b g pos r') ⟨3, h3⟩ k = ix4 b g pos k := fun r' k h3 => by
    funext a
    unfold Shape.Idx.along
    fin_cases a
    · exact Function.update_of_ne (by intro h; exact absurd (congrArg Fin.val h) (by decide +revert)) _ _
    · exact Function.update_of_ne (by intro h; exact absurd (congrArg Fin.val h) (by decide +revert)) _ _
    · exact Function.update_of_ne (by intro h; exact absurd (congrArg Fin.val h) (by decide +revert)) _ _
    · exact Function.update_self _ _ _
  have hs : (fun k k' : Fin 32 => FloatOps.cmpfTotal (F := Ideal) (φ := .f32) CmpDirection.gt (X (ix4 b g pos k)) (X (ix4 b g pos k')) == 1#1)
      = gtB fun n => X (ix4 b g pos n) := by
    funext k k'
    exact gt_word _ _
  refine (extractStridedSlice_apply (fun _ => 0) _ sliceFits_S2x8x8192x32_S2x8x8192x3 (ix4 b g pos r) (ix4 b g pos (r.castLE (by decide))) (fun a => by fin_cases a <;> simp [ix4])).trans ?_
  refine congrArg (BitVec.ofNat 32) (congrArg Fin.val ((Function.update_self _ _ _).trans ?_))
  refine congrArg (fun R : Fin 32 → Fin 32 → Bool => sortedFrom R (r.castLE (by decide))) ((funext fun k => funext fun k' => ?_).trans hs)
  exact congrArg₂ (fun u v => FloatOps.cmpfTotal (F := Ideal) (φ := .f32) CmpDirection.gt u v == 1#1) (congrArg X (al _ k _)) (congrArg X (al _ k' _))

theorem min31 : ∀ n : Fin 32, IntOp.minsi (BitVec.ofNat 32 n.val) 31#32 = BitVec.ofNat 32 n.val := by decide +kernel

theorem r33 (b : Fin 2) (g : Fin 8) (pos : Fin 8192) (r : Fin 4) :
    val_main_v33 (F := Ideal) x0 x3 (ix4 b g pos r) = BitVec.ofNat 32 (slotB ⟨pos.val / 256, by omega⟩ (fun n => val_main_v28 (F := Ideal) x0 x3 (ix4 b g pos n)) r).val := by
  pointwise [val_main_v33, val_main_v30, val_main_v29, val_main_c_0, val_main_v32, val_main_v31]
  unfold slotB slB
  split
  · rw [rIdx]; exact min31 _
  · exact r20 pos

theorem neg32 (w a : BitVec 32) (n : ℕ) (hn : n < 32) (hw : w = BitVec.ofNat 32 n) : Scalar.select (IntOp.cmpi CmpIPredicate.slt w 0#32) (IntOp.addi w a) w = BitVec.ofNat 32 n := by
  subst hw
  rw [show (0#32) = BitVec.ofNat 32 0 from rfl, cmpi_slt_ofNat _ _ (by omega) (by omega), select_ofBool]
  exact if_neg (by simp)

/-- The word at place `k` of the gather's index triple. -/
def trip (b : Fin 2) (g : Fin 8) (n : Fin 32) (k : Fin 3) : BitVec 32 :=
  if k.val < 1 then BitVec.ofNat 32 b.val else if k.val - 1 < 1 then BitVec.ofNat 32 g.val else BitVec.ofNat 32 n.val

theorem r54 (b : Fin 2) (g : Fin 8) (pos : Fin 8192) (r : Fin 4) (k : Fin 3) :
    val_main_v54 (F := Ideal) x0 x3 (ix5 b g pos r k) = trip b g (slotB ⟨pos.val / 256, by omega⟩ (fun n => val_main_v28 (F := Ideal) x0 x3 (ix4 b g pos n)) r) k := by
  pointwise [val_main_v54, val_main_v51, val_main_v52, val_main_v53, val_main_v49, val_main_v50, val_main_v48, val_main_v38, val_main_v43, val_main_v45, val_main_v47, val_main_v46, val_main_c_6, val_main_v44, val_main_c_5,
    val_main_v35, val_main_v37, val_main_v36, val_main_c_2, val_main_v34, val_main_c_1, val_main_v16, val_main_v15, val_main_v40, val_main_v42, val_main_v41, val_main_c_4, val_main_v39, val_main_c_3, val_main_v18, val_main_v17]
  unfold trip
  split
  · exact neg32 _ _ _ (by omega) rfl
  split
  · exact neg32 _ _ _ (by omega) rfl
  · exact neg32 _ _ _ (by omega) (r33 ..)

theorem r76 (b : Fin 2) (g : Fin 8) (pos : Fin 8192) (r : Fin 4) (k : Fin 3) :
    val_main_v76 (F := Ideal) x0 x3 (ix5 b g pos r k) = trip b g (slotB ⟨pos.val / 256, by omega⟩ (fun n => val_main_v28 (F := Ideal) x0 x3 (ix4 b g pos n)) r) k := by
  pointwise [val_main_v76, val_main_v73, val_main_v74, val_main_v75, val_main_v71, val_main_v72, val_main_v70, val_main_v60, val_main_v65, val_main_v67, val_main_v69, val_main_v68, val_main_c_12, val_main_v66, val_main_c_11,
    val_main_v57, val_main_v59, val_main_v58, val_main_c_8, val_main_v56, val_main_c_7, val_main_v16, val_main_v15, val_main_v62, val_main_v64, val_main_v63, val_main_c_10, val_main_v61, val_main_c_9, val_main_v18, val_main_v17]
  unfold trip
  split
  · exact neg32 _ _ _ (by omega) rfl
  split
  · exact neg32 _ _ _ (by omega) rfl
  · exact neg32 _ _ _ (by omega) (r33 ..)

theorem small_nat (n : ℕ) (hn : n < 32) : (BitVec.ofNat 32 n).toInt.toNat = n := by
  rw [BitVec.toInt_eq_toNat_of_lt (by rw [BitVec.toNat_ofNat]; omega), BitVec.toNat_ofNat]; omega

theorem gat (X : S2x8x32x256x64.Idx → EReal) (idx : IVec S2x8x8192x4x3 32) (b : Fin 2) (g : Fin 8) (n : Fin 32) (pos : Fin 8192) (r : Fin 4) (j : Fin 256) (d : Fin 64)
    (h : ∀ k, idx (ix5 b g pos r k) = trip b g n k) :
    Host.gather gather_S2x8x32x256x64_S2x8x8192x4x3_S2x8x8192x4x256x64_45_012_n_n_012_4_11125664 X idx (ix6 b g pos r j d) = X (ix5 b g n j d) := by
  refine congrArg X (funext fun a => Fin.ext ?_)
  have e : ∀ k : Fin 3, GatherDims.siIdx gather_S2x8x32x256x64_S2x8x8192x4x3_S2x8x8192x4x256x64_45_012_n_n_012_4_11125664 (ix6 b g pos r j d) k = ix5 b g pos r k := by
    intro k
    funext c
    fin_cases c <;> rfl
  show GatherDims.start _ _ idx a + GatherDims.batchCoord _ _ a + GatherDims.offCoord _ _ a = _
  unfold GatherDims.start GatherDims.batchCoord GatherDims.offCoord
  fin_cases a
  · rw [dif_pos (by decide), dif_neg (by decide), dif_neg (by decide)]
    show min (idx (GatherDims.siIdx gather_S2x8x32x256x64_S2x8x8192x4x3_S2x8x8192x4x256x64_45_012_n_n_012_4_11125664 (ix6 b g pos r j d) (0 : Fin 3))).toInt.toNat (2 - 1) + 0 + 0 = b.val
    rw [e 0, h 0]
    show min (BitVec.ofNat 32 b.val).toInt.toNat (2 - 1) + 0 + 0 = b.val
    rw [small_nat _ (by omega)]; omega
  · rw [dif_pos (by decide), dif_neg (by decide), dif_neg (by decide)]
    show min (idx (GatherDims.siIdx gather_S2x8x32x256x64_S2x8x8192x4x3_S2x8x8192x4x256x64_45_012_n_n_012_4_11125664 (ix6 b g pos r j d) (1 : Fin 3))).toInt.toNat (8 - 1) + 0 + 0 = g.val
    rw [e 1, h 1]
    show min (BitVec.ofNat 32 g.val).toInt.toNat (8 - 1) + 0 + 0 = g.val
    rw [small_nat _ (by omega)]; omega
  · rw [dif_pos (by decide), dif_neg (by decide), dif_neg (by decide)]
    show min (idx (GatherDims.siIdx gather_S2x8x32x256x64_S2x8x8192x4x3_S2x8x8192x4x256x64_45_012_n_n_012_4_11125664 (ix6 b g pos r j d) (2 : Fin 3))).toInt.toNat (32 - 1) + 0 + 0 = n.val
    rw [e 2, h 2]
    show min (BitVec.ofNat 32 n.val).toInt.toNat (32 - 1) + 0 + 0 = n.val
    rw [small_nat _ (by omega)]; omega
  · rw [dif_neg (by decide), dif_neg (by decide), dif_pos (by decide)]
    show 0 + 0 + j.val = j.val
    omega
  · rw [dif_neg (by decide), dif_neg (by decide), dif_pos (by decide)]
    show 0 + 0 + d.val = d.val
    omega

theorem r55 (b : Fin 2) (g : Fin 8) (pos : Fin 8192) (r : Fin 4) (j : Fin 256) (d : Fin 64) :
    val_main_v55 (F := Ideal) x0 x1 x3 (ix6 b g pos r j d)
      = val_main_v9 (F := Ideal) x1 (ix5 b g (slotB ⟨pos.val / 256, by omega⟩ (fun n => val_main_v28 (F := Ideal) x0 x3 (ix4 b g pos n)) r) j d) := by
  unfold val_main_v55
  exact gat _ _ _ _ _ _ _ _ _ (r54 x0 x3 b g pos r)

theorem r77 (b : Fin 2) (g : Fin 8) (pos : Fin 8192) (r : Fin 4) (j : Fin 256) (d : Fin 64) :
    val_main_v77 (F := Ideal) x0 x2 x3 (ix6 b g pos r j d)
      = val_main_v11 (F := Ideal) x2 (ix5 b g (slotB ⟨pos.val / 256, by omega⟩ (fun n => val_main_v28 (F := Ideal) x0 x3 (ix4 b g pos n)) r) j d) := by
  unfold val_main_v77
  exact gat _ _ _ _ _ _ _ _ _ (r76 x0 x3 b g pos r)

end Cert.Proof

end
-- ==== Proof.RLog.lean ====
module

public import proofs.«01_k».proof.Proof.RSel

/-!
# The reference's logits

The reference's block scores and masked logits are the ones the kernel's result is written in.
-/

@[expose] public section

set_option maxRecDepth 16384

noncomputable section

namespace Cert.Proof

open Cert.ReferenceIdeal Cert.ReferenceIdeal.Gen Cert.ReferenceIdeal.Read Idealize.ShloMosaic Idealize.ShloMosaic.TcCoe

/-- The position of row `c` of query block `qi`. -/
def posOf (qi : Fin 32) (c : Fin 256) : Fin 8192 := ⟨qi.val * 256 + c.val, by omega⟩

/-- The head `h` of lane group `p`. -/
def hdAt (p : Fin 4) (h : Fin 2) : Fin 8 := ⟨p.val * 2 + h.val, by omega⟩

theorem posOf_div (qi : Fin 32) (c : Fin 256) : (posOf qi c).val / 256 = qi.val := by
  show (qi.val * 256 + c.val) / 256 = qi.val
  omega

theorem hd_lane (p : Fin 4) (h : Fin 2) (d : Fin 64) : (hdAt p h).val * 64 + d.val = p.val * 128 + (lane h d).val := by
  rw [lane_val]
  show (p.val * 2 + h.val) * 64 + d.val = _
  omega

variable (x0 : (⟨S16640x512, .f32⟩ : BufTy).Contents (Elt Ideal)) (x1 x2 : (⟨S16640x512, .bf16⟩ : BufTy).Contents (Elt Ideal))
  (x3 : (⟨S65x1x512, .f32⟩ : BufTy).Contents (Elt Ideal))
variable (Q : Fin 16640 → Fin 512 → ℝ) (B : Fin 65 → Fin 512 → ℝ) (K : Fin 16640 → Fin 512 → ℝ)

theorem q1 (hQ : ∀ r l, x0 (ix2 r l) = ((Q r l : ℝ) : EReal)) (b : Fin 2) (qi : Fin 32) (p : Fin 4) (h : Fin 2) (c : Fin 256) (d : Fin 64) :
    val_main_v1 (F := Ideal) x0 (ix4 b (posOf qi c) (hdAt p h) d) = ((qB Q b qi p c (lane h d) : ℝ) : EReal) := by
  rw [r1, hQ]
  unfold qB
  refine congrArg _ (congrArg₂ Q (Fin.ext ?_) (Fin.ext (hd_lane p h d)))
  show b.val * 8192 + (qi.val * 256 + c.val) = (b.val * 32 + qi.val) * 256 + c.val
  omega

theorem b14 (hB : ∀ r l, x3 (ix3 r (0 : Fin 1) l) = ((B r l : ℝ) : EReal)) (b : Fin 2) (p : Fin 4) (h : Fin 2) (n : Fin 32) (d : Fin 64) :
    val_main_v14 (F := Ideal) x3 (ix4 b (hdAt p h) n d) = ((bB B b p (up n) (lane h d) : ℝ) : EReal) := by
  rw [r14, hB]
  unfold bB
  rw [dif_pos (show (up n).val < 32 by rw [up_val]; exact n.isLt)]
  refine congrArg _ (congrArg₂ B (Fin.ext ?_) (Fin.ext (hd_lane p h d)))
  show b.val * 32 + n.val = b.val * 32 + (up n).val
  rw [up_val]

theorem k9 (hK : ∀ r l, x1 (ix2 r l) = ((K r l : ℝ) : EReal)) (b : Fin 2) (p : Fin 4) (h : Fin 2) (n : Fin 32) (j : Fin 256) (d : Fin 64) :
    val_main_v9 (F := Ideal) x1 (ix5 b (hdAt p h) n j d) = ((Kn (rB K b p) n j (lane h d) : ℝ) : EReal) := by
  rw [r9, hK]
  unfold Kn rB
  exact congrArg _ (congrArg₂ K rfl (Fin.ext (hd_lane p h d)))

theorem s28 (hQ : ∀ r l, x0 (ix2 r l) = ((Q r l : ℝ) : EReal)) (hB : ∀ r l, x3 (ix3 r (0 : Fin 1) l) = ((B r l : ℝ) : EReal))
    (b : Fin 2) (qi : Fin 32) (p : Fin 4) (h : Fin 2) (c : Fin 256) :
    (fun n => val_main_v28 (F := Ideal) x0 x3 (ix4 b (hdAt p h) (posOf qi c) n)) = sB Q B b qi p h c := by
  funext n
  rw [r28, posOf_div]
  unfold sB scS
  refine if_congr Iff.rfl ?_ rfl
  rw [r21]
  unfold sc
  rw [coe_sum]
  refine Finset.sum_congr rfl fun d _ => ?_
  rw [EReal.coe_mul, mul_comm, ← b14 x3 B hB, ← q1 x0 Q hQ, r1, r14]

theorem slotB_qi (a a' : Fin 32) (h : a = a') (s : Fin 32 → EReal) (r : Fin 4) : slotB a s r = slotB a' s r := by rw [h]

theorem v80 (hQ : ∀ r l, x0 (ix2 r l) = ((Q r l : ℝ) : EReal)) (hB : ∀ r l, x3 (ix3 r (0 : Fin 1) l) = ((B r l : ℝ) : EReal))
    (hK : ∀ r l, x1 (ix2 r l) = ((K r l : ℝ) : EReal))
    (b : Fin 2) (qi : Fin 32) (p : Fin 4) (h : Fin 2) (c : Fin 256) (r : Fin 4) (j : Fin 256) :
    val_main_v80 (F := Ideal) x0 x1 x3 (ix5 b (hdAt p h) (posOf qi c) r j)
      = ((lgt (qB Q b qi p) (Kn (rB K b p) (slotB qi (sB Q B b qi p h c) r)) h c j : ℝ) : EReal) := by
  have e : val_main_v78 (F := Ideal) x0 x1 x3 (ix5 b (hdAt p h) (posOf qi c) r j)
      = ((∑ d : Fin 64, qB Q b qi p c (lane h d) * Kn (rB K b p) (slotB qi (sB Q B b qi p h c) r) j (lane h d) : ℝ) : EReal) := by
    rw [val_main_v78_apply, coe_sum]
    refine Finset.sum_congr rfl fun d _ => ?_
    rw [EReal.coe_mul, ← q1 x0 Q hQ, ← k9 x1 K hK, ← s28 x0 x3 Q B hQ hB, ← slotB_qi ⟨(posOf qi c).val / 256, by omega⟩ qi (Fin.ext (posOf_div qi c)),
      ← r55 x0 x1 x3 b (hdAt p h) (posOf qi c) r j d]
    congr 2 <;> (funext a; fin_cases a <;> rfl)
  pointwise [val_main_v80, val_main_v79, val_main_cst_13]
  rw [e]
  show _ * Ideal.ofBits .f32 0x3E000000#32 = _
  rw [ofBits_eighth, ← EReal.coe_mul, Finset.sum_mul]
  unfold lgt
  refine congrArg _ (Finset.sum_congr rfl fun d _ => ?_)
  ring

theorem toInt_small (a : Nat) (ha : a < 10000) : (BitVec.ofNat 32 a).toInt = a := by
  rw [BitVec.toInt_eq_toNat_cond, BitVec.toNat_ofNat]
  split <;> omega

theorem sle_word (a b : Nat) (ha : a < 10000) (hb : b < 10000) :
    IntOp.cmpi .sle (BitVec.ofNat 32 a) (BitVec.ofNat 32 b) = BitVec.ofBool (decide (a ≤ b)) := by
  simp only [IntOp.cmpi, BitVec.sle_eq_decide, toInt_small a ha, toInt_small b hb, Nat.cast_le]

theorem key_word (q j : Nat) : IntOp.addi (IntOp.muli (BitVec.ofNat 32 q) (256#32)) (BitVec.ofNat 32 j) = BitVec.ofNat 32 (q * 256 + j) := by
  show BitVec.ofNat 32 q * BitVec.ofNat 32 256 + BitVec.ofNat 32 j = _
  rw [← BitVec.ofNat_mul, ← BitVec.ofNat_add]

theorem mask103 (b : Fin 2) (g : Fin 8) (qi : Fin 32) (c : Fin 256) (r : Fin 4) (j : Fin 256) :
    val_main_v103 (F := Ideal) x0 x1 x3 (ix5 b g (posOf qi c) r j)
      = if (r.val < 3 ∧ r.val < qi.val) ∨ (r.val = 3 ∧ j.val ≤ c.val) then val_main_v80 (F := Ideal) x0 x1 x3 (ix5 b g (posOf qi c) r j) else (⊥ : EReal) := by
  pointwise [val_main_v103, val_main_call2_v1, val_main_call2_v2, val_main_call2_v0, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_cst_15]
  have e19 : val_main_v19 (F := Ideal) (ix1 (posOf qi c)) = BitVec.ofNat 32 (qi.val * 256 + c.val) := by
    pointwise [val_main_v19]
    rfl
  rw [r20, posOf_div, e19]
  show Scalar.select (if h : r.val < 3 then _ else IntOp.cmpi CmpIPredicate.sle
    (IntOp.addi (IntOp.muli (BitVec.ofNat 32 qi.val) (256#32)) (BitVec.ofNat 32 j.val)) _) _ (Ideal.ofBits .f32 0xFF800000#32) = _
  rw [ofBits_negInf]
  by_cases hr : r.val < 3
  · rw [dif_pos hr, cmpi_slt_ofNat _ _ (by omega) (by omega), select_ofBool]
    exact if_congr (by omega) rfl rfl
  · rw [dif_neg hr, key_word, sle_word _ _ (by omega) (by omega), select_ofBool]
    exact if_congr (by omega) rfl rfl

theorem l103 (hQ : ∀ r l, x0 (ix2 r l) = ((Q r l : ℝ) : EReal)) (hB : ∀ r l, x3 (ix3 r (0 : Fin 1) l) = ((B r l : ℝ) : EReal))
    (hK : ∀ r l, x1 (ix2 r l) = ((K r l : ℝ) : EReal))
    (b : Fin 2) (qi : Fin 32) (p : Fin 4) (h : Fin 2) (c : Fin 256) (r : Fin 4) (j : Fin 256) :
    val_main_v103 (F := Ideal) x0 x1 x3 (ix5 b (hdAt p h) (posOf qi c) r j)
      = slotL (qB Q b qi p) (rB K b p) qi (sB Q B b qi p h c) h c r j := by
  rw [mask103, v80 x0 x1 x3 Q B K hQ hB hK]
  rfl

end Cert.Proof

end
-- ==== Proof.RAtt.lean ====
module

public import proofs.«01_k».proof.Proof.RLog
public import Idealize.ShloMosaic.Lib.TwoAxisContraction

/-!
# The reference's attention

The reference's softmax over a row's 1024 logits and its product with the values.
-/

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S16640x512, .f32⟩ : BufTy).Contents (Elt Ideal)) (x1 x2 : (⟨S16640x512, .bf16⟩ : BufTy).Contents (Elt Ideal))
  (x3 : (⟨S65x1x512, .f32⟩ : BufTy).Contents (Elt Ideal))

/-- The flat index of slot `r`, key `j`. -/
def flatKey (r : Fin 4) (j : Fin 256) : Fin 1024 := ⟨r.val * 256 + j.val, by omega⟩

theorem sum_flat {M : Type} [AddCommMonoid M] (f : Fin 1024 → M) : ∑ k, f k = ∑ r : Fin 4, ∑ j : Fin 256, f (flatKey r j) := by
  rw [← Fintype.sum_prod_type' (f := fun r j => f (flatKey r j)), ← Equiv.sum_comp (finProdFinEquiv (m := 4) (n := 256)) f]
  refine Finset.sum_congr rfl fun k _ => congrArg f (Fin.ext ?_)
  show k.2.val + 256 * k.1.val = k.1.val * 256 + k.2.val
  omega

theorem r104 (b : Fin 2) (g : Fin 8) (pos : Fin 8192) (r : Fin 4) (j : Fin 256) :
    val_main_v104 (F := Ideal) x0 x1 x3 (ix4 b g pos (flatKey r j)) = val_main_v103 (F := Ideal) x0 x1 x3 (ix5 b g pos r j) := by
  rw [val_main_v104_apply]
  congr 1
  funext a
  fin_cases a <;> refine Fin.ext ?_ <;> simp [ix4, ix5, flatKey] <;> omega

theorem fold_eq {N : ℕ} (b b' : EReal) (hb : b = b') (f f' : Fin N → EReal) (hf : ∀ k, f k = f' k) :
    Finset.fold (FloatOps.maximumf (F := Ideal) (φ := .f32)) b f Finset.univ = Finset.fold max b' f' Finset.univ := by
  rw [hb, funext hf]
  rfl

theorem hi105 : val_main_cst_16 (F := Ideal) (Shape.Idx.first h_S_) = (⊥ : EReal) := by
  rw [val_main_cst_16_apply]
  exact ofBits_negInf

theorem r105 (b : Fin 2) (g : Fin 8) (pos : Fin 8192) :
    val_main_v105 (F := Ideal) x0 x1 x3 (ix3 b g pos) = Finset.fold max (⊥ : EReal) (fun k : Fin 1024 => val_main_v104 (F := Ideal) x0 x1 x3 (ix4 b g pos k)) Finset.univ := by
  unfold val_main_v105
  generalize val_main_v104 (F := Ideal) x0 x1 x3 = x
  rw [Host.reduce_eq_fold, Shape.ReducesTo.fold_fiber_r4_a3]
  refine fold_eq _ _ hi105 _ _ fun k => congrArg x ?_
  funext a; fin_cases a <;> rfl

theorem mx (y : EReal) : max (Ideal.ofBits .f32 0xFF800000#32) y = y := by
  rw [ofBits_negInf, max_eq_right bot_le]

theorem r107 (b : Fin 2) (g : Fin 8) (pos : Fin 8192) :
    val_main_v107 (F := Ideal) x0 x1 x3 (ix3 b g pos) = val_main_v105 (F := Ideal) x0 x1 x3 (ix3 b g pos) := by
  rw [val_main_v107_apply, val_main_v106_apply]
  exact mx _

theorem r109 (b : Fin 2) (g : Fin 8) (pos : Fin 8192) (k : Fin 1024) :
    val_main_v109 (F := Ideal) x0 x1 x3 (ix4 b g pos k) = val_main_v105 (F := Ideal) x0 x1 x3 (ix3 b g pos) := by
  rw [val_main_v109_apply, val_main_v108_apply, ← r107]
  refine congrArg (val_main_v107 (F := Ideal) x0 x1 x3) ?_
  funext a; fin_cases a <;> rfl

theorem r111 (b : Fin 2) (g : Fin 8) (pos : Fin 8192) (k : Fin 1024) :
    val_main_v111 (F := Ideal) x0 x1 x3 (ix4 b g pos k)
      = Ideal.exp (val_main_v104 (F := Ideal) x0 x1 x3 (ix4 b g pos k) - val_main_v105 (F := Ideal) x0 x1 x3 (ix3 b g pos)) := by
  rw [val_main_v111_apply, val_main_v110_apply, r109]
  rfl

theorem r112 (b : Fin 2) (g : Fin 8) (pos : Fin 8192) :
    val_main_v112 (F := Ideal) x0 x1 x3 (ix3 b g pos) = ∑ k : Fin 1024, val_main_v111 (F := Ideal) x0 x1 x3 (ix4 b g pos k) := by
  rw [val_main_v112_apply]
  show Ideal.ofBits .f32 0x00000000#32 + _ = _
  rw [show Ideal.ofBits .f32 0x00000000#32 = 0 from Ideal.ofBits_zero_f32, zero_add]
  refine Finset.sum_congr rfl fun d _ => ?_
  congr 1
  funext a; fin_cases a <;> rfl

theorem r116 (b : Fin 2) (g : Fin 8) (pos : Fin 8192) (r : Fin 4) (j : Fin 256) :
    val_main_v116 (F := Ideal) x0 x1 x3 (ix5 b g pos r j)
      = Ideal.div (val_main_v111 (F := Ideal) x0 x1 x3 (ix4 b g pos (flatKey r j))) (val_main_v112 (F := Ideal) x0 x1 x3 (ix3 b g pos)) := by
  have e : val_main_v116 (F := Ideal) x0 x1 x3 (ix5 b g pos r j) = val_main_v115 (F := Ideal) x0 x1 x3 (ix4 b g pos (flatKey r j)) := by
    rw [val_main_v116_apply]
    congr 1
    funext a
    fin_cases a <;> refine Fin.ext ?_ <;> simp [ix4, ix5, flatKey] <;> omega
  rw [e]
  unfold val_main_v115 val_main_v114 val_main_v113
  generalize val_main_v111 (F := Ideal) x0 x1 x3 = x
  generalize val_main_v112 (F := Ideal) x0 x1 x3 = y
  pointwise

theorem r117 (b : Fin 2) (g : Fin 8) (pos : Fin 8192) (d : Fin 64) :
    val_main_v117 (F := Ideal) x0 x1 x2 x3 (ix4 b pos g d)
      = ∑ k : Fin 4 × Fin 256, val_main_v116 (F := Ideal) x0 x1 x3 (ix5 b g pos k.1 k.2) * val_main_v77 (F := Ideal) x0 x2 x3 (ix6 b g pos k.1 k.2 d) := by
  unfold val_main_v117
  generalize val_main_v116 (F := Ideal) x0 x1 x3 = y0
  generalize val_main_v77 (F := Ideal) x0 x2 x3 = y1
  simp only [Host.dotGeneral]
  rw [Ideal.dotGeneral_apply, ← Equiv.sum_comp ((Equiv.prodComm (Fin 4) (Fin 256)).trans (ValueIdx.contrEquiv2 dot_S2x8x8192x4x256_S2x8x8192x4x256x64_S2x8192x8x64_43_43_n_5_021_021 256 4 rfl rfl rfl).symm)]
  refine Finset.sum_congr rfl fun k _ => ?_
  have h0 := ValueIdx.contrEquiv2_symm_val0 dot_S2x8x8192x4x256_S2x8x8192x4x256x64_S2x8192x8x64_43_43_n_5_021_021 256 4 rfl rfl rfl (k.2, k.1)
  have h1 := ValueIdx.contrEquiv2_symm_val1 dot_S2x8x8192x4x256_S2x8x8192x4x256x64_S2x8192x8x64_43_43_n_5_021_021 256 4 rfl rfl rfl (k.2, k.1)
  refine congrArg₂ (· * ·) (congrArg y0 ?_) (congrArg y1 ?_)
  · funext a; apply Fin.ext
    match a with
    | ⟨0, _⟩ => rfl
    | ⟨1, _⟩ => rfl
    | ⟨2, _⟩ => rfl
    | ⟨3, _⟩ => exact h1
    | ⟨4, _⟩ => exact h0
  · funext a; apply Fin.ext
    match a with
    | ⟨0, _⟩ => rfl
    | ⟨1, _⟩ => rfl
    | ⟨2, _⟩ => rfl
    | ⟨3, _⟩ => exact h1
    | ⟨4, _⟩ => exact h0
    | ⟨5, _⟩ => rfl

end Cert.Proof

end
-- ==== Proof.RRes.lean ====
module

public import proofs.«01_k».proof.Proof.RAtt

/-!
# The reference's result

The reference's result entry by entry, and the equation with the kernel's result.
-/

@[expose] public section

set_option maxRecDepth 16384

noncomputable section

namespace Cert.Proof

open Cert.ReferenceIdeal Cert.ReferenceIdeal.Gen Cert.ReferenceIdeal.Read Idealize.ShloMosaic Idealize.ShloMosaic.TcCoe

variable (x0 : (⟨S16640x512, .f32⟩ : BufTy).Contents (Elt Ideal)) (x1 x2 : (⟨S16640x512, .bf16⟩ : BufTy).Contents (Elt Ideal))
  (x3 : (⟨S65x1x512, .f32⟩ : BufTy).Contents (Elt Ideal))
variable (Q : Fin 16640 → Fin 512 → ℝ) (B : Fin 65 → Fin 512 → ℝ) (K : Fin 16640 → Fin 512 → ℝ)

theorem slotL_ne_top (q : Fin 256 → Fin 128 → ℝ) (K : Fin 8192 → Fin 128 → ℝ) (qi : Fin 32) (s : Fin 32 → EReal) (h : Fin 2) (c : Fin 256) (r : Fin 4) (j : Fin 256) :
    slotL q K qi s h c r j ≠ ⊤ := by
  unfold slotL
  split
  · exact EReal.coe_ne_top _
  · exact bot_ne_top

theorem flat_exists (k : Fin 1024) : ∃ (r : Fin 4) (j : Fin 256), k = flatKey r j :=
  ⟨⟨k.val / 256, by omega⟩, ⟨k.val % 256, by omega⟩, Fin.ext (by show k.val = k.val / 256 * 256 + k.val % 256; omega)⟩

section
variable (hQ : ∀ r l, x0 (ix2 r l) = ((Q r l : ℝ) : EReal)) (hB : ∀ r l, x3 (ix3 r (0 : Fin 1) l) = ((B r l : ℝ) : EReal))
    (hK : ∀ r l, x1 (ix2 r l) = ((K r l : ℝ) : EReal))
    (b : Fin 2) (qi : Fin 32) (p : Fin 4) (h : Fin 2) (c : Fin 256)

include hQ hB hK

theorem l104 (r : Fin 4) (j : Fin 256) :
    val_main_v104 (F := Ideal) x0 x1 x3 (ix4 b (hdAt p h) (posOf qi c) (flatKey r j)) = slotL (qB Q b qi p) (rB K b p) qi (sB Q B b qi p h c) h c r j := by
  rw [r104, l103 x0 x1 x3 Q B K hQ hB hK]

theorem l104_ne_top (k : Fin 1024) : val_main_v104 (F := Ideal) x0 x1 x3 (ix4 b (hdAt p h) (posOf qi c) k) ≠ ⊤ := by
  obtain ⟨r, j, rfl⟩ := flat_exists k
  rw [l104 x0 x1 x3 Q B K hQ hB hK]
  exact slotL_ne_top _ _ _ _ _ _ _ _

theorem m105 : ∃ μ : ℝ, val_main_v105 (F := Ideal) x0 x1 x3 (ix3 b (hdAt p h) (posOf qi c)) = (μ : EReal) := by
  rw [r105]
  refine fold_real _ (l104_ne_top x0 x1 x3 Q B K hQ hB hK b qi p h c) (flatKey (Fin.last 3) 0)
    (lgt (qB Q b qi p) (Kn (rB K b p) (slotB qi (sB Q B b qi p h c) (Fin.last 3))) h c 0) ?_
  show val_main_v104 (F := Ideal) x0 x1 x3 (ix4 b (hdAt p h) (posOf qi c) (flatKey (Fin.last 3) 0)) = _
  rw [l104 x0 x1 x3 Q B K hQ hB hK]
  unfold slotL
  exact if_pos (Or.inr ⟨rfl, Nat.zero_le _⟩)

theorem w112 (μ : ℝ) (hμ : val_main_v105 (F := Ideal) x0 x1 x3 (ix3 b (hdAt p h) (posOf qi c)) = (μ : EReal)) :
    val_main_v112 (F := Ideal) x0 x1 x3 (ix3 b (hdAt p h) (posOf qi c))
      = ((Real.exp (-μ) : ℝ) : EReal) * ((attW (qB Q b qi p) (rB K b p) qi (sB Q B b qi p h c) h c : ℝ) : EReal) := by
  have e : ∀ k : Fin 1024, val_main_v111 (F := Ideal) x0 x1 x3 (ix4 b (hdAt p h) (posOf qi c) k)
      = 1 * Ideal.exp (val_main_v104 (F := Ideal) x0 x1 x3 (ix4 b (hdAt p h) (posOf qi c) k) - μ) := fun k => by
    rw [r111, hμ, one_mul]
  rw [r112, Finset.sum_congr rfl fun k _ => e k, sum_exp_sub _ (l104_ne_top x0 x1 x3 Q B K hQ hB hK b qi p h c) μ (fun _ => 1), sum_flat]
  unfold attW
  rw [coe_sum]
  refine congrArg _ (Finset.sum_congr rfl fun r _ => ?_)
  rw [coe_sum]
  refine Finset.sum_congr rfl fun j _ => ?_
  rw [l104 x0 x1 x3 Q B K hQ hB hK, one_mul]

theorem r77V (d : Fin 64) (r : Fin 4) (j : Fin 256) :
    val_main_v77 (F := Ideal) x0 x2 x3 (ix6 b (hdAt p h) (posOf qi c) r j d)
      = rB (fun r l => x2 (ix2 r l)) b p ⟨256 * (slotB qi (sB Q B b qi p h c) r).val + j.val, by omega⟩ (lane h d) := by
  rw [r77, s28 x0 x3 Q B hQ hB, slotB_qi _ qi (Fin.ext (posOf_div qi c)), r11]
  unfold rB
  exact congrArg x2 (congrArg₂ ix2 rfl (Fin.ext (hd_lane p h d)))

theorem res117 (d : Fin 64) :
    val_main_v117 (F := Ideal) x0 x1 x2 x3 (ix4 b (posOf qi c) (hdAt p h) d) = resAt Q B K (fun r l => x2 (ix2 r l)) b qi p h c d := by
  obtain ⟨μ, hμ⟩ := m105 x0 x1 x3 Q B K hQ hB hK b qi p h c
  rw [r117]
  unfold resAt attA
  rw [← Fintype.sum_prod_type' (f := fun (r : Fin 4) (j : Fin 256) => rB (fun r l => x2 (ix2 r l)) b p ⟨256 * (slotB qi (sB Q B b qi p h c) r).val + j.val, by omega⟩ (lane h d) * ((eexp (slotL (qB Q b qi p) (rB K b p) qi (sB Q B b qi p h c) h c r j) : ℝ) : EReal)),
    ← sum_div_mul _ μ (attW_pos (qB Q b qi p) (rB K b p) qi (sB Q B b qi p h c) h c)
      (fun k : Fin 4 × Fin 256 => slotL (qB Q b qi p) (rB K b p) qi (sB Q B b qi p h c) h c k.1 k.2) (fun k => slotL_ne_top _ _ _ _ _ _ _ _)]
  refine Finset.sum_congr rfl fun k _ => ?_
  rw [r116, r111, hμ, w112 x0 x1 x3 Q B K hQ hB hK b qi p h c μ hμ, l104 x0 x1 x3 Q B K hQ hB hK, r77V x0 x1 x2 x3 Q B K hQ hB hK]

end

theorem r118 (b : Fin 2) (pos : Fin 8192) (g : Fin 8) (d : Fin 64) (row : Fin 16384) (col : Fin 512)
    (hr : row.val = b.val * 8192 + pos.val) (hc : col.val = g.val * 64 + d.val) :
    val_main_v119 (F := Ideal) x0 x1 x2 x3 (ix2 row col) = val_main_v117 (F := Ideal) x0 x1 x2 x3 (ix4 b pos g d) := by
  show val_main_v118 (F := Ideal) x0 x1 x2 x3 (ix2 row col) = _
  rw [val_main_v118_apply]
  congr 1
  funext a
  fin_cases a <;> refine Fin.ext ?_ <;> simp [ix2, ix4, hr, hc] <;> omega

theorem res119 (hQ : ∀ r l, x0 (ix2 r l) = ((Q r l : ℝ) : EReal)) (hB : ∀ r l, x3 (ix3 r (0 : Fin 1) l) = ((B r l : ℝ) : EReal))
    (hK : ∀ r l, x1 (ix2 r l) = ((K r l : ℝ) : EReal)) :
    val_main_v119 (F := Ideal) x0 x1 x2 x3 = fun y : S16384x512.Idx => resArr Q B K (fun r l => x2 (ix2 r l)) (y 0) (y 1) := by
  funext y
  have hy0 : (y 0).val < 16384 := (y 0).isLt
  have hy1 : (y 1).val < 512 := (y 1).isLt
  have ey : y = ix2 (⟨(y 0).val, hy0⟩ : Fin 16384) (⟨(y 1).val, hy1⟩ : Fin 512) := by funext a; fin_cases a <;> rfl
  have e : val_main_v119 (F := Ideal) x0 x1 x2 x3 (ix2 (⟨(y 0).val, hy0⟩ : Fin 16384) (⟨(y 1).val, hy1⟩ : Fin 512)) = _ :=
    r118 x0 x1 x2 x3 ⟨(y 0).val / 8192, by omega⟩ (posOf ⟨(y 0).val / 256 % 32, by omega⟩ ⟨(y 0).val % 256, by omega⟩)
      (hdAt ⟨(y 1).val / 128, by omega⟩ ⟨(y 1).val / 64 % 2, by omega⟩) ⟨(y 1).val % 64, by omega⟩ _ _
      (by show (y 0).val = (y 0).val / 8192 * 8192 + ((y 0).val / 256 % 32 * 256 + (y 0).val % 256); omega)
      (by show (y 1).val = ((y 1).val / 128 * 2 + (y 1).val / 64 % 2) * 64 + (y 1).val % 64; omega)
  rw [← ey] at e
  rw [e, res117 x0 x1 x2 x3 Q B K hQ hB hK]
  rfl

end Cert.Proof

end
-- ==== Proof.Finite.lean ====
module

public import proofs.«01_k».proof.Proof.Gen.Pre_finite
public import proofs.«01_k».proof.Proof.KSel
public import proofs.«01_k».proof.Proof.Softmax
public import Idealize.ShloMosaic.Lib.ReduceAll
public import Idealize.ShloMosaic.Lib.Affine
public import Idealize.ShloMosaic.Lib.Pointwise

/-!
# The precondition, read

Where the precondition holds, the entries of the queries, the keys and the means are real numbers.
-/

@[expose] public section

set_option maxRecDepth 16384

noncomputable section

namespace Cert.Proof

open Cert.Pre_finite Idealize.ShloMosaic Idealize.ShloMosaic.TcCoe

theorem ofBits_inf : Ideal.ofBits .f32 0x7F800000#32 = (⊤ : EReal) := by
  simp [Ideal.ofBits, Ideal.ieee]

theorem real_of_abs (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [ofBits_inf] at h
  have h' : max x (-x) < (⊤ : EReal) := by
    by_contra hn
    have e : FloatOps.cmpf (F := Ideal) (φ := .f32) .olt (FloatOps.hostAbsf (F := Ideal) (φ := .f32) x) (⊤ : EReal) = BitVec.ofBool (decide (max x (-x) < ⊤)) := by
      simp [FloatOps.cmpf, FloatOps.hostAbsf, Ideal.cmp]
    rw [e, decide_eq_false hn] at h
    exact absurd h (by decide)
  refine (EReal.coe_toReal ?_ ?_).symm
  · rintro rfl
    simp at h'
  · rintro rfl
    simp at h'

theorem pre_real [Cert.Pre_finite.Facts] (a0 : FVec Ideal S16640x512 .f32) (a1 a2 : FVec Ideal S16640x512 .bf16) (a3 : FVec Ideal S65x1x512 .f32)
    (h : Cert.Pre_finite.fn (F := Ideal) a0 a1 a2 a3 = fun _ => 1#1) :
    (∀ i, a0 i = (((a0 i : EReal).toReal : ℝ) : EReal)) ∧ (∀ i, a1 i = (((a1 i : EReal).toReal : ℝ) : EReal)) ∧ (∀ i, a3 i = (((a3 i : EReal).toReal : ℝ) : EReal)) := by
  have h0 := congrFun h ix0
  dsimp only [fn] at h0
  obtain ⟨h1, h3⟩ := IntOp.andi_eq_one.1 h0
  obtain ⟨h1, h2⟩ := IntOp.andi_eq_one.1 h1
  refine ⟨fun i => real_of_abs _ ?_, fun i => real_of_abs _ ?_, fun i => real_of_abs _ ?_⟩
  · exact Host.reduce_andi_all _ _ _ _ _ h1 i
  · exact Host.reduce_andi_all _ _ _ _ _ h2 i
  · exact Host.reduce_andi_all _ _ _ _ _ h3 i

end Cert.Proof

end
-- ==== Proof.P2Spec.lean ====
module

public import Idealize.ShloMosaic.Lib.Pointwise
public import Idealize.ShloMosaic.Lib.ValueIdx

/-!
# The input projection, entry by entry

The rows of the projection, the head norm, the rotation and the gates, as functions of one row and one column.
-/

@[expose] public section

set_option maxRecDepth 16384

noncomputable section

namespace Cert.Proof.P2

open Idealize.ShloMosaic

/-- The literal added to a mean of squares. -/
def eps : EReal := Ideal.ofBits .f32 0x358637BD#32

/-- The literals of the three means. -/
def c1024 : EReal := Ideal.ofBits .f32 0x44800000#32
def c512 : EReal := Ideal.ofBits .f32 0x44000000#32
def c256 : EReal := Ideal.ofBits .f32 0x43800000#32
def c64 : EReal := Ideal.ofBits .f32 0x42800000#32

/-- One column of the projection of one row. -/
def zS (x g w : Fin 1024 → EReal) : EReal :=
  ∑ k, x k * Ideal.rsqrt (Ideal.div (∑ j, x j * x j) c1024 + eps) * g k * w k

/-- The smooth gate of one number. -/
def gel (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The norm of the gated value row. -/
def gvS (z : Fin 512 → EReal) (w : Fin 512 → EReal) (l : Fin 512) : EReal :=
  gel (z l) * Ideal.rsqrt (Ideal.div (∑ j, gel (z j) * gel (z j)) c512 + eps) * w l

/-- Lane `d` of the head of lane `l`. -/
def hl (l : Fin 512) (d : Fin 64) : Fin 512 := ⟨l.val / 64 * 64 + d.val, by omega⟩

/-- The norm of one head. -/
def hnS (z : Fin 512 → EReal) (w : Fin 64 → EReal) (l : Fin 512) : EReal :=
  z l * Ideal.rsqrt (Ideal.div (∑ d, z (hl l d) * z (hl l d)) c64 + eps) * w ⟨l.val % 64, by omega⟩

/-- The rotation of one head by the angles of one position. -/
def rpS (n : Fin 512 → EReal) (p : EReal) (inv : Fin 32 → EReal) (l : Fin 512) : EReal :=
  if h : l.val % 64 < 32 then
    n l * Ideal.cos (p * inv ⟨l.val % 32, by omega⟩) - n ⟨l.val + 32, by omega⟩ * Ideal.sin (p * inv ⟨l.val % 32, by omega⟩)
  else
    n l * Ideal.cos (p * inv ⟨l.val % 32, by omega⟩) + n ⟨l.val - 32, by omega⟩ * Ideal.sin (p * inv ⟨l.val % 32, by omega⟩)

/-- The position of a row. -/
def posS (r : Fin 16640) : ℕ := if r.val < 16384 then r.val % 8192 else 16384 + r.val % 8

/-- The position of a row as a number. -/
def pS (r : Fin 16640) : EReal := FloatOps.sitofp (F := Ideal) .f32 (BitVec.ofNat 32 (posS r))

/-- The frequency of a pair of lanes. -/
def invS (j : Fin 32) : EReal :=
  Ideal.exp (Ideal.div (Ideal.ofBits .f32 0xC1135D8E#32 * FloatOps.sitofp (F := Ideal) .f32 (BitVec.ofNat 32 j.val)) (Ideal.ofBits .f32 0x42000000#32))

/-- One row of the input arrays, joined. -/
def xS (x : Fin 2 → Fin 8192 → Fin 1024 → EReal) (y : Fin 32 → Fin 8 → Fin 1024 → EReal) (r : Fin 16640) (k : Fin 1024) : EReal :=
  if h : r.val < 16384 then x ⟨r.val / 8192, by omega⟩ ⟨r.val % 8192, by omega⟩ k else y ⟨(r.val - 16384) / 8, by omega⟩ ⟨(r.val - 16384) % 8, by omega⟩ k

end Cert.Proof.P2

end
-- ==== Proof.P2Pay.lean ====
module

public import proofs.«01_k».proof.Proof.P2Spec
public import proofs.«01_k».proof.Proof.Gen.Kernel2Ideal.Skeleton

/-!
# The plain columns of a block of rows
-/

@[expose] public section

set_option maxRecDepth 16384

noncomputable section

namespace Cert.Proof.P2

open Cert.Kernel2Ideal Cert.Kernel2Ideal.Gen Idealize.ShloMosaic Idealize.ShloMosaic.TcCoe

theorem pay2_apply (v0 : Vec Ideal S256x1024 .f32) (v2 : Vec Ideal S1x1024 .f32) (v17 : Vec Ideal S1024x4608 .bf16) (r : Fin 256) (c : Fin 4608) :
    k0_pay2 (F := Ideal) v0 v2 v17 (ix2 r c) = zS (fun k => v0 (ix2 r k)) (fun k => v2 (ix2 (0 : Fin 1) k)) (fun k => v17 (ix2 k c)) := by
  unfold zS c1024 eps
  pointwise [k0_pay2]
  try rfl

theorem pay25_apply (z : FVec Ideal S256x512 .f32) (r : Fin 256) (l : Fin 512) :
    k0_pay25 (F := Ideal) z (k0_pay24 (F := Ideal) z) (ix2 r l) = gel (z (ix2 r l)) := by
  unfold gel
  pointwise [k0_pay25, k0_pay24]
  try rfl

theorem pay26_apply (z : FVec Ideal S256x512 .f32) (w : Vec Ideal S1x512 .f32) (r : Fin 256) (l : Fin 512) :
    k0_pay26 (F := Ideal) z w (ix2 r l) = gvS (fun l => z (ix2 r l)) (fun l => w (ix2 (0 : Fin 1) l)) l := by
  unfold gvS gel c512 eps
  pointwise [k0_pay26]
  try rfl

theorem pay29_apply (k : FVec Ideal S256x512 .f32) (l : Fin 512) :
    k0_pay1 (F := Ideal) (k0_pay29 (F := Ideal) k) (k0_pay30 (F := Ideal)) (ix3 (0 : Fin 1) (0 : Fin 1) l) = Ideal.div (∑ r : Fin 256, k (ix2 r l)) c256 := by
  unfold c256
  pointwise [k0_pay1, k0_pay29, k0_pay30]
  try rfl

end Cert.Proof.P2

end
-- ==== Proof.P2Rope.lean ====
module

public import proofs.«01_k».proof.Proof.P2Pay

/-!
# The norm and the rotation of a block of rows
-/

@[expose] public section

set_option maxRecDepth 16384

noncomputable section

namespace Cert.Proof.P2

open Cert.Kernel2Ideal Cert.Kernel2Ideal.Gen Idealize.ShloMosaic Idealize.ShloMosaic.TcCoe

/-- The norm of the heads of a block, as the kernel computes it. -/
def nrmK (z : FVec Ideal S256x512 .f32) (s : FVec Ideal S512x512 .bf16) (w : FVec Ideal S1x512 .f32) : FVec Ideal S256x512 .f32 :=
  mulf (mulf z (rsqrt (addf (addf
    (matmul dot_S256x512_S512x512_S256x512_1_0_0_1_n_n none (truncf .bf16 (mulf z z) bitsLt_bf16_f32) s (constant S256x512 .f32 0x00000000#32))
    (matmul dot_S256x512_S512x512_S256x512_1_0_0_1_n_n none (truncf .bf16 (subf (mulf z z) (extf .f32 (truncf .bf16 (mulf z z) bitsLt_bf16_f32) bitsLt_bf16_f32)) bitsLt_bf16_f32) s (constant S256x512 .f32 0x00000000#32)))
    (broadcast S256x512 (Scalar.ofBits (F := Ideal) .f32 0x358637BD#32)))))
    (broadcastTo S256x512 w broadcasts_S1x512_S256x512)

/-- The rotation of a block, as the kernel computes it. -/
def ropK (n cs sn : FVec Ideal S256x512 .f32) (mk : IVec S256x512 1) : FVec Ideal S256x512 .f32 :=
  addf (mulf n cs) (mulf (select mk (dynamicRotate 1 480#32 none n rotates_S256x512_d1) (dynamicRotate 1 32#32 none n rotates_S256x512_d1)) sn)

theorem pay16_eq (z : FVec Ideal S256x512 .f32) (v40 : FVec Ideal S256x128 .f32) (v41 v47 : Vec Ideal S1x128 .f32) (v58 : Vec Ideal S512x512 .bf16) (v60 : Vec Ideal S1x512 .f32) :
    k0_pay16 (F := Ideal) z v40 v41 v47 v58 v60
      = ropK (nrmK z (k0_pay15 v58) (k0_pay17 v60)) (k0_pay12 v40 v41) (k0_pay13 v40 v41 v47) k0_pay14 := rfl

theorem pay21_eq (z : FVec Ideal S256x512 .f32) (cs sn : FVec Ideal S256x512 .f32) (mk : IVec S256x512 1) (s : FVec Ideal S512x512 .bf16) (w : FVec Ideal S1x512 .f32) :
    k0_pay21 (F := Ideal) z cs sn mk s w (k0_pay18 z) (k0_pay19 z) (k0_pay20 z) = ropK (nrmK z s w) cs sn mk := rfl

theorem nrmK_apply (z : FVec Ideal S256x512 .f32) (s : FVec Ideal S512x512 .bf16) (w : FVec Ideal S1x512 .f32) (r : Fin 256) (l : Fin 512) :
    nrmK z s w (ix2 r l) = z (ix2 r l) * Ideal.rsqrt ((∑ k : Fin 512, z (ix2 r k) * z (ix2 r k) * s (ix2 k l))
      + (∑ k : Fin 512, (z (ix2 r k) * z (ix2 r k) - z (ix2 r k) * z (ix2 r k)) * s (ix2 k l)) + eps) * w (ix2 (0 : Fin 1) l) := by
  unfold eps
  pointwise [nrmK]
  try rfl

theorem pay12_apply (v40 : FVec Ideal S256x128 .f32) (v41 : Vec Ideal S1x128 .f32) (r : Fin 256) (l : Fin 512) :
    k0_pay12 (F := Ideal) v40 v41 (ix2 r l) = Ideal.cos (v40 (ix2 r (⟨l.val % 128, by omega⟩ : Fin 128)) * v41 (ix2 (0 : Fin 1) (⟨l.val % 128, by omega⟩ : Fin 128))) := by
  pointwise [k0_pay12, k0_pay11]
  have hl := l.isLt
  split_ifs with h1 h2 h3 <;> refine congrArg Ideal.cos ?_ <;>
    refine congrArg₂ (fun a b : Fin 128 => v40 (ix2 r a) * v41 (ix2 (0 : Fin 1) b)) (Fin.ext ?_) (Fin.ext ?_) <;> dsimp only <;> omega

theorem pay13_apply (v40 : FVec Ideal S256x128 .f32) (v41 v47 : Vec Ideal S1x128 .f32) (r : Fin 256) (l : Fin 512) :
    k0_pay13 (F := Ideal) v40 v41 v47 (ix2 r l) = Ideal.sin (v40 (ix2 r (⟨l.val % 128, by omega⟩ : Fin 128)) * v41 (ix2 (0 : Fin 1) (⟨l.val % 128, by omega⟩ : Fin 128)))
      * v47 (ix2 (0 : Fin 1) (⟨l.val % 128, by omega⟩ : Fin 128)) := by
  pointwise [k0_pay13, k0_pay11]
  have hl := l.isLt
  split_ifs with h1 h2 h3 <;>
    refine congrArg (fun a : Fin 128 => Ideal.sin (v40 (ix2 r a) * v41 (ix2 (0 : Fin 1) a)) * v47 (ix2 (0 : Fin 1) a)) (Fin.ext ?_) <;> dsimp only <;> omega

theorem pay14_apply (r : Fin 256) (l : Fin 512) : k0_pay14 (ix2 r l) = BitVec.ofBool (decide (l.val % 64 < 32)) := by
  pointwise [k0_pay14]
  revert l
  decide +kernel

theorem ropK_apply (n cs sn : FVec Ideal S256x512 .f32) (r : Fin 256) (l : Fin 512) :
    ropK n cs sn k0_pay14 (ix2 r l) = n (ix2 r l) * cs (ix2 r l)
     + (if l.val % 64 < 32 then n (ix2 r (⟨(l.val + 32) % 512, by omega⟩ : Fin 512)) else n (ix2 r (⟨(l.val + 480) % 512, by omega⟩ : Fin 512))) * sn (ix2 r l) := by
  have e := pay14_apply r l
  generalize k0_pay14 = mk at e ⊢
  pointwise [ropK]
  rw [e]
  by_cases h : l.val % 64 < 32
  · rw [decide_eq_true h, if_pos h]
    refine congrArg (fun a : Fin 512 => n (ix2 r l) * cs (ix2 r l) + n (ix2 r a) * sn (ix2 r l)) (Fin.ext ?_)
    show (l.val + 512 - 480) % 512 = (l.val + 32) % 512
    omega
  · rw [decide_eq_false h, if_neg h]
    refine congrArg (fun a : Fin 512 => n (ix2 r l) * cs (ix2 r l) + n (ix2 r a) * sn (ix2 r l)) (Fin.ext ?_)
    show (l.val + 512 - 32) % 512 = (l.val + 480) % 512
    omega

theorem pos_bits : ∀ (a : Fin 65) (r : Fin 256),
    Scalar.select (IntOp.cmpi CmpIPredicate.slt (BitVec.ofNat 32 a.val) 64#32)
        (IntOp.addi (Scalar.andi (Scalar.muli (BitVec.ofNat 32 a.val) 256#32) 8191#32) (BitVec.ofNat 32 r.val))
        (IntOp.addi (16384#32) (IntOp.andi (BitVec.ofNat 32 r.val) 7#32))
      = BitVec.ofNat 32 (if a.val * 256 + r.val < 16384 then (a.val * 256 + r.val) % 8192 else 16384 + (a.val * 256 + r.val) % 8) := by
  decide +kernel

theorem pay10_apply (i : grid0.Coords) (r : Fin 256) (l : Fin 128) :
    k0_pay10 (F := Ideal) i (ix2 r l) = pS ⟨(i 0).val * 256 + r.val, by have : (i 0).val < 65 := (i 0).isLt; omega⟩ := by
  unfold pS posS
  pointwise [k0_pay10]
  exact congrArg (FloatOps.sitofp (F := Ideal) FTy.f32) (pos_bits ⟨(i 0).val, (i 0).isLt⟩ r)

theorem sum_head (f : Fin 512 → ℝ) (l : Fin 512) :
    ∑ k : Fin 512, f k * (if k.val / 64 = l.val / 64 then (1 : ℝ) / 64 else 0) = (∑ d, f (hl l d)) * (1 / 64) := by
  rw [← Equiv.sum_comp (finProdFinEquiv (m := 8) (n := 64)), Fintype.sum_prod_type, Finset.sum_eq_single (⟨l.val / 64, by omega⟩ : Fin 8), Finset.sum_mul]
  · refine Finset.sum_congr rfl fun d _ => ?_
    have e : (finProdFinEquiv ((⟨l.val / 64, by omega⟩ : Fin 8), d) : Fin (8 * 64)) = (hl l d : Fin 512) :=
      Fin.ext (by show d.val + 64 * (l.val / 64) = l.val / 64 * 64 + d.val; omega)
    rw [e, if_pos]
    show (l.val / 64 * 64 + d.val) / 64 = l.val / 64
    omega
  · intro b _ hb
    refine Finset.sum_eq_zero fun d _ => ?_
    rw [if_neg, mul_zero]
    intro h
    refine hb (Fin.ext ?_)
    have h' : (d.val + 64 * b.val) / 64 = l.val / 64 := h
    show b.val = l.val / 64
    omega
  · intro h
    exact absurd (Finset.mem_univ _) h

theorem c64_eq : c64 = ((64 : ℝ) : EReal) := by
  unfold c64
  simp [Ideal.ofBits, Ideal.ieee]
  rw [← EReal.coe_mul]
  norm_num

theorem coe_sum2 {ι : Type} [Fintype ι] (f : ι → ℝ) : ((∑ i, f i : ℝ) : EReal) = ∑ i, ((f i : ℝ) : EReal) := by
  classical
  induction (Finset.univ : Finset ι) using Finset.induction_on with
  | empty => simp
  | insert a s ha ih => rw [Finset.sum_insert ha, Finset.sum_insert ha, EReal.coe_add, ih]

theorem div64 (x : ℝ) : Ideal.div (x : EReal) c64 = ((x * (1 / 64) : ℝ) : EReal) := by
  rw [c64_eq]
  unfold Ideal.div
  simp
  try rw [← EReal.coe_inv, ← EReal.coe_mul]

theorem nrmK_eq (z : FVec Ideal S256x512 .f32) (s : FVec Ideal S512x512 .bf16) (w : FVec Ideal S1x512 .f32) (wt : Fin 64 → EReal) (r : Fin 256)
    (Z : Fin 512 → ℝ) (hz : ∀ k, z (ix2 r k) = ((Z k : ℝ) : EReal))
    (hs : ∀ k l, s (ix2 k l) = (((if k.val / 64 = l.val / 64 then (1 : ℝ) / 64 else 0) : ℝ) : EReal))
    (hw : ∀ l : Fin 512, w (ix2 (0 : Fin 1) l) = wt ⟨l.val % 64, by omega⟩) (l : Fin 512) :
    nrmK z s w (ix2 r l) = hnS (fun k => z (ix2 r k)) wt l := by
  rw [nrmK_apply, hw]
  unfold hnS
  have e1 : (∑ k : Fin 512, z (ix2 r k) * z (ix2 r k) * s (ix2 k l)) = (((∑ d, Z (hl l d) * Z (hl l d)) * (1 / 64) : ℝ) : EReal) := by
    rw [← sum_head (fun k => Z k * Z k) l, coe_sum2]
    refine Finset.sum_congr rfl fun k _ => ?_
    rw [hz, hs, ← EReal.coe_mul, ← EReal.coe_mul]
  have e2 : (∑ k : Fin 512, (z (ix2 r k) * z (ix2 r k) - z (ix2 r k) * z (ix2 r k)) * s (ix2 k l)) = 0 := by
    refine Finset.sum_eq_zero fun k _ => ?_
    rw [hz, ← EReal.coe_mul, ← EReal.coe_sub, sub_self, EReal.coe_zero, zero_mul]
  have e3 : (∑ d, z (ix2 r (hl l d)) * z (ix2 r (hl l d))) = ((∑ d, Z (hl l d) * Z (hl l d) : ℝ) : EReal) := by
    rw [coe_sum2]
    refine Finset.sum_congr rfl fun d _ => ?_
    rw [hz, EReal.coe_mul]
  show _ = z (ix2 r l) * Ideal.rsqrt (Ideal.div (∑ d, z (ix2 r (hl l d)) * z (ix2 r (hl l d))) c64 + eps) * _
  rw [e1, e2, e3, div64, add_zero]

/-- The sign of the second product at a lane. -/
def sgS (l : ℕ) : EReal := if l % 64 < 32 then -1 else 1

theorem ropK_eq (n : FVec Ideal S256x512 .f32) (v40 : FVec Ideal S256x128 .f32) (v41 v47 : Vec Ideal S1x128 .f32) (r : Fin 256)
    (N : Fin 512 → EReal) (hn : ∀ l, n (ix2 r l) = N l) (p : EReal) (hp : ∀ j, v40 (ix2 r j) = p) (inv : Fin 32 → EReal)
    (hi : ∀ j : Fin 128, v41 (ix2 (0 : Fin 1) j) = inv ⟨j.val % 32, by omega⟩) (hg : ∀ j : Fin 128, v47 (ix2 (0 : Fin 1) j) = sgS j.val) (l : Fin 512) :
    ropK n (k0_pay12 v40 v41) (k0_pay13 v40 v41 v47) k0_pay14 (ix2 r l) = rpS N p inv l := by
  rw [ropK_apply, pay12_apply, pay13_apply, hp, hi, hg, hn, hn, hn]
  unfold rpS sgS
  have e : (⟨l.val % 128 % 32, by omega⟩ : Fin 32) = ⟨l.val % 32, by omega⟩ := Fin.ext (by show l.val % 128 % 32 = l.val % 32; omega)
  have e' : l.val % 128 % 64 = l.val % 64 := by omega
  rw [e, e']
  have hl := l.isLt
  by_cases h : l.val % 64 < 32
  · rw [if_pos h, if_pos h, dif_pos h, mul_neg, mul_one, mul_neg, sub_eq_add_neg]
    refine congrArg (fun a => _ + -(N a * _)) (Fin.ext ?_)
    show (l.val + 32) % 512 = l.val + 32
    omega
  · rw [if_neg h, if_neg h, dif_neg h, mul_one]
    refine congrArg (fun a => _ + (N a * _)) (Fin.ext ?_)
    show (l.val + 480) % 512 = l.val - 32
    omega

end Cert.Proof.P2

end
-- ==== Proof.P2Host.lean ====
module

public import proofs.«01_k».proof.Proof.P2Rope
public import proofs.«01_k».proof.Proof.Gen.Kernel2Ideal.Value
public import proofs.«01_k».proof.Proof.Gen.Kernel2Ideal.Frame
public import Idealize.ShloMosaic.Lib.Pipeline.ValueKit.Point
public import Idealize.ShloMosaic.Lib.VecWindow
public import Idealize.ShloMosaic.Lib.WritesUnit

/-!
# The operands of the projection

What the host prepares before the grid runs, entry by entry.
-/

@[expose] public section

set_option maxRecDepth 16384

noncomputable section

namespace Cert.Proof.P2

open Cert.Kernel2Ideal Cert.Kernel2Ideal.Gen Idealize.ShloMosaic Idealize.ShloMosaic.TcCoe

variable (m : (ℓ : Loc nD τ sig) → Buf (Elt Ideal) ℓ) (c : Dev nD)

theorem hostX : V m c main_v2 = concatenate S16640x1024 0
    [⟨S16384x1024, shapeCast S16384x1024 (m ((c : Thread nD τ).loc main_arg0)) shapeCasts_S2x8192x1024_S16384x1024⟩,
     ⟨S256x1024, shapeCast S256x1024 (m ((c : Thread nD τ).loc main_arg1)) shapeCasts_S32x8x1024_S256x1024⟩] concatenates_S16384x1024_S256x1024_S16640x1024_d0 := by
  unfold_abbrev_sides
  dsimp only [List.flatten_cons, List.flatten_nil, List.append_nil, List.cons_append, List.nil_append, List.flatten, List.append]
  after_results
  rfl

theorem castX (x : FVec Ideal S2x8192x1024 .f32) (r : Fin 16384) (k : Fin 1024) :
    shapeCast S16384x1024 x shapeCasts_S2x8192x1024_S16384x1024 (ix2 r k) = x (ix3 (⟨r.val / 8192, by omega⟩ : Fin 2) (⟨r.val % 8192, by omega⟩ : Fin 8192) k) :=
  shapeCast_apply _ _ _ _ (by rewrite [Shape.rowMajor_val_three, Shape.rowMajor_val_two]; show (r.val / 8192 * 8192 + r.val % 8192) * 1024 + k.val = r.val * 1024 + k.val; omega)

theorem castY (x : FVec Ideal S32x8x1024 .f32) (r : Fin 256) (k : Fin 1024) :
    shapeCast S256x1024 x shapeCasts_S32x8x1024_S256x1024 (ix2 r k) = x (ix3 (⟨r.val / 8, by omega⟩ : Fin 32) (⟨r.val % 8, by omega⟩ : Fin 8) k) :=
  shapeCast_apply _ _ _ _ (by rewrite [Shape.rowMajor_val_three, Shape.rowMajor_val_two]; show (r.val / 8 * 8 + r.val % 8) * 1024 + k.val = r.val * 1024 + k.val; omega)

theorem hostX_apply (r : Fin 16640) (k : Fin 1024) : V m c main_v2 (ix2 r k)
    = xS (fun a b k => m ((c : Thread nD τ).loc main_arg0) (ix3 a b k)) (fun a b k => m ((c : Thread nD τ).loc main_arg1) (ix3 a b k)) r k := by
  rw [hostX]
  have e0 := castX (m ((c : Thread nD τ).loc main_arg0))
  have e1 := castY (m ((c : Thread nD τ).loc main_arg1))
  generalize shapeCast S16384x1024 (m ((c : Thread nD τ).loc main_arg0)) shapeCasts_S2x8192x1024_S16384x1024 = y0 at e0 ⊢
  generalize shapeCast S256x1024 (m ((c : Thread nD τ).loc main_arg1)) shapeCasts_S32x8x1024_S256x1024 = y1 at e1 ⊢
  unfold xS
  pointwise []
  by_cases h : r.val < 16384
  · rw [dif_pos h, dif_pos h]
    exact e0 _ _
  · rw [dif_neg h, dif_neg h]
    exact e1 _ _

theorem hostG : V m c main_v39 = broadcastInDim S1x1024 ![1] bcast_S1024_S1x1024_1 (m ((c : Thread nD τ).loc main_arg2)) := by
  unfold_abbrev_sides
  dsimp only [List.flatten_cons, List.flatten_nil, List.append_nil, List.cons_append, List.nil_append, List.flatten, List.append]
  after_results

theorem hostG_apply (k : Fin 1024) : V m c main_v39 (ix2 (0 : Fin 1) k) = m ((c : Thread nD τ).loc main_arg2) (ix1 k) := by
  rw [hostG]
  pointwise []

theorem hostW : V m c main_v3 = truncf (F := Ideal) .bf16 (m ((c : Thread nD τ).loc main_arg3) : FVec Ideal S1024x4608 .f32) bitsLt_bf16_f32 := by
  unfold_abbrev_sides
  dsimp only [List.flatten_cons, List.flatten_nil, List.append_nil, List.cons_append, List.nil_append, List.flatten, List.append]
  after_results

theorem hostQ : V m c main_v34 = broadcastInDim S1x512 ![1] bcast_S512_S1x512_1 (shapeCast S512 (broadcastInDim S8x64 ![0, 1] bcast_S1x64_S8x64_0_1
    (shapeCast S1x64 (m ((c : Thread nD τ).loc main_arg4)) shapeCasts_S64_S1x64)) shapeCasts_S8x64_S512) := by
  unfold_abbrev_sides
  dsimp only [List.flatten_cons, List.flatten_nil, List.append_nil, List.cons_append, List.nil_append, List.flatten, List.append]
  after_results
  rfl

theorem hostQ_apply (l : Fin 512) : V m c main_v34 (ix2 (0 : Fin 1) l) = m ((c : Thread nD τ).loc main_arg4) (ix1 (⟨l.val % 64, by omega⟩ : Fin 64)) := by
  rw [hostQ]
  pointwise []

theorem hostK : V m c main_v38 = broadcastInDim S1x512 ![1] bcast_S512_S1x512_1 (shapeCast S512 (broadcastInDim S8x64 ![0, 1] bcast_S1x64_S8x64_0_1
    (shapeCast S1x64 (m ((c : Thread nD τ).loc main_arg5)) shapeCasts_S64_S1x64)) shapeCasts_S8x64_S512) := by
  unfold_abbrev_sides
  dsimp only [List.flatten_cons, List.flatten_nil, List.append_nil, List.cons_append, List.nil_append, List.flatten, List.append]
  after_results
  rfl

theorem hostK_apply (l : Fin 512) : V m c main_v38 (ix2 (0 : Fin 1) l) = m ((c : Thread nD τ).loc main_arg5) (ix1 (⟨l.val % 64, by omega⟩ : Fin 64)) := by
  rw [hostK]
  pointwise []

theorem hostM : V m c main_v40 = broadcastInDim S1x512 ![1] bcast_S512_S1x512_1 (m ((c : Thread nD τ).loc main_arg6)) := by
  unfold_abbrev_sides
  dsimp only [List.flatten_cons, List.flatten_nil, List.append_nil, List.cons_append, List.nil_append, List.flatten, List.append]
  after_results

theorem hostM_apply (k : Fin 512) : V m c main_v40 (ix2 (0 : Fin 1) k) = m ((c : Thread nD τ).loc main_arg6) (ix1 k) := by
  rw [hostM]
  pointwise []

/-- The frequencies as the host computes them. -/
def frq : FVec Ideal S32 .f32 := Host.exp (Host.divf (mulf (broadcastInDim S32 ![] bcast_S_S32 (constant (F := Ideal) S_ .f32 0xC1135D8E#32)) (sitofp .f32 (iotaInDim S32 32 0)))
  (broadcastInDim S32 ![] bcast_S_S32 (constant (F := Ideal) S_ .f32 0x42000000#32)))

theorem hostI : V m c main_v13 = broadcastInDim S1x128 ![1] bcast_S128_S1x128_1 (shapeCast S128 (broadcastInDim S4x32 ![0, 1] bcast_S1x32_S4x32_0_1
    (shapeCast S1x32 frq shapeCasts_S32_S1x32)) shapeCasts_S4x32_S128) := by
  unfold_abbrev_sides
  dsimp only [List.flatten_cons, List.flatten_nil, List.append_nil, List.cons_append, List.nil_append, List.flatten, List.append]
  after_results
  rfl

theorem hostI_apply (j : Fin 128) : V m c main_v13 (ix2 (0 : Fin 1) j) = invS ⟨j.val % 32, by omega⟩ := by
  rw [hostI]
  unfold invS
  pointwise [frq]

theorem hostN : V m c main_v21 = broadcastInDim S1x128 ![1] bcast_S128_S1x128_1 (shapeCast S128 (broadcastInDim S2x64 ![0, 1] bcast_S1x64_S2x64_0_1
    (shapeCast S1x64 (concatenate S64 0 [⟨S32, Host.negf (broadcastInDim S32 ![] bcast_S_S32 (constant (F := Ideal) S_ .f32 0x3F800000#32))⟩,
      ⟨S32, broadcastInDim S32 ![] bcast_S_S32 (constant (F := Ideal) S_ .f32 0x3F800000#32)⟩] concatenates_S32_S32_S64_d0) shapeCasts_S64_S1x64)) shapeCasts_S2x64_S128) := by
  unfold_abbrev_sides
  dsimp only [List.flatten_cons, List.flatten_nil, List.append_nil, List.cons_append, List.nil_append, List.flatten, List.append]
  after_results
  rfl

theorem one_bits : Ideal.ofBits .f32 0x3F800000#32 = (1 : EReal) := by
  simp [Ideal.ofBits, Ideal.ieee]
  try rw [← EReal.coe_mul]
  try norm_num

theorem hostN_apply (j : Fin 128) : V m c main_v21 (ix2 (0 : Fin 1) j) = sgS j.val := by
  rw [hostN]
  unfold sgS
  pointwise []
  by_cases h : j.val % 64 < 32
  · rw [dif_pos h, if_pos h]
  · rw [dif_neg h, if_neg h]

/-- The head of each lane as the host computes it. -/
def hdI : IVec S512 32 :=
  let x : IVec S512 32 := iotaInDim S512 32 0
  let b : IVec S512 32 := broadcastInDim S512 ![] bcast_S_S512 (constantI S_ 32 64#32)
  select (andi (cmpi .ne (signi x) (broadcastInDim S512 ![] bcast_S_S512 (signi (constantI S_ 32 64#32)))) (cmpi .ne (Host.remsi x b) (broadcastInDim S512 ![] bcast_S_S512 (constantI S_ 32 0#32))))
    (subi (Host.divsi x b) (broadcastInDim S512 ![] bcast_S_S512 (constantI S_ 32 1#32))) (Host.divsi x b)

theorem hostS : V m c main_v30 = truncf (F := Ideal) .bf16 (select (cmpi .eq (broadcastInDim S512x512 ![0, 1] bcast_S512x1_S512x512_0_1 (broadcastInDim S512x1 ![0] bcast_S512_S512x1_0 hdI))
    (broadcastInDim S512x512 ![0, 1] bcast_S1x512_S512x512_0_1 (broadcastInDim S1x512 ![1] bcast_S512_S1x512_1 hdI)))
    (broadcastInDim S512x512 ![] bcast_S_S512x512 (constant (F := Ideal) S_ .f32 0x3C800000#32)) (broadcastInDim S512x512 ![] bcast_S_S512x512 (constant (F := Ideal) S_ .f32 0x00000000#32))) bitsLt_bf16_f32 := by
  unfold_abbrev_sides
  dsimp only [List.flatten_cons, List.flatten_nil, List.append_nil, List.cons_append, List.nil_append, List.flatten, List.append]
  after_results
  rfl

theorem hdI_apply (k : Fin 512) : hdI (ix1 k) = BitVec.ofNat 32 (k.val / 64) := by
  pointwise [hdI]
  revert k
  decide +kernel

theorem bits64 : Ideal.ofBits FTy.f32 1015021568#32 = (((1 : ℝ) / 64 : ℝ) : EReal) := by
  simp [Ideal.ofBits, Ideal.ieee]
  rw [← EReal.coe_mul]
  norm_num

theorem hostS_apply (k l : Fin 512) : V m c main_v30 (ix2 k l) = (((if k.val / 64 = l.val / 64 then (1 : ℝ) / 64 else 0) : ℝ) : EReal) := by
  rw [hostS]
  have e := hdI_apply
  generalize hdI = x at e ⊢
  pointwise []
  rw [e, e]
  have hk := k.isLt
  have hl := l.isLt
  have e' : IntOp.cmpi CmpIPredicate.eq (BitVec.ofNat 32 (k.val / 64)) (BitVec.ofNat 32 (l.val / 64)) = BitVec.ofBool (decide (k.val / 64 = l.val / 64)) := by
    have h : ∀ a b : Fin 8, IntOp.cmpi CmpIPredicate.eq (BitVec.ofNat 32 a.val) (BitVec.ofNat 32 b.val) = BitVec.ofBool (decide (a.val = b.val)) := by decide +kernel
    exact h ⟨k.val / 64, by omega⟩ ⟨l.val / 64, by omega⟩
  rw [e']
  by_cases h : k.val / 64 = l.val / 64
  · rw [decide_eq_true h, if_pos h]
    exact bits64
  · rw [decide_eq_false h, if_neg h]
    exact EReal.coe_zero.symm

end Cert.Proof.P2

end
-- ==== Proof.P2Res.lean ====
module

public import proofs.«01_k».proof.Proof.P2Spec

/-!
# The results of the projection, entry by entry

Each result as a function of the projected rows.
-/

@[expose] public section

set_option maxRecDepth 16384

noncomputable section

namespace Cert.Proof.P2

open Idealize.ShloMosaic

/-- The projection of every row. -/
def Zr (x : Fin 2 → Fin 8192 → Fin 1024 → EReal) (y : Fin 32 → Fin 8 → Fin 1024 → EReal) (g : Fin 1024 → EReal) (w : Fin 1024 → Fin 4608 → EReal)
    (r : Fin 16640) (col : Fin 4608) : EReal :=
  zS (xS x y r) g (fun k => w k col)

variable (Z : Fin 16640 → Fin 4608 → EReal)

/-- The queries' columns of a row, normed and rotated. -/
def oQ (wt : Fin 64 → EReal) (r : Fin 16640) (l : Fin 512) : EReal :=
  rpS (hnS (fun l => Z r ⟨l.val, by omega⟩) wt) (pS r) invS l

/-- The keys' columns of a row, normed and rotated. -/
def oK (wt : Fin 64 → EReal) (r : Fin 16640) (l : Fin 512) : EReal :=
  rpS (hnS (fun l => Z r ⟨512 + l.val, by omega⟩) wt) (pS r) invS l

/-- The values' columns of a row. -/
def oV (r : Fin 16640) (l : Fin 512) : EReal := Z r ⟨1024 + l.val, by omega⟩

/-- The gated columns of a row. -/
def oU (r : Fin 16640) (l : Fin 512) : EReal := gel (Z r ⟨1536 + l.val, by omega⟩)

/-- The gated and normed columns of a row. -/
def oG (wt : Fin 512 → EReal) (r : Fin 16640) (l : Fin 512) : EReal := gvS (fun l => Z r ⟨2048 + l.val, by omega⟩) wt l

/-- The first gate of a row. -/
def oA (r : Fin 16640) (l : Fin 1024) : EReal := Ideal.logistic (Z r ⟨2560 + l.val, by omega⟩)

/-- The second gate of a row. -/
def oB (r : Fin 16640) (l : Fin 1024) : EReal := Ideal.logistic (Z r ⟨3584 + l.val, by omega⟩)

/-- The mean of the keys of a block of rows. -/
def oM (wt : Fin 64 → EReal) (b : Fin 65) (l : Fin 512) : EReal :=
  Ideal.div (∑ r : Fin 256, oK Z wt ⟨b.val * 256 + r.val, by omega⟩ l) c256

end Cert.Proof.P2

end
-- ==== Proof.P2Blk.lean ====
module

public import proofs.«01_k».proof.Proof.P2Host
public import proofs.«01_k».proof.Proof.P2Res

/-!
# The blocks of the projection

What a grid point reads, and what it leaves in each result's block.
-/

@[expose] public section

set_option maxRecDepth 16384

noncomputable section

namespace Cert.Proof.P2

open Cert.Kernel2Ideal Cert.Kernel2Ideal.Gen Idealize.ShloMosaic Idealize.ShloMosaic.TcCoe

variable (m : (ℓ : Loc nD τ sig) → Buf (Elt Ideal) ℓ) (c : Dev nD)

theorem coords0 (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  omega

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel

/-- The input arrays by entry. -/
abbrev aX (a : Fin 2) (b : Fin 8192) (k : Fin 1024) : EReal := m ((c : Thread nD τ).loc main_arg0) (ix3 a b k)
abbrev aY (a : Fin 32) (b : Fin 8) (k : Fin 1024) : EReal := m ((c : Thread nD τ).loc main_arg1) (ix3 a b k)
abbrev aG (k : Fin 1024) : EReal := m ((c : Thread nD τ).loc main_arg2) (ix1 k)
abbrev aW (k : Fin 1024) (l : Fin 4608) : EReal := m ((c : Thread nD τ).loc main_arg3) (ix2 k l)
abbrev aQ (k : Fin 64) : EReal := m ((c : Thread nD τ).loc main_arg4) (ix1 k)
abbrev aK (k : Fin 64) : EReal := m ((c : Thread nD τ).loc main_arg5) (ix1 k)
abbrev aM (k : Fin 512) : EReal := m ((c : Thread nD τ).loc main_arg6) (ix1 k)

/-- The row of the arrays at row `r` of block `t`. -/
def rowOf (t : Fin cfg0.N) (r : Fin 256) : Fin 16640 := ⟨t.val * 256 + r.val, by have := Nat.lt_of_lt_of_eq t.isLt N_0; omega⟩

theorem blk0 (t : Fin cfg0.N) (r : Fin 256) (k : Fin 1024) : iblk m c 0 t (ix2 r k) = xS (aX m c) (aY m c) (rowOf t r) k := by
  rw [← hostX_apply]
  unfold rowOf
  blk_point [iblk, idx0 t]

theorem blk1 (t : Fin cfg0.N) (k : Fin 1024) : iblk m c 1 t (ix2 (0 : Fin 1) k) = aG m c k := by
  unfold aG
  rw [← hostG_apply m c]
  blk_point [iblk, idx1 t]

theorem blk2 (t : Fin cfg0.N) (k : Fin 1024) (l : Fin 4608) : iblk m c 2 t (ix2 k l) = aW m c k l := by
  have e : V m c main_v3 (ix2 k l) = aW m c k l := by rw [hostW]; rfl
  rw [← e]
  blk_point [iblk, idx2 t]

theorem blk3 (t : Fin cfg0.N) (l : Fin 512) : iblk m c 3 t (ix2 (0 : Fin 1) l) = aQ m c ⟨l.val % 64, by omega⟩ := by
  unfold aQ
  rw [← hostQ_apply m c]
  blk_point [iblk, idx3 t]

theorem blk4 (t : Fin cfg0.N) (l : Fin 512) : iblk m c 4 t (ix2 (0 : Fin 1) l) = aK m c ⟨l.val % 64, by omega⟩ := by
  unfold aK
  rw [← hostK_apply m c]
  blk_point [iblk, idx4 t]

theorem blk5 (t : Fin cfg0.N) (l : Fin 512) : iblk m c 5 t (ix2 (0 : Fin 1) l) = aM m c l := by
  unfold aM
  rw [← hostM_apply m c]
  blk_point [iblk, idx5 t]

theorem blk6 (t : Fin cfg0.N) (j : Fin 128) : iblk m c 6 t (ix2 (0 : Fin 1) j) = invS ⟨j.val % 32, by omega⟩ := by
  rw [← hostI_apply m c]
  blk_point [iblk, idx6 t]

theorem blk7 (t : Fin cfg0.N) (j : Fin 128) : iblk m c 7 t (ix2 (0 : Fin 1) j) = sgS j.val := by
  rw [← hostN_apply m c]
  blk_point [iblk, idx7 t]

theorem blk8 (t : Fin cfg0.N) (k l : Fin 512) : iblk m c 8 t (ix2 k l) = (((if k.val / 64 = l.val / 64 then (1 : ℝ) / 64 else 0) : ℝ) : EReal) := by
  rw [← hostS_apply m c]
  blk_point [iblk, idx8 t]

/-- The projection of every row of the launched arrays. -/
def Zm : Fin 16640 → Fin 4608 → EReal := Zr (aX m c) (aY m c) (aG m c) (aW m c)

theorem pay2_blk (t : Fin cfg0.N) (r : Fin 256) (l : Fin 4608) :
    k0_pay2 (F := Ideal) (iblk m c 0 t) (iblk m c 1 t) (iblk m c 2 t) (ix2 r l) = Zm m c (rowOf t r) l := by
  refine (pay2_apply (iblk m c 0 t) (iblk m c 1 t) (iblk m c 2 t) r l).trans ?_
  unfold Zm Zr
  refine congr (congrArg₂ zS ?_ ?_) ?_
  · funext k; exact blk0 m c t r k
  · funext k; exact blk1 m c t k
  · funext k; exact blk2 m c t k l

end Cert.Proof.P2

end
-- ==== Proof.P2Fin.lean ====
module

public import proofs.«01_k».proof.Proof.Finite
public import proofs.«01_k».proof.Proof.P2Rope
public import proofs.«01_k».proof.Proof.P2Blk
public import proofs.«01_k».proof.Proof.Gen.Pre_finite2

/-!
# Finite inputs give finite rows

With finite rows, scales and weights every entry of the projection is a real number.
-/
@[expose] public section

set_option maxRecDepth 16384

noncomputable section

namespace Cert.Proof.P2

open Cert.Kernel2Ideal Cert.Kernel2Ideal.Gen Idealize.ShloMosaic Idealize.ShloMosaic.TcCoe

theorem pre_real2 [Cert.Pre_finite2.Facts] (a0 : FVec Ideal S2x8192x1024 .f32) (a1 : FVec Ideal S32x8x1024 .f32) (a2 : FVec Ideal S1024 .f32)
    (a3 : FVec Ideal S1024x4608 .f32) (a4 a5 : FVec Ideal S64 .f32) (a6 : FVec Ideal S512 .f32)
    (h : Cert.Pre_finite2.fn (F := Ideal) a0 a1 a2 a3 a4 a5 a6 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal)) := by
  have h0 := congrFun h ix0
  dsimp only [Cert.Pre_finite2.fn, Cert.Pre_finite2.fn_part1] at h0
  obtain ⟨h1, h3⟩ := IntOp.andi_eq_one.1 h0
  obtain ⟨h1, h2⟩ := IntOp.andi_eq_one.1 h1
  obtain ⟨h3, h4⟩ := IntOp.andi_eq_one.1 h3
  refine ⟨fun i => real_of_abs _ ?_, fun i => real_of_abs _ ?_, fun i => real_of_abs _ ?_, fun i => real_of_abs _ ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i

theorem c1024_eq : c1024 = ((1024 : ℝ) : EReal) := by
  unfold c1024
  simp [Ideal.ofBits, Ideal.ieee]
  rw [← EReal.coe_mul]
  norm_num

theorem eps_pos : ∃ e : ℝ, 0 < e ∧ eps = (e : EReal) := by
  unfold eps
  simp only [Ideal.ofBits, Ideal.ieee]
  norm_num
  exact ⟨_, by positivity, (EReal.coe_mul _ _).symm⟩

theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

theorem zS_real (x g w : Fin 1024 → ℝ) : ∃ r : ℝ, zS (fun k => (x k : EReal)) (fun k => (g k : EReal)) (fun k => (w k : EReal)) = (r : EReal) := by
  obtain ⟨e, he, hE⟩ := eps_pos
  have h1 : (∑ j, (x j : EReal) * (x j : EReal)) = ((∑ j, x j * x j : ℝ) : EReal) := by
    rw [coe_sum2]
    exact Finset.sum_congr rfl fun j _ => (EReal.coe_mul _ _).symm
  have h0 : (0 : ℝ) ≤ ∑ j, x j * x j := Finset.sum_nonneg fun j _ => mul_self_nonneg _
  generalize (∑ j, x j * x j : ℝ) = S at h1 h0
  have h2 : Ideal.div (S : EReal) c1024 = ((S * (1024 : ℝ)⁻¹ : ℝ) : EReal) := by
    rw [c1024_eq, Ideal.div, if_neg (by exact_mod_cast (by norm_num : (1024 : ℝ) ≠ 0)), EReal.coe_mul, EReal.coe_inv]
  unfold zS
  simp only [h1]
  rw [h2, hE, ← EReal.coe_add, rsqrt_pos _ (by positivity)]
  refine ⟨∑ k, x k * (Real.sqrt (S * (1024 : ℝ)⁻¹ + e))⁻¹ * g k * w k, ?_⟩
  rw [coe_sum2]
  exact Finset.sum_congr rfl fun k _ => by rw [EReal.coe_mul, EReal.coe_mul, EReal.coe_mul]

theorem zS_real' (x g w : Fin 1024 → EReal) (hx : ∀ k, x k = ((x k).toReal : EReal)) (hg : ∀ k, g k = ((g k).toReal : EReal))
    (hw : ∀ k, w k = ((w k).toReal : EReal)) : zS x g w = ((zS x g w).toReal : EReal) := by
  obtain ⟨r, hr⟩ := zS_real (fun k => (x k).toReal) (fun k => (g k).toReal) (fun k => (w k).toReal)
  rw [← funext hx, ← funext hg, ← funext hw] at hr
  rw [hr, EReal.toReal_coe]

variable (m : (ℓ : Loc nD τ sig) → Buf (Elt Ideal) ℓ) (c : Dev nD)

theorem Zm_real (h0 : ∀ a b k, aX m c a b k = ((aX m c a b k).toReal : EReal)) (h1 : ∀ a b k, aY m c a b k = ((aY m c a b k).toReal : EReal))
    (h2 : ∀ k, aG m c k = ((aG m c k).toReal : EReal)) (h3 : ∀ k l, aW m c k l = ((aW m c k l).toReal : EReal)) (r : Fin 16640) (l : Fin 4608) :
    Zm m c r l = (((Zm m c r l).toReal : ℝ) : EReal) := by
  refine zS_real' _ _ _ (fun k => ?_) (fun k => h2 k) (fun k => h3 k l)
  unfold xS
  split
  · exact h0 _ _ _
  · exact h1 _ _ _

end Cert.Proof.P2

end
-- ==== Proof.P2Out.lean ====
module

public import proofs.«01_k».proof.Proof.P2Blk

/-!
# What a grid point leaves in each result's block
-/

@[expose] public section

set_option maxRecDepth 16384

noncomputable section

namespace Cert.Proof.P2

open Cert.Kernel2Ideal Cert.Kernel2Ideal.Gen Idealize.ShloMosaic Idealize.ShloMosaic.TcCoe

section outs
variable (i : grid0.Coords) (x0 : Vec Ideal S256x1024 .f32) (x1 : Vec Ideal S1x1024 .f32) (x2 : Vec Ideal S1024x4608 .bf16) (x3 : Vec Ideal S1x512 .f32)
  (x4 : Vec Ideal S1x512 .f32) (x5 : Vec Ideal S1x512 .f32) (x6 : Vec Ideal S1x128 .f32) (x7 : Vec Ideal S1x128 .f32) (x8 : Vec Ideal S512x512 .bf16)

theorem ldx0 : View.ld x0 r0_0 = x0 := View.ld_unit_lit _ x0 (by decide)
theorem ldx1 : View.ld x1 r0_1 = x1 := View.ld_unit_lit _ x1 (by decide)
theorem ldx2 : View.ld x2 r0_2 = x2 := View.ld_unit_lit _ x2 (by decide)
theorem ldx6 : View.ld x6 r0_3 = x6 := View.ld_unit_lit _ x6 (by decide)
theorem ldx8 : View.ld x8 r0_4 = x8 := View.ld_unit_lit _ x8 (by decide)
theorem ldx3 : View.ld x3 r0_5 = x3 := View.ld_unit_lit _ x3 (by decide)

/-- The rotated keys of a block. -/
def kyK : FVec Ideal S256x512 .f32 :=
  ropK (nrmK (k0_pay4 x0 x1 x2) (k0_pay15 x8) (k0_pay17 x4)) (k0_pay12 (k0_pay10 (F := Ideal) i) x6) (k0_pay13 (k0_pay10 (F := Ideal) i) x6 x7) k0_pay14

/-- The rotated queries of a block. -/
def kyQ : FVec Ideal S256x512 .f32 :=
  ropK (nrmK (k0_pay3 x0 x1 x2) (k0_pay15 x8) (k0_pay17 x3)) (k0_pay12 (k0_pay10 (F := Ideal) i) x6) (k0_pay13 (k0_pay10 (F := Ideal) i) x6 x7) k0_pay14

theorem out9_eq : out0_9 i x0 x1 x2 x3 x4 x5 x6 x7 x8 = kyQ i x0 x1 x2 x3 x6 x7 x8 := by
  unfold out0_9 k0_pay34 kyQ
  rw [← pay16_eq, View.canon_cons_unit_lit _ _ _ (by decide), ldx0, ldx1, ldx2, ldx6, ldx6, ldx8, ldx3]

theorem pay21_blk : k0_pay21 (k0_pay31 i x0 x1 x2 x3 x4 x5 x6 x7 x8) (k0_pay35 i x0 x1 x2 x3 x4 x5 x6 x7 x8) (k0_pay36 i x0 x1 x2 x3 x4 x5 x6 x7 x8) (k0_pay37 i x0 x1 x2 x3 x4 x5 x6 x7 x8) (k0_pay38 i x0 x1 x2 x3 x4 x5 x6 x7 x8) (k0_pay39 i x0 x1 x2 x3 x4 x5 x6 x7 x8) (k0_pay40 i x0 x1 x2 x3 x4 x5 x6 x7 x8) (k0_pay41 i x0 x1 x2 x3 x4 x5 x6 x7 x8) (k0_pay42 i x0 x1 x2 x3 x4 x5 x6 x7 x8)
    = kyK i x0 x1 x2 x4 x6 x7 x8 := by
  unfold k0_pay42 k0_pay41 k0_pay40 k0_pay39 k0_pay38 k0_pay37 k0_pay36 k0_pay35 k0_pay34 k0_pay31 kyK
  rw [ldx0, ldx1, ldx2, ldx6, ldx6, ldx8, ldx3]
  exact pay21_eq _ _ _ _ _ _

theorem out10_eq : out0_10 i x0 x1 x2 x3 x4 x5 x6 x7 x8 = kyK i x0 x1 x2 x4 x6 x7 x8 := by
  unfold out0_10
  rw [pay21_blk, View.canon_cons_unit_lit _ _ _ (by decide)]

theorem out11_eq : out0_11 i x0 x1 x2 x3 x4 x5 x6 x7 x8 = kyK i x0 x1 x2 x4 x6 x7 x8 := by
  unfold out0_11 k0_pay22
  rw [pay21_blk, View.canon_cons_unit_lit _ _ _ (by decide)]
  rfl

theorem out12_eq : out0_12 i x0 x1 x2 x3 x4 x5 x6 x7 x8 = k0_pay5 (F := Ideal) x0 x1 x2 := by
  unfold out0_12 k0_pay32
  rw [View.canon_cons_unit_lit _ _ _ (by decide), ldx0, ldx1, ldx2]

theorem out13_eq : out0_13 i x0 x1 x2 x3 x4 x5 x6 x7 x8 = k0_pay5 (F := Ideal) x0 x1 x2 := by
  unfold out0_13 k0_pay32 k0_pay23
  rw [View.canon_cons_unit_lit _ _ _ (by decide), ldx0, ldx1, ldx2]
  rfl

theorem out14_eq : out0_14 i x0 x1 x2 x3 x4 x5 x6 x7 x8 = k0_pay25 (F := Ideal) (k0_pay6 (F := Ideal) x0 x1 x2) (k0_pay24 (F := Ideal) (k0_pay6 (F := Ideal) x0 x1 x2)) := by
  unfold out0_14 k0_pay33
  rw [View.canon_cons_unit_lit _ _ _ (by decide), ldx0, ldx1, ldx2]

theorem out15_eq : out0_15 i x0 x1 x2 x3 x4 x5 x6 x7 x8 = k0_pay26 (F := Ideal) (k0_pay7 (F := Ideal) x0 x1 x2) x5 := by
  unfold out0_15
  rw [View.canon_cons_unit_lit _ _ _ (by decide), ldx0, ldx1, ldx2, ldx3]

theorem out16_eq : out0_16 i x0 x1 x2 x3 x4 x5 x6 x7 x8 = k0_pay27 (F := Ideal) (k0_pay8 (F := Ideal) x0 x1 x2) := by
  unfold out0_16
  rw [View.canon_cons_unit_lit _ _ _ (by decide), ldx0, ldx1, ldx2]

theorem out17_eq : out0_17 i x0 x1 x2 x3 x4 x5 x6 x7 x8 = k0_pay28 (F := Ideal) (k0_pay9 (F := Ideal) x0 x1 x2) := by
  unfold out0_17
  rw [View.canon_cons_unit_lit _ _ _ (by decide), ldx0, ldx1, ldx2]

theorem out18_eq : out0_18 i x0 x1 x2 x3 x4 x5 x6 x7 x8 = k0_pay1 (F := Ideal) (k0_pay29 (F := Ideal) (kyK i x0 x1 x2 x4 x6 x7 x8)) (k0_pay30 (F := Ideal)) := by
  unfold out0_18
  rw [pay21_blk, View.canon_cons_unit_lit _ _ _ (by decide)]

end outs

section cols
variable (x0 : Vec Ideal S256x1024 .f32) (x1 : Vec Ideal S1x1024 .f32) (x2 : Vec Ideal S1024x4608 .bf16) (r : Fin 256)

theorem pay3_at (l : Fin 512) : k0_pay3 (F := Ideal) x0 x1 x2 (ix2 r l) = k0_pay2 (F := Ideal) x0 x1 x2 (ix2 r (⟨l.val, by omega⟩ : Fin 4608)) := by
  unfold k0_pay3
  generalize k0_pay2 (F := Ideal) x0 x1 x2 = z
  pointwise []

theorem pay4_at (l : Fin 512) : k0_pay4 (F := Ideal) x0 x1 x2 (ix2 r l) = k0_pay2 (F := Ideal) x0 x1 x2 (ix2 r (⟨512 + l.val, by omega⟩ : Fin 4608)) := by
  unfold k0_pay4
  generalize k0_pay2 (F := Ideal) x0 x1 x2 = z
  pointwise []

theorem pay5_at (l : Fin 512) : k0_pay5 (F := Ideal) x0 x1 x2 (ix2 r l) = k0_pay2 (F := Ideal) x0 x1 x2 (ix2 r (⟨1024 + l.val, by omega⟩ : Fin 4608)) := by
  unfold k0_pay5
  generalize k0_pay2 (F := Ideal) x0 x1 x2 = z
  pointwise []

theorem pay6_at (l : Fin 512) : k0_pay6 (F := Ideal) x0 x1 x2 (ix2 r l) = k0_pay2 (F := Ideal) x0 x1 x2 (ix2 r (⟨1536 + l.val, by omega⟩ : Fin 4608)) := by
  unfold k0_pay6
  generalize k0_pay2 (F := Ideal) x0 x1 x2 = z
  pointwise []

theorem pay7_at (l : Fin 512) : k0_pay7 (F := Ideal) x0 x1 x2 (ix2 r l) = k0_pay2 (F := Ideal) x0 x1 x2 (ix2 r (⟨2048 + l.val, by omega⟩ : Fin 4608)) := by
  unfold k0_pay7
  generalize k0_pay2 (F := Ideal) x0 x1 x2 = z
  pointwise []

theorem pay27_at (l : Fin 1024) : k0_pay27 (F := Ideal) (k0_pay8 (F := Ideal) x0 x1 x2) (ix2 r l) = Ideal.logistic (k0_pay2 (F := Ideal) x0 x1 x2 (ix2 r (⟨2560 + l.val, by omega⟩ : Fin 4608))) := by
  unfold k0_pay27 k0_pay8
  generalize k0_pay2 (F := Ideal) x0 x1 x2 = z
  pointwise []

theorem pay28_at (l : Fin 1024) : k0_pay28 (F := Ideal) (k0_pay9 (F := Ideal) x0 x1 x2) (ix2 r l) = Ideal.logistic (k0_pay2 (F := Ideal) x0 x1 x2 (ix2 r (⟨3584 + l.val, by omega⟩ : Fin 4608))) := by
  unfold k0_pay28 k0_pay9
  generalize k0_pay2 (F := Ideal) x0 x1 x2 = z
  pointwise []

end cols

variable (m : (ℓ : Loc nD τ sig) → Buf (Elt Ideal) ℓ) (c : Dev nD) (t : Fin cfg0.N)

theorem pos_blk (r : Fin 256) (j : Fin 128) : k0_pay10 (F := Ideal) (grid0.coords t) (ix2 r j) = pS (rowOf t r) := by
  rw [pay10_apply]
  refine congrArg pS (Fin.ext ?_)
  show (grid0.coords t 0).val * 256 + r.val = t.val * 256 + r.val
  rw [coords0]

theorem q_blk (hZ : ∀ r l, Zm m c r l = (((Zm m c r l).toReal : ℝ) : EReal)) (r : Fin 256) (l : Fin 512) :
    kyQ (grid0.coords t) (iblk m c 0 t) (iblk m c 1 t) (iblk m c 2 t) (iblk m c 3 t) (iblk m c 6 t) (iblk m c 7 t) (iblk m c 8 t) (ix2 r l)
      = oQ (Zm m c) (aQ m c) (rowOf t r) l := by
  have ez : ∀ l, k0_pay3 (F := Ideal) (iblk m c 0 t) (iblk m c 1 t) (iblk m c 2 t) (ix2 r l) = Zm m c (rowOf t r) ⟨l.val, by omega⟩ :=
    fun l => (pay3_at _ _ _ r l).trans (pay2_blk m c t r _)
  unfold kyQ oQ
  refine ropK_eq _ _ _ _ r _ (fun l => ?_) _ (fun j => pos_blk t r j) _ (fun j => blk6 m c t j) (fun j => blk7 m c t j) l
  refine (nrmK_eq _ _ _ (aQ m c) r (fun l => (Zm m c (rowOf t r) ⟨l.val, by omega⟩).toReal) (fun k => (ez k).trans (hZ _ _)) (fun k l => ?_) (fun l => ?_) l).trans ?_
  · refine Eq.trans ?_ (blk8 m c t k l)
    pointwise [k0_pay15]
  · refine Eq.trans ?_ (blk3 m c t l)
    pointwise [k0_pay17]
  · exact congrArg (fun z => hnS z (aQ m c) l) (funext ez)

theorem k_blk (hZ : ∀ r l, Zm m c r l = (((Zm m c r l).toReal : ℝ) : EReal)) (r : Fin 256) (l : Fin 512) :
    kyK (grid0.coords t) (iblk m c 0 t) (iblk m c 1 t) (iblk m c 2 t) (iblk m c 4 t) (iblk m c 6 t) (iblk m c 7 t) (iblk m c 8 t) (ix2 r l)
      = oK (Zm m c) (aK m c) (rowOf t r) l := by
  have ez : ∀ l, k0_pay4 (F := Ideal) (iblk m c 0 t) (iblk m c 1 t) (iblk m c 2 t) (ix2 r l) = Zm m c (rowOf t r) ⟨512 + l.val, by omega⟩ :=
    fun l => (pay4_at _ _ _ r l).trans (pay2_blk m c t r _)
  unfold kyK oK
  refine ropK_eq _ _ _ _ r _ (fun l => ?_) _ (fun j => pos_blk t r j) _ (fun j => blk6 m c t j) (fun j => blk7 m c t j) l
  refine (nrmK_eq _ _ _ (aK m c) r (fun l => (Zm m c (rowOf t r) ⟨512 + l.val, by omega⟩).toReal) (fun k => (ez k).trans (hZ _ _)) (fun k l => ?_) (fun l => ?_) l).trans ?_
  · refine Eq.trans ?_ (blk8 m c t k l)
    pointwise [k0_pay15]
  · refine Eq.trans ?_ (blk4 m c t l)
    pointwise [k0_pay17]
  · exact congrArg (fun z => hnS z (aK m c) l) (funext ez)

theorem v_blk (r : Fin 256) (l : Fin 512) :
    k0_pay5 (F := Ideal) (iblk m c 0 t) (iblk m c 1 t) (iblk m c 2 t) (ix2 r l) = oV (Zm m c) (rowOf t r) l :=
  (pay5_at _ _ _ r l).trans (pay2_blk m c t r _)

theorem u_blk (r : Fin 256) (l : Fin 512) :
    k0_pay25 (F := Ideal) (k0_pay6 (F := Ideal) (iblk m c 0 t) (iblk m c 1 t) (iblk m c 2 t)) (k0_pay24 (F := Ideal) (k0_pay6 (F := Ideal) (iblk m c 0 t) (iblk m c 1 t) (iblk m c 2 t))) (ix2 r l)
      = oU (Zm m c) (rowOf t r) l := by
  rw [pay25_apply]
  exact congrArg gel ((pay6_at _ _ _ r l).trans (pay2_blk m c t r _))

theorem g_blk (r : Fin 256) (l : Fin 512) :
    k0_pay26 (F := Ideal) (k0_pay7 (F := Ideal) (iblk m c 0 t) (iblk m c 1 t) (iblk m c 2 t)) (iblk m c 5 t) (ix2 r l) = oG (Zm m c) (aM m c) (rowOf t r) l := by
  refine (pay26_apply _ _ r l).trans ?_
  unfold oG
  refine congrArg₂ (fun z w => gvS z w l) (funext fun l => ?_) (funext fun l => ?_)
  · exact (pay7_at _ _ _ r l).trans (pay2_blk m c t r _)
  · exact blk5 m c t l

theorem a_blk (r : Fin 256) (l : Fin 1024) :
    k0_pay27 (F := Ideal) (k0_pay8 (F := Ideal) (iblk m c 0 t) (iblk m c 1 t) (iblk m c 2 t)) (ix2 r l) = oA (Zm m c) (rowOf t r) l :=
  (pay27_at _ _ _ r l).trans (congrArg Ideal.logistic (pay2_blk m c t r _))

theorem b_blk (r : Fin 256) (l : Fin 1024) :
    k0_pay28 (F := Ideal) (k0_pay9 (F := Ideal) (iblk m c 0 t) (iblk m c 1 t) (iblk m c 2 t)) (ix2 r l) = oB (Zm m c) (rowOf t r) l :=
  (pay28_at _ _ _ r l).trans (congrArg Ideal.logistic (pay2_blk m c t r _))

theorem m_blk (hZ : ∀ r l, Zm m c r l = (((Zm m c r l).toReal : ℝ) : EReal)) (l : Fin 512) :
    k0_pay1 (F := Ideal) (k0_pay29 (F := Ideal) (kyK (grid0.coords t) (iblk m c 0 t) (iblk m c 1 t) (iblk m c 2 t) (iblk m c 4 t) (iblk m c 6 t) (iblk m c 7 t) (iblk m c 8 t)))
        (k0_pay30 (F := Ideal)) (ix3 (0 : Fin 1) (0 : Fin 1) l)
      = oM (Zm m c) (aK m c) ⟨t.val, Nat.lt_of_lt_of_eq t.isLt N_0⟩ l := by
  rw [pay29_apply]
  unfold oM
  refine congrArg (fun s => Ideal.div s c256) (Finset.sum_congr rfl fun r _ => ?_)
  exact k_blk m c t hZ r l

end Cert.Proof.P2

end
-- ==== Proof.P2Arr.lean ====
module

public import proofs.«01_k».proof.Proof.P2Out

/-!
# The result arrays of the projection
-/

@[expose] public section

set_option maxRecDepth 16384

noncomputable section

namespace Cert.Proof.P2

open Cert.Kernel2Ideal Cert.Kernel2Ideal.Gen Idealize.ShloMosaic Idealize.ShloMosaic.TcCoe

variable (m : (ℓ : Loc nD τ sig) → Buf (Elt Ideal) ℓ) (c : Dev nD)

theorem idx9 : ∀ t : Fin cfg0.N, (cfg0.win 9).index t = ![t.val, 0] := by decide +kernel
theorem idx10 : ∀ t : Fin cfg0.N, (cfg0.win 10).index t = ![t.val, 0] := by decide +kernel
theorem idx11 : ∀ t : Fin cfg0.N, (cfg0.win 11).index t = ![t.val, 0] := by decide +kernel
theorem idx12 : ∀ t : Fin cfg0.N, (cfg0.win 12).index t = ![t.val, 0] := by decide +kernel
theorem idx13 : ∀ t : Fin cfg0.N, (cfg0.win 13).index t = ![t.val, 0] := by decide +kernel
theorem idx14 : ∀ t : Fin cfg0.N, (cfg0.win 14).index t = ![t.val, 0] := by decide +kernel
theorem idx15 : ∀ t : Fin cfg0.N, (cfg0.win 15).index t = ![t.val, 0] := by decide +kernel
theorem idx16 : ∀ t : Fin cfg0.N, (cfg0.win 16).index t = ![t.val, 0] := by decide +kernel
theorem idx17 : ∀ t : Fin cfg0.N, (cfg0.win 17).index t = ![t.val, 0] := by decide +kernel
theorem idx18 : ∀ t : Fin cfg0.N, (cfg0.win 18).index t = ![t.val, 0, 0] := by decide +kernel

theorem arr9 (hZ : ∀ r l, Zm m c r l = (((Zm m c r l).toReal : ℝ) : EReal)) : (dats m 0 c).arrAt 9 cfg0.N = fun y : S16640x512.Idx => oQ (Zm m c) (aQ m c) (y 0) (y 1) := by
  refine (dats m 0 c).arrAt_eq_of_covers 9 _ (by decide +kernel) fun t hf y => ?_
  rw [after0_9, out9_eq]
  have hN := Nat.lt_of_lt_of_eq t.isLt N_0
  blk_simp
  have h0 : (y 0).val < 256 := (y 0).isLt
  have h1 : (y 1).val < 512 := (y 1).isLt
  have e0 : ((win0_9.blk t).view.emb y 0) = rowOf t ⟨(y 0).val, h0⟩ := by
    refine Fin.ext ?_
    unfold rowOf
    blk_simp [idx9 t]
    try rfl
  have e1 : ((win0_9.blk t).view.emb y 1) = (⟨(y 1).val, h1⟩ : Fin 512) := by
    refine Fin.ext ?_
    blk_simp [idx9 t]
    try rfl
  have hy : y = ix2 (⟨(y 0).val, h0⟩ : Fin 256) (⟨(y 1).val, h1⟩ : Fin 512) := by
    funext a
    fin_cases a <;> rfl
  rw [e0, e1]
  exact (congrArg _ hy).trans (q_blk m c t hZ ⟨(y 0).val, h0⟩ ⟨(y 1).val, h1⟩)

theorem arr10 (hZ : ∀ r l, Zm m c r l = (((Zm m c r l).toReal : ℝ) : EReal)) : (dats m 0 c).arrAt 10 cfg0.N = fun y : S16640x512.Idx => oK (Zm m c) (aK m c) (y 0) (y 1) := by
  refine (dats m 0 c).arrAt_eq_of_covers 10 _ (by decide +kernel) fun t hf y => ?_
  rw [after0_10, out10_eq]
  have hN := Nat.lt_of_lt_of_eq t.isLt N_0
  blk_simp
  have h0 : (y 0).val < 256 := (y 0).isLt
  have h1 : (y 1).val < 512 := (y 1).isLt
  have e0 : ((win0_10.blk t).view.emb y 0) = rowOf t ⟨(y 0).val, h0⟩ := by
    refine Fin.ext ?_
    unfold rowOf
    blk_simp [idx10 t]
    try rfl
  have e1 : ((win0_10.blk t).view.emb y 1) = (⟨(y 1).val, h1⟩ : Fin 512) := by
    refine Fin.ext ?_
    blk_simp [idx10 t]
    try rfl
  have hy : y = ix2 (⟨(y 0).val, h0⟩ : Fin 256) (⟨(y 1).val, h1⟩ : Fin 512) := by
    funext a
    fin_cases a <;> rfl
  rw [e0, e1]
  exact (congrArg _ hy).trans (k_blk m c t hZ ⟨(y 0).val, h0⟩ ⟨(y 1).val, h1⟩)

theorem arr11 (hZ : ∀ r l, Zm m c r l = (((Zm m c r l).toReal : ℝ) : EReal)) : (dats m 0 c).arrAt 11 cfg0.N = fun y : S16640x512.Idx => oK (Zm m c) (aK m c) (y 0) (y 1) := by
  refine (dats m 0 c).arrAt_eq_of_covers 11 _ (by decide +kernel) fun t hf y => ?_
  rw [after0_11, out11_eq]
  have hN := Nat.lt_of_lt_of_eq t.isLt N_0
  blk_simp
  have h0 : (y 0).val < 256 := (y 0).isLt
  have h1 : (y 1).val < 512 := (y 1).isLt
  have e0 : ((win0_11.blk t).view.emb y 0) = rowOf t ⟨(y 0).val, h0⟩ := by
    refine Fin.ext ?_
    unfold rowOf
    blk_simp [idx11 t]
    try rfl
  have e1 : ((win0_11.blk t).view.emb y 1) = (⟨(y 1).val, h1⟩ : Fin 512) := by
    refine Fin.ext ?_
    blk_simp [idx11 t]
    try rfl
  have hy : y = ix2 (⟨(y 0).val, h0⟩ : Fin 256) (⟨(y 1).val, h1⟩ : Fin 512) := by
    funext a
    fin_cases a <;> rfl
  rw [e0, e1]
  exact (congrArg _ hy).trans (k_blk m c t hZ ⟨(y 0).val, h0⟩ ⟨(y 1).val, h1⟩)

theorem arr12 : (dats m 0 c).arrAt 12 cfg0.N = fun y : S16640x512.Idx => oV (Zm m c) (y 0) (y 1) := by
  refine (dats m 0 c).arrAt_eq_of_covers 12 _ (by decide +kernel) fun t hf y => ?_
  rw [after0_12, out12_eq]
  have hN := Nat.lt_of_lt_of_eq t.isLt N_0
  blk_simp
  have h0 : (y 0).val < 256 := (y 0).isLt
  have h1 : (y 1).val < 512 := (y 1).isLt
  have e0 : ((win0_12.blk t).view.emb y 0) = rowOf t ⟨(y 0).val, h0⟩ := by
    refine Fin.ext ?_
    unfold rowOf
    blk_simp [idx12 t]
    try rfl
  have e1 : ((win0_12.blk t).view.emb y 1) = (⟨(y 1).val, h1⟩ : Fin 512) := by
    refine Fin.ext ?_
    blk_simp [idx12 t]
    try rfl
  have hy : y = ix2 (⟨(y 0).val, h0⟩ : Fin 256) (⟨(y 1).val, h1⟩ : Fin 512) := by
    funext a
    fin_cases a <;> rfl
  rw [e0, e1]
  exact (congrArg _ hy).trans (v_blk m c t ⟨(y 0).val, h0⟩ ⟨(y 1).val, h1⟩)

theorem arr13 : (dats m 0 c).arrAt 13 cfg0.N = fun y : S16640x512.Idx => oV (Zm m c) (y 0) (y 1) := by
  refine (dats m 0 c).arrAt_eq_of_covers 13 _ (by decide +kernel) fun t hf y => ?_
  rw [after0_13, out13_eq]
  have hN := Nat.lt_of_lt_of_eq t.isLt N_0
  blk_simp
  have h0 : (y 0).val < 256 := (y 0).isLt
  have h1 : (y 1).val < 512 := (y 1).isLt
  have e0 : ((win0_13.blk t).view.emb y 0) = rowOf t ⟨(y 0).val, h0⟩ := by
    refine Fin.ext ?_
    unfold rowOf
    blk_simp [idx13 t]
    try rfl
  have e1 : ((win0_13.blk t).view.emb y 1) = (⟨(y 1).val, h1⟩ : Fin 512) := by
    refine Fin.ext ?_
    blk_simp [idx13 t]
    try rfl
  have hy : y = ix2 (⟨(y 0).val, h0⟩ : Fin 256) (⟨(y 1).val, h1⟩ : Fin 512) := by
    funext a
    fin_cases a <;> rfl
  rw [e0, e1]
  exact (congrArg _ hy).trans (v_blk m c t ⟨(y 0).val, h0⟩ ⟨(y 1).val, h1⟩)

theorem arr14 : (dats m 0 c).arrAt 14 cfg0.N = fun y : S16640x512.Idx => oU (Zm m c) (y 0) (y 1) := by
  refine (dats m 0 c).arrAt_eq_of_covers 14 _ (by decide +kernel) fun t hf y => ?_
  rw [after0_14, out14_eq]
  have hN := Nat.lt_of_lt_of_eq t.isLt N_0
  blk_simp
  have h0 : (y 0).val < 256 := (y 0).isLt
  have h1 : (y 1).val < 512 := (y 1).isLt
  have e0 : ((win0_14.blk t).view.emb y 0) = rowOf t ⟨(y 0).val, h0⟩ := by
    refine Fin.ext ?_
    unfold rowOf
    blk_simp [idx14 t]
    try rfl
  have e1 : ((win0_14.blk t).view.emb y 1) = (⟨(y 1).val, h1⟩ : Fin 512) := by
    refine Fin.ext ?_
    blk_simp [idx14 t]
    try rfl
  have hy : y = ix2 (⟨(y 0).val, h0⟩ : Fin 256) (⟨(y 1).val, h1⟩ : Fin 512) := by
    funext a
    fin_cases a <;> rfl
  rw [e0, e1]
  exact (congrArg _ hy).trans (u_blk m c t ⟨(y 0).val, h0⟩ ⟨(y 1).val, h1⟩)

theorem arr15 : (dats m 0 c).arrAt 15 cfg0.N = fun y : S16640x512.Idx => oG (Zm m c) (aM m c) (y 0) (y 1) := by
  refine (dats m 0 c).arrAt_eq_of_covers 15 _ (by decide +kernel) fun t hf y => ?_
  rw [after0_15, out15_eq]
  have hN := Nat.lt_of_lt_of_eq t.isLt N_0
  blk_simp
  have h0 : (y 0).val < 256 := (y 0).isLt
  have h1 : (y 1).val < 512 := (y 1).isLt
  have e0 : ((win0_15.blk t).view.emb y 0) = rowOf t ⟨(y 0).val, h0⟩ := by
    refine Fin.ext ?_
    unfold rowOf
    blk_simp [idx15 t]
    try rfl
  have e1 : ((win0_15.blk t).view.emb y 1) = (⟨(y 1).val, h1⟩ : Fin 512) := by
    refine Fin.ext ?_
    blk_simp [idx15 t]
    try rfl
  have hy : y = ix2 (⟨(y 0).val, h0⟩ : Fin 256) (⟨(y 1).val, h1⟩ : Fin 512) := by
    funext a
    fin_cases a <;> rfl
  rw [e0, e1]
  exact (congrArg _ hy).trans (g_blk m c t ⟨(y 0).val, h0⟩ ⟨(y 1).val, h1⟩)

theorem arr16 : (dats m 0 c).arrAt 16 cfg0.N = fun y : S16640x1024.Idx => oA (Zm m c) (y 0) (y 1) := by
  refine (dats m 0 c).arrAt_eq_of_covers 16 _ (by decide +kernel) fun t hf y => ?_
  rw [after0_16, out16_eq]
  have hN := Nat.lt_of_lt_of_eq t.isLt N_0
  blk_simp
  have h0 : (y 0).val < 256 := (y 0).isLt
  have h1 : (y 1).val < 1024 := (y 1).isLt
  have e0 : ((win0_16.blk t).view.emb y 0) = rowOf t ⟨(y 0).val, h0⟩ := by
    refine Fin.ext ?_
    unfold rowOf
    blk_simp [idx16 t]
    try rfl
  have e1 : ((win0_16.blk t).view.emb y 1) = (⟨(y 1).val, h1⟩ : Fin 1024) := by
    refine Fin.ext ?_
    blk_simp [idx16 t]
    try rfl
  have hy : y = ix2 (⟨(y 0).val, h0⟩ : Fin 256) (⟨(y 1).val, h1⟩ : Fin 1024) := by
    funext a
    fin_cases a <;> rfl
  rw [e0, e1]
  exact (congrArg _ hy).trans (a_blk m c t ⟨(y 0).val, h0⟩ ⟨(y 1).val, h1⟩)

theorem arr17 : (dats m 0 c).arrAt 17 cfg0.N = fun y : S16640x1024.Idx => oB (Zm m c) (y 0) (y 1) := by
  refine (dats m 0 c).arrAt_eq_of_covers 17 _ (by decide +kernel) fun t hf y => ?_
  rw [after0_17, out17_eq]
  have hN := Nat.lt_of_lt_of_eq t.isLt N_0
  blk_simp
  have h0 : (y 0).val < 256 := (y 0).isLt
  have h1 : (y 1).val < 1024 := (y 1).isLt
  have e0 : ((win0_17.blk t).view.emb y 0) = rowOf t ⟨(y 0).val, h0⟩ := by
    refine Fin.ext ?_
    unfold rowOf
    blk_simp [idx17 t]
    try rfl
  have e1 : ((win0_17.blk t).view.emb y 1) = (⟨(y 1).val, h1⟩ : Fin 1024) := by
    refine Fin.ext ?_
    blk_simp [idx17 t]
    try rfl
  have hy : y = ix2 (⟨(y 0).val, h0⟩ : Fin 256) (⟨(y 1).val, h1⟩ : Fin 1024) := by
    funext a
    fin_cases a <;> rfl
  rw [e0, e1]
  exact (congrArg _ hy).trans (b_blk m c t ⟨(y 0).val, h0⟩ ⟨(y 1).val, h1⟩)

theorem arr18 (hZ : ∀ r l, Zm m c r l = (((Zm m c r l).toReal : ℝ) : EReal)) :
    (dats m 0 c).arrAt 18 cfg0.N = fun y : S65x1x512.Idx => oM (Zm m c) (aK m c) (y 0) (y 2) := by
  refine (dats m 0 c).arrAt_eq_of_covers 18 _ (by decide +kernel) fun t hf y => ?_
  rw [after0_18, out18_eq]
  have hN := Nat.lt_of_lt_of_eq t.isLt N_0
  blk_simp
  have h0 : (y 0).val < 1 := (y 0).isLt
  have h1 : (y 1).val < 1 := (y 1).isLt
  have h2 : (y 2).val < 512 := (y 2).isLt
  have e0 : ((win0_18.blk t).view.emb y 0) = (⟨t.val, hN⟩ : Fin 65) := by
    refine Fin.ext ?_
    blk_simp [idx18 t]
    try rfl
    try omega
  have e1 : ((win0_18.blk t).view.emb y 2) = (⟨(y 2).val, h2⟩ : Fin 512) := by
    refine Fin.ext ?_
    blk_simp [idx18 t]
    try rfl
  have hy : y = ix3 (0 : Fin 1) (0 : Fin 1) (⟨(y 2).val, h2⟩ : Fin 512) := by
    funext a
    fin_cases a
    · exact Fin.ext (by show (y 0).val = 0; omega)
    · exact Fin.ext (by show (y 1).val = 0; omega)
    · rfl
  rw [e0, e1]
  exact (congrArg _ hy).trans (m_blk m c t hZ ⟨(y 2).val, h2⟩)

end Cert.Proof.P2

end
-- ==== Proof.P2Ref.lean ====
module

public import proofs.«01_k».proof.Proof.P2Res
public import proofs.«01_k».proof.Proof.Gen.Reference2Ideal.Read

/-!
# The reference's projection

The reference's results entry by entry.
-/

@[expose] public section

set_option maxRecDepth 16384

noncomputable section

namespace Cert.Proof.P2

open Cert.Reference2Ideal Cert.Reference2Ideal.Gen Cert.Reference2Ideal.Read Idealize.ShloMosaic Idealize.ShloMosaic.TcCoe

variable (x0 : (⟨S2x8192x1024, .f32⟩ : BufTy).Contents (Elt Ideal)) (x1 : (⟨S32x8x1024, .f32⟩ : BufTy).Contents (Elt Ideal))
  (x2 : (⟨S1024, .f32⟩ : BufTy).Contents (Elt Ideal)) (x3 : (⟨S1024x4608, .f32⟩ : BufTy).Contents (Elt Ideal))
  (x4 x5 : (⟨S64, .f32⟩ : BufTy).Contents (Elt Ideal)) (x6 : (⟨S512, .f32⟩ : BufTy).Contents (Elt Ideal))

/-- The projection of every row of the reference's arrays. -/
def ZR : Fin 16640 → Fin 4608 → EReal :=
  Zr (fun a b k => x0 (ix3 a b k)) (fun a b k => x1 (ix3 a b k)) (fun k => x2 (ix1 k)) (fun k l => x3 (ix2 k l))

theorem r0 (r : Fin 16384) (k : Fin 1024) :
    val_main_v0 (F := Ideal) x0 (ix2 r k) = x0 (ix3 (⟨r.val / 8192, by omega⟩ : Fin 2) (⟨r.val % 8192, by omega⟩ : Fin 8192) k) :=
  shapeCast_apply _ _ _ _ (by rewrite [Shape.rowMajor_val_three, Shape.rowMajor_val_two]; show (r.val / 8192 * 8192 + r.val % 8192) * 1024 + k.val = r.val * 1024 + k.val; omega)

theorem r1 (r : Fin 256) (k : Fin 1024) :
    val_main_v1 (F := Ideal) x1 (ix2 r k) = x1 (ix3 (⟨r.val / 8, by omega⟩ : Fin 32) (⟨r.val % 8, by omega⟩ : Fin 8) k) :=
  shapeCast_apply _ _ _ _ (by rewrite [Shape.rowMajor_val_three, Shape.rowMajor_val_two]; show (r.val / 8 * 8 + r.val % 8) * 1024 + k.val = r.val * 1024 + k.val; omega)

theorem r2 (r : Fin 16640) (k : Fin 1024) :
    val_main_v2 (F := Ideal) x0 x1 (ix2 r k) = xS (fun a b k => x0 (ix3 a b k)) (fun a b k => x1 (ix3 a b k)) r k := by
  have e0 := r0 x0
  have e1 := r1 x1
  unfold val_main_v2 xS
  generalize val_main_v0 (F := Ideal) x0 = y0 at e0 ⊢
  generalize val_main_v1 (F := Ideal) x1 = y1 at e1 ⊢
  pointwise []
  by_cases h : r.val < 16384
  · rw [dif_pos h, dif_pos h]
    exact e0 _ _
  · rw [dif_neg h, dif_neg h]
    exact e1 _ _

theorem r43 (r : Fin 16640) (l : Fin 4608) : val_main_v43 (F := Ideal) x0 x1 x2 x3 (ix2 r l) = ZR x0 x1 x2 x3 r l := by
  have e := r2 x0 x1 r
  unfold ZR Zr zS c1024 eps
  simp only [← e]
  unfold val_main_v43 val_main_v42 val_main_v41 val_main_v40 val_main_v39 val_main_v38 val_main_v37 val_main_v36 val_main_v35 val_main_cst_3 val_main_v34 val_main_v33 val_main_cst_2 val_main_v32 val_main_v31 val_main_cst_1 val_main_v30
  generalize val_main_v2 (F := Ideal) x0 x1 = y
  pointwise []
  try rfl

theorem r6 (i : Fin 16384) : val_main_v6 (F := Ideal) (ix1 i) = BitVec.ofNat 32 (i.val % 8192) := by
  rw [val_main_v6_apply]
  pointwise [val_main_v5, val_main_v4, val_main_v3]

theorem r12 (i : Fin 256) : val_main_v12 (F := Ideal) (ix1 i) = BitVec.ofNat 32 (16384 + i.val % 8) := by
  rw [val_main_v12_apply]
  pointwise [val_main_v11, val_main_v10, val_main_v9, val_main_v8, val_main_c, val_main_v7]
  exact (BitVec.ofNat_add _ _).symm

theorem r13 (r : Fin 16640) : val_main_v13 (F := Ideal) (ix1 r) = BitVec.ofNat 32 (posS r) := by
  have e0 := r6
  have e1 := r12
  unfold val_main_v13 posS
  generalize val_main_v6 (F := Ideal) = y0 at e0 ⊢
  generalize val_main_v12 (F := Ideal) = y1 at e1 ⊢
  pointwise []
  by_cases h : r.val < 16384
  · rw [dif_pos h, if_pos h]
    exact e0 _
  · rw [dif_neg h, if_neg h, e1]
    refine congrArg (BitVec.ofNat 32) ?_
    dsimp only
    omega

theorem r25 (r : Fin 16640) (j : Fin 32) : val_main_v25 (F := Ideal) (ix2 r j) = pS r * invS j := by
  unfold pS invS
  rw [← r13]
  unfold val_main_v25 val_main_v24 val_main_v23 val_main_v22 val_main_v21 val_main_v20 val_main_v19 val_main_v18 val_main_v17 val_main_v16 val_main_v15 val_main_v14 val_main_cst val_main_cst_0
  generalize val_main_v13 (F := Ideal) = y
  pointwise []
  try rfl

end Cert.Proof.P2

end
-- ==== Proof.P2Ref2.lean ====
module

public import proofs.«01_k».proof.Proof.P2Ref

/-!
# The reference's results

The reference's norms, rotations and gates entry by entry.
-/

@[expose] public section

set_option maxRecDepth 16384

noncomputable section

namespace Cert.Proof.P2

open Cert.Reference2Ideal Cert.Reference2Ideal.Gen Cert.Reference2Ideal.Read Idealize.ShloMosaic Idealize.ShloMosaic.TcCoe

variable (x0 : (⟨S2x8192x1024, .f32⟩ : BufTy).Contents (Elt Ideal)) (x1 : (⟨S32x8x1024, .f32⟩ : BufTy).Contents (Elt Ideal))
  (x2 : (⟨S1024, .f32⟩ : BufTy).Contents (Elt Ideal)) (x3 : (⟨S1024x4608, .f32⟩ : BufTy).Contents (Elt Ideal))
  (x4 x5 : (⟨S64, .f32⟩ : BufTy).Contents (Elt Ideal)) (x6 : (⟨S512, .f32⟩ : BufTy).Contents (Elt Ideal))

/-- Lane `d` of head `h`. -/
def ln (h : Fin 8) (d : Fin 64) : Fin 512 := ⟨h.val * 64 + d.val, by omega⟩

theorem r44 (r : Fin 16640) (l : Fin 512) : val_main_v44 (F := Ideal) x0 x1 x2 x3 (ix2 r l) = ZR x0 x1 x2 x3 r ⟨l.val, by omega⟩ := by
  refine Eq.trans ?_ (r43 x0 x1 x2 x3 r ⟨l.val, by omega⟩)
  unfold val_main_v44
  generalize val_main_v43 (F := Ideal) x0 x1 x2 x3 = y
  pointwise []

theorem r45 (r : Fin 16640) (l : Fin 512) : val_main_v45 (F := Ideal) x0 x1 x2 x3 (ix2 r l) = ZR x0 x1 x2 x3 r ⟨512 + l.val, by omega⟩ := by
  refine Eq.trans ?_ (r43 x0 x1 x2 x3 r ⟨512 + l.val, by omega⟩)
  unfold val_main_v45
  generalize val_main_v43 (F := Ideal) x0 x1 x2 x3 = y
  pointwise []

theorem r46 (r : Fin 16640) (l : Fin 512) : val_main_v46 (F := Ideal) x0 x1 x2 x3 (ix2 r l) = ZR x0 x1 x2 x3 r ⟨1024 + l.val, by omega⟩ := by
  refine Eq.trans ?_ (r43 x0 x1 x2 x3 r ⟨1024 + l.val, by omega⟩)
  unfold val_main_v46
  generalize val_main_v43 (F := Ideal) x0 x1 x2 x3 = y
  pointwise []

theorem r47 (r : Fin 16640) (l : Fin 512) : val_main_v47 (F := Ideal) x0 x1 x2 x3 (ix2 r l) = ZR x0 x1 x2 x3 r ⟨1536 + l.val, by omega⟩ := by
  refine Eq.trans ?_ (r43 x0 x1 x2 x3 r ⟨1536 + l.val, by omega⟩)
  unfold val_main_v47
  generalize val_main_v43 (F := Ideal) x0 x1 x2 x3 = y
  pointwise []

theorem r48 (r : Fin 16640) (l : Fin 512) : val_main_v48 (F := Ideal) x0 x1 x2 x3 (ix2 r l) = ZR x0 x1 x2 x3 r ⟨2048 + l.val, by omega⟩ := by
  refine Eq.trans ?_ (r43 x0 x1 x2 x3 r ⟨2048 + l.val, by omega⟩)
  unfold val_main_v48
  generalize val_main_v43 (F := Ideal) x0 x1 x2 x3 = y
  pointwise []

theorem r49 (r : Fin 16640) (l : Fin 1024) : val_main_v49 (F := Ideal) x0 x1 x2 x3 (ix2 r l) = ZR x0 x1 x2 x3 r ⟨2560 + l.val, by omega⟩ := by
  refine Eq.trans ?_ (r43 x0 x1 x2 x3 r ⟨2560 + l.val, by omega⟩)
  unfold val_main_v49
  generalize val_main_v43 (F := Ideal) x0 x1 x2 x3 = y
  pointwise []

theorem r50 (r : Fin 16640) (l : Fin 1024) : val_main_v50 (F := Ideal) x0 x1 x2 x3 (ix2 r l) = ZR x0 x1 x2 x3 r ⟨3584 + l.val, by omega⟩ := by
  refine Eq.trans ?_ (r43 x0 x1 x2 x3 r ⟨3584 + l.val, by omega⟩)
  unfold val_main_v50
  generalize val_main_v43 (F := Ideal) x0 x1 x2 x3 = y
  pointwise []

/-- The norm of a head, by head and lane. -/
theorem hnS_ln (z : Fin 512 → EReal) (w : Fin 64 → EReal) (h : Fin 8) (d : Fin 64) :
    hnS z w (ln h d) = z (ln h d) * Ideal.rsqrt (Ideal.div (∑ k, z (ln h k) * z (ln h k)) c64 + eps) * w d := by
  unfold hnS
  have e : ∀ k, hl (ln h d) k = ln h k := fun k => Fin.ext (by
    show (h.val * 64 + d.val) / 64 * 64 + k.val = h.val * 64 + k.val
    omega)
  have e' : (⟨(ln h d).val % 64, by omega⟩ : Fin 64) = d := Fin.ext (by
    show (h.val * 64 + d.val) % 64 = d.val
    omega)
  rw [e']
  simp only [e]

theorem r51 (r : Fin 16640) (h : Fin 8) (d : Fin 64) : val_main_v51 (F := Ideal) x0 x1 x2 x3 (ix3 r h d) = (fun l => ZR x0 x1 x2 x3 r ⟨l.val, by omega⟩) (ln h d) := by
  refine Eq.trans ?_ (r44 x0 x1 x2 x3 r (ln h d))
  unfold val_main_v51
  generalize val_main_v44 (F := Ideal) x0 x1 x2 x3 = y
  exact shapeCast_apply _ _ _ _ (by rewrite [Shape.rowMajor_val_three, Shape.rowMajor_val_two]; show r.val * 512 + (h.val * 64 + d.val) = (r.val * 8 + h.val) * 64 + d.val; omega)

theorem r64 (r : Fin 16640) (h : Fin 8) (d : Fin 64) : val_main_v64 (F := Ideal) x0 x1 x2 x3 x4 (ix3 r h d) = hnS (fun l => ZR x0 x1 x2 x3 r ⟨l.val, by omega⟩) (fun k => x4 (ix1 k)) (ln h d) := by
  rw [hnS_ln]
  have e := r51 x0 x1 x2 x3 r
  simp only [← e]
  unfold c64 eps
  unfold val_main_v64 val_main_v63 val_main_v62 val_main_v61 val_main_v60 val_main_v59 val_main_v58 val_main_v57 val_main_v56 val_main_v55 val_main_v54 val_main_v53 val_main_v52 val_main_cst_4 val_main_cst_5 val_main_cst_6
  generalize val_main_v51 (F := Ideal) x0 x1 x2 x3 = y
  pointwise []
  try rfl

theorem r77 (r : Fin 16640) (h : Fin 8) (d : Fin 64) : val_main_v77 (F := Ideal) x0 x1 x2 x3 x4 (ix3 r h d)
    = rpS (hnS (fun l => ZR x0 x1 x2 x3 r ⟨l.val, by omega⟩) (fun k => x4 (ix1 k))) (pS r) invS (ln h d) := by
  have e := r64 x0 x1 x2 x3 x4 r h
  have e' := r25 r
  generalize hnS (fun l => ZR x0 x1 x2 x3 r ⟨l.val, by omega⟩) (fun k => x4 (ix1 k)) = N at e ⊢
  unfold rpS
  simp only [← e']
  unfold val_main_v77 val_main_v76 val_main_v75 val_main_v74 val_main_v73 val_main_v72 val_main_v71 val_main_v70 val_main_v69 val_main_v68 val_main_v67 val_main_v66 val_main_v65 val_main_v29 val_main_v28 val_main_v27 val_main_v26
  generalize val_main_v64 (F := Ideal) x0 x1 x2 x3 x4 = y at e ⊢
  generalize val_main_v25 (F := Ideal) = a at e' ⊢
  have h0 : (ln h d).val % 64 = d.val := by show (h.val * 64 + d.val) % 64 = d.val; omega
  have h1 : (ln h d).val % 32 = d.val % 32 := by show (h.val * 64 + d.val) % 32 = d.val % 32; omega
  pointwise []
  by_cases hd : d.val < 32
  · rw [dif_pos hd, dif_pos (h0.trans_lt hd), e, e]
    have e2 : (⟨(ln h d).val % 32, by omega⟩ : Fin 32) = ⟨d.val, hd⟩ := Fin.ext (by show (ln h d).val % 32 = d.val; omega)
    rw [e2]
    refine congrArg (fun l => _ - N l * _) (Fin.ext ?_)
    show h.val * 64 + (32 + d.val) = h.val * 64 + d.val + 32
    omega
  · rw [dif_neg hd, dif_neg (by omega), e, e]
    have e2 : (⟨(ln h d).val % 32, by omega⟩ : Fin 32) = ⟨d.val - 32, by omega⟩ := Fin.ext (by show (ln h d).val % 32 = d.val - 32; omega)
    rw [e2]
    refine congrArg₂ (fun l l' => N l * _ + N l' * _) (Fin.ext ?_) (Fin.ext ?_)
    · show h.val * 64 + (32 + (d.val - 32)) = h.val * 64 + d.val
      omega
    · show h.val * 64 + (d.val - 32) = h.val * 64 + d.val - 32
      omega

theorem r78 (r : Fin 16640) (l : Fin 512) : val_main_v78 (F := Ideal) x0 x1 x2 x3 x4 (ix2 r l)
    = oQ (ZR x0 x1 x2 x3) (fun k => x4 (ix1 k)) r l := by
  have e : (ln ⟨l.val / 64, by omega⟩ ⟨l.val % 64, by omega⟩ : Fin 512) = l := Fin.ext (by show l.val / 64 * 64 + l.val % 64 = l.val; omega)
  unfold oQ
  refine Eq.trans ?_ ((r77 x0 x1 x2 x3 x4 r ⟨l.val / 64, by omega⟩ ⟨l.val % 64, by omega⟩).trans (by rw [e]))
  unfold val_main_v78
  generalize val_main_v77 (F := Ideal) x0 x1 x2 x3 x4 = y
  exact shapeCast_apply _ _ _ _ (by rewrite [Shape.rowMajor_val_three, Shape.rowMajor_val_two]; show (r.val * 8 + l.val / 64) * 64 + l.val % 64 = r.val * 512 + l.val; omega)

theorem r79 (r : Fin 16640) (h : Fin 8) (d : Fin 64) : val_main_v79 (F := Ideal) x0 x1 x2 x3 (ix3 r h d) = (fun l => ZR x0 x1 x2 x3 r ⟨512 + l.val, by omega⟩) (ln h d) := by
  refine Eq.trans ?_ (r45 x0 x1 x2 x3 r (ln h d))
  unfold val_main_v79
  generalize val_main_v45 (F := Ideal) x0 x1 x2 x3 = y
  exact shapeCast_apply _ _ _ _ (by rewrite [Shape.rowMajor_val_three, Shape.rowMajor_val_two]; show r.val * 512 + (h.val * 64 + d.val) = (r.val * 8 + h.val) * 64 + d.val; omega)

theorem r92 (r : Fin 16640) (h : Fin 8) (d : Fin 64) : val_main_v92 (F := Ideal) x0 x1 x2 x3 x5 (ix3 r h d) = hnS (fun l => ZR x0 x1 x2 x3 r ⟨512 + l.val, by omega⟩) (fun k => x5 (ix1 k)) (ln h d) := by
  rw [hnS_ln]
  have e := r79 x0 x1 x2 x3 r
  simp only [← e]
  unfold c64 eps
  unfold val_main_v92 val_main_v91 val_main_v90 val_main_v89 val_main_v88 val_main_v87 val_main_v86 val_main_v85 val_main_v84 val_main_v83 val_main_v82 val_main_v81 val_main_v80 val_main_cst_7 val_main_cst_8 val_main_cst_9
  generalize val_main_v79 (F := Ideal) x0 x1 x2 x3 = y
  pointwise []
  try rfl

theorem r105 (r : Fin 16640) (h : Fin 8) (d : Fin 64) : val_main_v105 (F := Ideal) x0 x1 x2 x3 x5 (ix3 r h d)
    = rpS (hnS (fun l => ZR x0 x1 x2 x3 r ⟨512 + l.val, by omega⟩) (fun k => x5 (ix1 k))) (pS r) invS (ln h d) := by
  have e := r92 x0 x1 x2 x3 x5 r h
  have e' := r25 r
  generalize hnS (fun l => ZR x0 x1 x2 x3 r ⟨512 + l.val, by omega⟩) (fun k => x5 (ix1 k)) = N at e ⊢
  unfold rpS
  simp only [← e']
  unfold val_main_v105 val_main_v104 val_main_v103 val_main_v102 val_main_v101 val_main_v100 val_main_v99 val_main_v98 val_main_v97 val_main_v96 val_main_v95 val_main_v94 val_main_v93 val_main_v29 val_main_v28 val_main_v27 val_main_v26
  generalize val_main_v92 (F := Ideal) x0 x1 x2 x3 x5 = y at e ⊢
  generalize val_main_v25 (F := Ideal) = a at e' ⊢
  have h0 : (ln h d).val % 64 = d.val := by show (h.val * 64 + d.val) % 64 = d.val; omega
  have h1 : (ln h d).val % 32 = d.val % 32 := by show (h.val * 64 + d.val) % 32 = d.val % 32; omega
  pointwise []
  by_cases hd : d.val < 32
  · rw [dif_pos hd, dif_pos (h0.trans_lt hd), e, e]
    have e2 : (⟨(ln h d).val % 32, by omega⟩ : Fin 32) = ⟨d.val, hd⟩ := Fin.ext (by show (ln h d).val % 32 = d.val; omega)
    rw [e2]
    refine congrArg (fun l => _ - N l * _) (Fin.ext ?_)
    show h.val * 64 + (32 + d.val) = h.val * 64 + d.val + 32
    omega
  · rw [dif_neg hd, dif_neg (by omega), e, e]
    have e2 : (⟨(ln h d).val % 32, by omega⟩ : Fin 32) = ⟨d.val - 32, by omega⟩ := Fin.ext (by show (ln h d).val % 32 = d.val - 32; omega)
    rw [e2]
    refine congrArg₂ (fun l l' => N l * _ + N l' * _) (Fin.ext ?_) (Fin.ext ?_)
    · show h.val * 64 + (32 + (d.val - 32)) = h.val * 64 + d.val
      omega
    · show h.val * 64 + (d.val - 32) = h.val * 64 + d.val - 32
      omega

theorem r106 (r : Fin 16640) (l : Fin 512) : val_main_v106 (F := Ideal) x0 x1 x2 x3 x5 (ix2 r l)
    = oK (ZR x0 x1 x2 x3) (fun k => x5 (ix1 k)) r l := by
  have e : (ln ⟨l.val / 64, by omega⟩ ⟨l.val % 64, by omega⟩ : Fin 512) = l := Fin.ext (by show l.val / 64 * 64 + l.val % 64 = l.val; omega)
  unfold oK
  refine Eq.trans ?_ ((r105 x0 x1 x2 x3 x5 r ⟨l.val / 64, by omega⟩ ⟨l.val % 64, by omega⟩).trans (by rw [e]))
  unfold val_main_v106
  generalize val_main_v105 (F := Ideal) x0 x1 x2 x3 x5 = y
  exact shapeCast_apply _ _ _ _ (by rewrite [Shape.rowMajor_val_three, Shape.rowMajor_val_two]; show (r.val * 8 + l.val / 64) * 64 + l.val % 64 = r.val * 512 + l.val; omega)

theorem r138 (r : Fin 16640) (l : Fin 512) : val_main_v138 (F := Ideal) x0 x1 x2 x3 x5 (ix2 r l) = oK (ZR x0 x1 x2 x3) (fun k => x5 (ix1 k)) r l :=
  r106 x0 x1 x2 x3 x5 r l

theorem r139 (r : Fin 16640) (l : Fin 512) : val_main_v139 (F := Ideal) x0 x1 x2 x3 (ix2 r l) = oV (ZR x0 x1 x2 x3) r l :=
  r46 x0 x1 x2 x3 r l

theorem r152 (r : Fin 16640) (l : Fin 512) : val_main_v152 (F := Ideal) x0 x1 x2 x3 (ix2 r l) = oU (ZR x0 x1 x2 x3) r l := by
  unfold oU
  rw [← r47]
  unfold gel
  unfold val_main_v152 val_main_v151 val_main_v150 val_main_cst_22 val_main_v149 val_main_v148 val_main_cst_21 val_main_v147 val_main_v146 val_main_v145 val_main_cst_20 val_main_v144 val_main_v143 val_main_v142 val_main_cst_19 val_main_v141 val_main_v140
  generalize val_main_v47 (F := Ideal) x0 x1 x2 x3 = y
  rw [mul_comm (y (ix2 r l)) (y (ix2 r l) * y (ix2 r l))]
  pointwise []
  try rfl

theorem r119 (r : Fin 16640) (l : Fin 512) : val_main_v119 (F := Ideal) x0 x1 x2 x3 (ix2 r l) = gel (ZR x0 x1 x2 x3 r ⟨2048 + l.val, by omega⟩) := by
  rw [← r48]
  unfold gel
  unfold val_main_v119 val_main_v118 val_main_v117 val_main_cst_13 val_main_v116 val_main_v115 val_main_cst_12 val_main_v114 val_main_v113 val_main_v112 val_main_cst_11 val_main_v111 val_main_v110 val_main_v109 val_main_cst_10 val_main_v108 val_main_v107
  generalize val_main_v48 (F := Ideal) x0 x1 x2 x3 = y
  rw [mul_comm (y (ix2 r l)) (y (ix2 r l) * y (ix2 r l))]
  pointwise []
  try rfl

theorem r132 (r : Fin 16640) (l : Fin 512) : val_main_v132 (F := Ideal) x0 x1 x2 x3 x6 (ix2 r l) = oG (ZR x0 x1 x2 x3) (fun k => x6 (ix1 k)) r l := by
  have e := r119 x0 x1 x2 x3 r
  unfold oG gvS
  simp only [← e]
  unfold c512 eps
  unfold val_main_v132 val_main_v131 val_main_v130 val_main_v129 val_main_v128 val_main_v127 val_main_v126 val_main_v125 val_main_cst_16 val_main_v124 val_main_v123 val_main_cst_15 val_main_v122 val_main_v121 val_main_cst_14 val_main_v120
  generalize val_main_v119 (F := Ideal) x0 x1 x2 x3 = y
  pointwise []
  try rfl

theorem r158 (r : Fin 16640) (l : Fin 1024) : val_main_v158 (F := Ideal) x0 x1 x2 x3 (ix2 r l) = oA (ZR x0 x1 x2 x3) r l := by
  unfold oA
  rw [← r49]
  unfold val_main_v158 val_main_v157 val_main_cst_24 val_main_v156 val_main_v155 val_main_cst_23 val_main_v154 val_main_v153
  generalize val_main_v49 (F := Ideal) x0 x1 x2 x3 = y
  pointwise [Ideal.logistic]
  try rfl

theorem r164 (r : Fin 16640) (l : Fin 1024) : val_main_v164 (F := Ideal) x0 x1 x2 x3 (ix2 r l) = oB (ZR x0 x1 x2 x3) r l := by
  unfold oB
  rw [← r50]
  unfold val_main_v164 val_main_v163 val_main_cst_26 val_main_v162 val_main_v161 val_main_cst_25 val_main_v160 val_main_v159
  generalize val_main_v50 (F := Ideal) x0 x1 x2 x3 = y
  pointwise [Ideal.logistic]
  try rfl

theorem r133 (b : Fin 65) (r : Fin 256) (l : Fin 512) : val_main_v133 (F := Ideal) x0 x1 x2 x3 x5 (ix3 b r l)
    = oK (ZR x0 x1 x2 x3) (fun k => x5 (ix1 k)) ⟨b.val * 256 + r.val, by omega⟩ l := by
  refine Eq.trans ?_ (r106 x0 x1 x2 x3 x5 ⟨b.val * 256 + r.val, by omega⟩ l)
  unfold val_main_v133
  generalize val_main_v106 (F := Ideal) x0 x1 x2 x3 x5 = y
  exact shapeCast_apply _ _ _ _ (by rewrite [Shape.rowMajor_val_three, Shape.rowMajor_val_two]; rfl)

theorem r137 (b : Fin 65) (l : Fin 512) : val_main_v137 (F := Ideal) x0 x1 x2 x3 x5 (ix3 b (0 : Fin 1) l) = oM (ZR x0 x1 x2 x3) (fun k => x5 (ix1 k)) b l := by
  have e := r133 x0 x1 x2 x3 x5 b
  unfold oM
  simp only [← e]
  unfold c256
  unfold val_main_v137 val_main_v136 val_main_cst_18 val_main_v135 val_main_v134 val_main_cst_17
  generalize val_main_v133 (F := Ideal) x0 x1 x2 x3 x5 = y
  pointwise []
  try rfl

end Cert.Proof.P2

end
-- ==== Proof.P2Alg.lean ====
module

public import proofs.«01_k».proof.Defs
public import proofs.«01_k».proof.Proof.P2Fin
public import proofs.«01_k».proof.Proof.P2Arr
public import proofs.«01_k».proof.Proof.P2Ref2
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Init

/-!
# The two projections are equal

Each of the ten results of the reference is the array the kernel leaves.
-/
@[expose] public section

set_option maxRecDepth 16384

noncomputable section

namespace Cert.Proof.P2

open Idealize.ShloMosaic Idealize.ShloMosaic.TcCoe Idealize.SL.Sem

section
open Cert.Kernel2Ideal Cert.Kernel2Ideal.Gen Cert.Reference2Ideal.Read

variable (m : (ℓ : Loc nD τ sig) → Buf (Elt Ideal) ℓ) (c : Dev nD)

theorem fin9 (hZ : ∀ r l, Zm m c r l = (((Zm m c r l).toReal : ℝ) : EReal)) :
    val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = (dats m 0 c).arrAt 9 cfg0.N := by
  rw [arr9 m c hZ]
  funext y
  exact (congrArg (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (eq_ix2 y)).trans
    (r78 _ _ _ _ _ (y 0) (y 1))

theorem fin10 (hZ : ∀ r l, Zm m c r l = (((Zm m c r l).toReal : ℝ) : EReal)) :
    val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      = (dats m 0 c).arrAt 10 cfg0.N := by
  rw [arr10 m c hZ]
  funext y
  exact (congrArg (val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (eq_ix2 y)).trans
    (r106 _ _ _ _ _ (y 0) (y 1))

theorem fin11 (hZ : ∀ r l, Zm m c r l = (((Zm m c r l).toReal : ℝ) : EReal)) :
    val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      = (dats m 0 c).arrAt 11 cfg0.N := by
  rw [arr11 m c hZ]
  funext y
  exact (congrArg (val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (eq_ix2 y)).trans
    (r138 _ _ _ _ _ (y 0) (y 1))

theorem fin12  :
    val_main_v46 (F := Ideal) (m ((c : Thread nD τ).loc main_arg0)) (m ((c : Thread nD τ).loc main_arg1)) (m ((c : Thread nD τ).loc main_arg2)) (m ((c : Thread nD τ).loc main_arg3))
      = (dats m 0 c).arrAt 12 cfg0.N := by
  rw [arr12 m c]
  funext y
  exact (congrArg (val_main_v46 (F := Ideal) (m ((c : Thread nD τ).loc main_arg0)) (m ((c : Thread nD τ).loc main_arg1)) (m ((c : Thread nD τ).loc main_arg2)) (m ((c : Thread nD τ).loc main_arg3))) (eq_ix2 y)).trans
    (r46 _ _ _ _ (y 0) (y 1))

theorem fin13  :
    val_main_v139 (F := Ideal) (m ((c : Thread nD τ).loc main_arg0)) (m ((c : Thread nD τ).loc main_arg1)) (m ((c : Thread nD τ).loc main_arg2)) (m ((c : Thread nD τ).loc main_arg3))
      = (dats m 0 c).arrAt 13 cfg0.N := by
  rw [arr13 m c]
  funext y
  exact (congrArg (val_main_v139 (F := Ideal) (m ((c : Thread nD τ).loc main_arg0)) (m ((c : Thread nD τ).loc main_arg1)) (m ((c : Thread nD τ).loc main_arg2)) (m ((c : Thread nD τ).loc main_arg3))) (eq_ix2 y)).trans
    (r139 _ _ _ _ (y 0) (y 1))

theorem fin14  :
    val_main_v152 (F := Ideal) (m ((c : Thread nD τ).loc main_arg0)) (m ((c : Thread nD τ).loc main_arg1)) (m ((c : Thread nD τ).loc main_arg2)) (m ((c : Thread nD τ).loc main_arg3))
      = (dats m 0 c).arrAt 14 cfg0.N := by
  rw [arr14 m c]
  funext y
  exact (congrArg (val_main_v152 (F := Ideal) (m ((c : Thread nD τ).loc main_arg0)) (m ((c : Thread nD τ).loc main_arg1)) (m ((c : Thread nD τ).loc main_arg2)) (m ((c : Thread nD τ).loc main_arg3))) (eq_ix2 y)).trans
    (r152 _ _ _ _ (y 0) (y 1))

theorem fin15  :
    val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg6))
      = (dats m 0 c).arrAt 15 cfg0.N := by
  rw [arr15 m c]
  funext y
  exact (congrArg (val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (eq_ix2 y)).trans
    (r132 _ _ _ _ _ (y 0) (y 1))

theorem fin16  :
    val_main_v158 (F := Ideal) (m ((c : Thread nD τ).loc main_arg0)) (m ((c : Thread nD τ).loc main_arg1)) (m ((c : Thread nD τ).loc main_arg2)) (m ((c : Thread nD τ).loc main_arg3))
      = (dats m 0 c).arrAt 16 cfg0.N := by
  rw [arr16 m c]
  funext y
  exact (congrArg (val_main_v158 (F := Ideal) (m ((c : Thread nD τ).loc main_arg0)) (m ((c : Thread nD τ).loc main_arg1)) (m ((c : Thread nD τ).loc main_arg2)) (m ((c : Thread nD τ).loc main_arg3))) (eq_ix2 y)).trans
    (r158 _ _ _ _ (y 0) (y 1))

theorem fin17  :
    val_main_v164 (F := Ideal) (m ((c : Thread nD τ).loc main_arg0)) (m ((c : Thread nD τ).loc main_arg1)) (m ((c : Thread nD τ).loc main_arg2)) (m ((c : Thread nD τ).loc main_arg3))
      = (dats m 0 c).arrAt 17 cfg0.N := by
  rw [arr17 m c]
  funext y
  exact (congrArg (val_main_v164 (F := Ideal) (m ((c : Thread nD τ).loc main_arg0)) (m ((c : Thread nD τ).loc main_arg1)) (m ((c : Thread nD τ).loc main_arg2)) (m ((c : Thread nD τ).loc main_arg3))) (eq_ix2 y)).trans
    (r164 _ _ _ _ (y 0) (y 1))

theorem fin18 (hZ : ∀ r l, Zm m c r l = (((Zm m c r l).toReal : ℝ) : EReal)) :
    val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      = (dats m 0 c).arrAt 18 cfg0.N := by
  rw [arr18 m c hZ]
  funext y
  have hy : y = ix3 (y 0) (0 : Fin 1) (y 2) := by
    refine (eq_ix3 y).trans ?_
    congr 1
    exact Subsingleton.elim (α := Fin 1) _ _
  exact (congrArg (val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg5))) hy).trans
    (r137 _ _ _ _ _ (y 0) (y 2))

theorem fin9_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal)) (x4 : (⟨S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4))
    (hZ : ∀ r l, Zm m c r l = (((Zm m c r l).toReal : ℝ) : EReal)) :
    val_main_v78 (F := Ideal) x0 x1 x2 x3 x4 = (dats m 0 c).arrAt 9 cfg0.N := by
  rw [e0, e1, e2, e3, e4]
  exact fin9 m c hZ

theorem fin10_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal)) (x5 : (⟨S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e5 : x5 = m ((c : Thread nD τ).loc main_arg5))
    (hZ : ∀ r l, Zm m c r l = (((Zm m c r l).toReal : ℝ) : EReal)) :
    val_main_v106 (F := Ideal) x0 x1 x2 x3 x5 = (dats m 0 c).arrAt 10 cfg0.N := by
  rw [e0, e1, e2, e3, e5]
  exact fin10 m c hZ

theorem fin11_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal)) (x5 : (⟨S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e5 : x5 = m ((c : Thread nD τ).loc main_arg5))
    (hZ : ∀ r l, Zm m c r l = (((Zm m c r l).toReal : ℝ) : EReal)) :
    val_main_v138 (F := Ideal) x0 x1 x2 x3 x5 = (dats m 0 c).arrAt 11 cfg0.N := by
  rw [e0, e1, e2, e3, e5]
  exact fin11 m c hZ

theorem fin12_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
     :
    val_main_v46 (F := Ideal) x0 x1 x2 x3 = (dats m 0 c).arrAt 12 cfg0.N := by
  rw [e0, e1, e2, e3]
  exact fin12 m c

theorem fin13_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
     :
    val_main_v139 (F := Ideal) x0 x1 x2 x3 = (dats m 0 c).arrAt 13 cfg0.N := by
  rw [e0, e1, e2, e3]
  exact fin13 m c

theorem fin14_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
     :
    val_main_v152 (F := Ideal) x0 x1 x2 x3 = (dats m 0 c).arrAt 14 cfg0.N := by
  rw [e0, e1, e2, e3]
  exact fin14 m c

theorem fin15_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal)) (x6 : (⟨S512, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e6 : x6 = m ((c : Thread nD τ).loc main_arg6))
     :
    val_main_v132 (F := Ideal) x0 x1 x2 x3 x6 = (dats m 0 c).arrAt 15 cfg0.N := by
  rw [e0, e1, e2, e3, e6]
  exact fin15 m c

theorem fin16_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
     :
    val_main_v158 (F := Ideal) x0 x1 x2 x3 = (dats m 0 c).arrAt 16 cfg0.N := by
  rw [e0, e1, e2, e3]
  exact fin16 m c

theorem fin17_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
     :
    val_main_v164 (F := Ideal) x0 x1 x2 x3 = (dats m 0 c).arrAt 17 cfg0.N := by
  rw [e0, e1, e2, e3]
  exact fin17 m c

theorem fin18_of (x0 : (⟨S2x8192x1024, .f32⟩ : BufTy).Contents (Elt Ideal)) (x1 : (⟨S32x8x1024, .f32⟩ : BufTy).Contents (Elt Ideal)) (x2 : (⟨S1024, .f32⟩ : BufTy).Contents (Elt Ideal)) (x3 : (⟨S1024x4608, .f32⟩ : BufTy).Contents (Elt Ideal)) (x5 : (⟨S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e5 : x5 = m ((c : Thread nD τ).loc main_arg5))
    (hZ : ∀ r l, Zm m c r l = (((Zm m c r l).toReal : ℝ) : EReal)) :
    val_main_v137 (F := Ideal) x0 x1 x2 x3 x5 = (dats m 0 c).arrAt 18 cfg0.N := by
  rw [e0, e1, e2, e3, e5]
  exact fin18 m c hZ

end

theorem refFrame2 : Cert.quiescent_Reference2Ideal (hReference2Ideal := Cert.Reference2Ideal.Gen.facts) := fun m ρ _ =>
  (θ_run Cert.Reference2Ideal.defs _ _).mono (fun r h => ⟨fun c => (h c).2.2.2.2.2.2.2.2.2.2, sem_eq_zero_of_no_sems (by decide) r.2⟩)
    (Cert.Reference2Ideal.Value.run (F := Ideal) m ρ)

set_option maxHeartbeats 4000000 in
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp ha
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N,
    Cert.Kernel2Ideal.Value.run_blocks m g, ?_⟩
  refine (θ_run Cert.Reference2Ideal.defs _ _).mono (fun r h c => ?_) (Cert.Reference2Ideal.Value.run m' g')
  obtain ⟨e0, e1, e2, e3, e4, e5, e6⟩ := ha c
  obtain ⟨f0, f1, f2, f3⟩ := pre_real2 _ _ _ _ _ _ _ (hp c)
  have hZ := Zm_real m c (fun _ _ _ => f0 _) (fun _ _ _ => f1 _) (fun _ => f2 _) (fun _ _ => f3 _)
  obtain ⟨h9, h10, h11, h12, h13, h14, h15, h16, h17, h18, hA⟩ := h c
  refine ⟨h9.trans ?_, h10.trans ?_, h11.trans ?_, h12.trans ?_, h13.trans ?_, h14.trans ?_, h15.trans ?_, h16.trans ?_, h17.trans ?_, h18.trans ?_, hA⟩
  · exact (Cert.Reference2Ideal.Read.val_main_v78_eq (StableHlo.launchContents m' c)).trans
      (fin9_of m c _ _ _ _ _ e0 e1 e2 e3 e4 hZ)
  · exact (Cert.Reference2Ideal.Read.val_main_v106_eq (StableHlo.launchContents m' c)).trans
      (fin10_of m c _ _ _ _ _ e0 e1 e2 e3 e5 hZ)
  · exact (Cert.Reference2Ideal.Read.val_main_v138_eq (StableHlo.launchContents m' c)).trans
      (fin11_of m c _ _ _ _ _ e0 e1 e2 e3 e5 hZ)
  · exact (Cert.Reference2Ideal.Read.val_main_v46_eq (StableHlo.launchContents m' c)).trans
      (fin12_of m c _ _ _ _ e0 e1 e2 e3)
  · exact (Cert.Reference2Ideal.Read.val_main_v139_eq (StableHlo.launchContents m' c)).trans
      (fin13_of m c _ _ _ _ e0 e1 e2 e3)
  · exact (Cert.Reference2Ideal.Read.val_main_v152_eq (StableHlo.launchContents m' c)).trans
      (fin14_of m c _ _ _ _ e0 e1 e2 e3)
  · exact (Cert.Reference2Ideal.Read.val_main_v132_eq (StableHlo.launchContents m' c)).trans
      (fin15_of m c _ _ _ _ _ e0 e1 e2 e3 e6)
  · exact (Cert.Reference2Ideal.Read.val_main_v158_eq (StableHlo.launchContents m' c)).trans
      (fin16_of m c _ _ _ _ e0 e1 e2 e3)
  · exact (Cert.Reference2Ideal.Read.val_main_v164_eq (StableHlo.launchContents m' c)).trans
      (fin17_of m c _ _ _ _ e0 e1 e2 e3)
  · exact (Cert.Reference2Ideal.Read.val_main_v137_eq (StableHlo.launchContents m' c)).trans
      (fin18_of m c _ _ _ _ _ e0 e1 e2 e3 e5 hZ)

end Cert.Proof.P2

end
-- ==== Proof.P4Ple.lean ====
module

public import proofs.«01_k».proof.Defs
public import proofs.«01_k».proof.Proof.P2Spec
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit.Point
public import Idealize.ShloMosaic.Lib.VecWindow
public import Idealize.ShloMosaic.Lib.WritesUnit
public import Idealize.ShloMosaic.Adequacy
public import Idealize.ShloMosaic.Init

/-!
# The per-layer embedding

The last call of the layer, entry by entry, beside its reference.
-/
@[expose] public section

set_option maxRecDepth 16384

noncomputable section

namespace Cert.Proof.P4

open Idealize.ShloMosaic Idealize.ShloMosaic.TcCoe Idealize.SL.Sem
open Cert.Proof.P2 (zS c1024 eps)

/-- One entry of the gated embedding of one row. -/
def pleS (x y : Fin 1024 → EReal) (p : Fin 256 → EReal) (g wg : Fin 1024 → EReal) (wp : Fin 256 → EReal) (l : Fin 1024) : EReal :=
  x l + y l + Ideal.logistic (zS (fun k => x k + y k) g wg) * ∑ j, p j * wp j

section kernel
open Cert.Kernel4Ideal Cert.Kernel4Ideal.Gen

theorem pay1_apply (v0 v1 : Vec Ideal S256x1024 .f32) (v3 : Vec Ideal S1x1024 .f32) (v18 : Vec Ideal S1024x1024 .bf16) (v22 : Vec Ideal S256x256 .f32)
    (v24 : Vec Ideal S256x1024 .bf16) (r : Fin 256) (l : Fin 1024) :
    k0_pay1 (F := Ideal) v0 v1 v3 v18 v22 v24 (ix2 r l)
      = pleS (fun k => v0 (ix2 r k)) (fun k => v1 (ix2 r k)) (fun k => v22 (ix2 r k)) (fun k => v3 (ix2 (0 : Fin 1) k)) (fun k => v18 (ix2 k l))
        (fun k => v24 (ix2 k l)) l := by
  unfold pleS zS c1024 eps
  pointwise [k0_pay1]
  try rfl

variable (m : (ℓ : Loc nD τ sig) → Buf (Elt Ideal) ℓ) (c : Dev nD)

theorem host0 (k : Fin 1024) : V m c main_v0 (ix2 (0 : Fin 1) k) = m ((c : Thread nD τ).loc main_arg3) (ix1 k) := by
  have e : V m c main_v0 = broadcastInDim S1x1024 ![1] bcast_S1024_S1x1024_1 (m ((c : Thread nD τ).loc main_arg3)) := by
    unfold_abbrev_sides
    after_results
  rw [e]
  pointwise []

theorem host1 : V m c main_v1 = truncf (F := Ideal) .bf16 (m ((c : Thread nD τ).loc main_arg4) : FVec Ideal S1024x1024 .f32) bitsLt_bf16_f32 := by
  unfold_abbrev_sides
  after_results

theorem host2 : V m c main_v2 = truncf (F := Ideal) .bf16 (m ((c : Thread nD τ).loc main_arg5) : FVec Ideal S256x1024 .f32) bitsLt_bf16_f32 := by
  unfold_abbrev_sides
  after_results

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![t.val, 0] := by decide +kernel

/-- The input arrays by entry. -/
abbrev aX (r : Fin 16640) (k : Fin 1024) : EReal := m ((c : Thread nD τ).loc main_arg0) (ix2 r k)
abbrev aY (r : Fin 16640) (k : Fin 1024) : EReal := m ((c : Thread nD τ).loc main_arg1) (ix2 r k)
abbrev aP (r : Fin 16640) (k : Fin 256) : EReal := m ((c : Thread nD τ).loc main_arg2) (ix2 r k)
abbrev aG (k : Fin 1024) : EReal := m ((c : Thread nD τ).loc main_arg3) (ix1 k)
abbrev aW (k : Fin 1024) (l : Fin 1024) : EReal := m ((c : Thread nD τ).loc main_arg4) (ix2 k l)
abbrev aE (k : Fin 256) (l : Fin 1024) : EReal := m ((c : Thread nD τ).loc main_arg5) (ix2 k l)

/-- The row of the arrays at row `r` of block `t`. -/
def rowOf (t : Fin cfg0.N) (r : Fin 256) : Fin 16640 := ⟨t.val * 256 + r.val, by have := Nat.lt_of_lt_of_eq t.isLt N_0; omega⟩

theorem blk0 (t : Fin cfg0.N) (r : Fin 256) (k : Fin 1024) : iblk m c 0 t (ix2 r k) = aX m c (rowOf t r) k := by
  unfold aX rowOf
  blk_point [iblk, idx0 t]

theorem blk1 (t : Fin cfg0.N) (r : Fin 256) (k : Fin 1024) : iblk m c 1 t (ix2 r k) = aY m c (rowOf t r) k := by
  unfold aY rowOf
  blk_point [iblk, idx1 t]

theorem blk2 (t : Fin cfg0.N) (r : Fin 256) (k : Fin 256) : iblk m c 2 t (ix2 r k) = aP m c (rowOf t r) k := by
  unfold aP rowOf
  blk_point [iblk, idx2 t]

theorem blk3 (t : Fin cfg0.N) (k : Fin 1024) : iblk m c 3 t (ix2 (0 : Fin 1) k) = aG m c k := by
  unfold aG
  rw [← host0 m c]
  blk_point [iblk, idx3 t]

theorem blk4 (t : Fin cfg0.N) (k l : Fin 1024) : iblk m c 4 t (ix2 k l) = aW m c k l := by
  have e : V m c main_v1 (ix2 k l) = aW m c k l := by rw [host1]; rfl
  rw [← e]
  blk_point [iblk, idx4 t]

theorem blk5 (t : Fin cfg0.N) (k : Fin 256) (l : Fin 1024) : iblk m c 5 t (ix2 k l) = aE m c k l := by
  have e : V m c main_v2 (ix2 k l) = aE m c k l := by rw [host2]; rfl
  rw [← e]
  blk_point [iblk, idx5 t]

/-- The result by entry. -/
def res (r : Fin 16640) (l : Fin 1024) : EReal :=
  pleS (aX m c r) (aY m c r) (aP m c r) (aG m c) (fun k => aW m c k l) (fun k => aE m c k l) l

theorem out_blk (t : Fin cfg0.N) (r : Fin 256) (l : Fin 1024) :
    out0_6 (iblk m c 0 t) (iblk m c 1 t) (iblk m c 2 t) (iblk m c 3 t) (iblk m c 4 t) (iblk m c 5 t) (ix2 r l) = res m c (rowOf t r) l := by
  unfold out0_6
  rw [View.canon_cons_unit_lit _ _ _ (by decide)]
  repeat rw [View.ld_unit_lit _ _ (by decide)]
  refine (pay1_apply _ _ _ _ _ _ r l).trans ?_
  unfold res
  simp only [blk0, blk1, blk2, blk3, blk4, blk5]

theorem arr6 : (dats m 0 c).arrAt 6 cfg0.N = fun y : S16640x1024.Idx => res m c (y 0) (y 1) := by
  refine (dats m 0 c).arrAt_eq_of_covers 6 _ (by decide +kernel) fun t hf y => ?_
  rw [after0_6]
  have hN := Nat.lt_of_lt_of_eq t.isLt N_0
  blk_simp
  have h0 : (y 0).val < 256 := (y 0).isLt
  have h1 : (y 1).val < 1024 := (y 1).isLt
  have e0 : ((win0_6.blk t).view.emb y 0) = rowOf t ⟨(y 0).val, h0⟩ := by
    refine Fin.ext ?_
    unfold rowOf
    blk_simp [idx6 t]
    try rfl
  have e1 : ((win0_6.blk t).view.emb y 1) = (⟨(y 1).val, h1⟩ : Fin 1024) := by
    refine Fin.ext ?_
    blk_simp [idx6 t]
    try rfl
  have hy : y = ix2 (⟨(y 0).val, h0⟩ : Fin 256) (⟨(y 1).val, h1⟩ : Fin 1024) := by
    funext a
    fin_cases a <;> rfl
  rw [e0, e1]
  exact (congrArg _ hy).trans (out_blk m c t ⟨(y 0).val, h0⟩ ⟨(y 1).val, h1⟩)

end kernel

section reference
open Cert.Reference4Ideal Cert.Reference4Ideal.Gen Cert.Reference4Ideal.Read

theorem r23 (x0 x1 : (⟨S16640x1024, .f32⟩ : BufTy).Contents (Elt Ideal)) (x2 : (⟨S16640x256, .f32⟩ : BufTy).Contents (Elt Ideal))
    (x3 : (⟨S1024, .f32⟩ : BufTy).Contents (Elt Ideal)) (x4 : (⟨S1024x1024, .f32⟩ : BufTy).Contents (Elt Ideal)) (x5 : (⟨S256x1024, .f32⟩ : BufTy).Contents (Elt Ideal))
    (r : Fin 16640) (l : Fin 1024) : val_main_v23 (F := Ideal) x0 x1 x2 x3 x4 x5 (ix2 r l)
      = pleS (fun k => x0 (ix2 r k)) (fun k => x1 (ix2 r k)) (fun k => x2 (ix2 r k)) (fun k => x3 (ix1 k)) (fun k => x4 (ix2 k l)) (fun k => x5 (ix2 k l)) l := by
  unfold pleS zS c1024 eps
  unfold val_main_v23 val_main_v22 val_main_v21 val_main_v20 val_main_v19 val_main_cst_3 val_main_v18 val_main_v17 val_main_cst_2 val_main_v16 val_main_v15
    val_main_v14 val_main_v13 val_main_v12 val_main_v11 val_main_v10 val_main_v9 val_main_v8 val_main_v7 val_main_v6 val_main_cst_1 val_main_v5 val_main_v4
    val_main_cst_0 val_main_v3 val_main_v2 val_main_cst val_main_v1 val_main_v0
  pointwise [Ideal.logistic]
  try rfl

end reference

section
open Cert.Kernel4Ideal Cert.Kernel4Ideal.Gen Cert.Reference4Ideal.Read

variable (m : (ℓ : Loc nD τ sig) → Buf (Elt Ideal) ℓ) (c : Dev nD)

theorem fin6 (x0 x1 : (⟨S16640x1024, .f32⟩ : BufTy).Contents (Elt Ideal)) (x2 : (⟨S16640x256, .f32⟩ : BufTy).Contents (Elt Ideal))
    (x3 : (⟨S1024, .f32⟩ : BufTy).Contents (Elt Ideal)) (x4 : (⟨S1024x1024, .f32⟩ : BufTy).Contents (Elt Ideal)) (x5 : (⟨S256x1024, .f32⟩ : BufTy).Contents (Elt Ideal))
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) (e5 : x5 = m ((c : Thread nD τ).loc main_arg5)) :
    val_main_v23 (F := Ideal) x0 x1 x2 x3 x4 x5 = (dats m 0 c).arrAt 6 cfg0.N := by
  rw [arr6 m c]
  funext y
  refine (congrArg (val_main_v23 (F := Ideal) x0 x1 x2 x3 x4 x5) (eq_ix2 y)).trans ((r23 x0 x1 x2 x3 x4 x5 (y 0) (y 1)).trans ?_)
  rw [e0, e1, e2, e3, e4, e5]
  rfl

end

theorem refFrame4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨e0, e1, e2, e3, e4, e5⟩ := ha c
  refine ⟨(h c).1.trans ?_, (h c).2⟩
  exact (Cert.Reference4Ideal.Read.val_main_v23_eq _ _ _ _ _ _).trans (fin6 m c _ _ _ _ _ _ e0 e1 e2 e3 e4 e5)

end Cert.Proof.P4

end
-- ==== Proof.P3Spec.lean ====
module

public import proofs.«01_k».proof.Proof.P2Spec

/-!
# The merge of the two branches, entry by entry

The mixing over the rows of a chunk, the two branch products, the norm and the key scores, as functions of rows.
-/
@[expose] public section

set_option maxRecDepth 16384

noncomputable section

namespace Cert.Proof.P3

open Idealize.ShloMosaic
open Cert.Proof.P2 (c1024 eps)

/-- Row `r` of chunk `t` mixes in row `s`: it comes no later and, in the sample chunks, is of the same sequence. -/
abbrev keep (t r s : ℕ) : Prop := s ≤ r ∧ (t < 128 ∨ r / 8 = s / 8)

/-- Row `s` of chunk `t`. -/
def rowOf (t : Fin 130) (s : Fin 128) : Fin 16640 := ⟨t.val * 128 + s.val, by omega⟩

/-- A row of a chunk within its sequence, in the sample chunks. -/
def inSeq (r : Fin 128) : Fin 128 := ⟨r.val % 8, by omega⟩

/-- The mixing weight of row `s` for row `r` in chunk `t`. -/
def wV (ws : Fin 128 → Fin 128 → EReal) (t : Fin 130) (r s : Fin 128) : EReal :=
  if t.val < 128 then ws r s else ws (inSeq r) (inSeq s)

/-- The bias of row `r` in chunk `t`. -/
def bV (b : Fin 128 → EReal) (t : Fin 130) (r : Fin 128) : EReal := if t.val < 128 then b r else b (inSeq r)

/-- One entry of the mixed values. -/
def mixS (ws : Fin 128 → Fin 128 → EReal) (b : Fin 128 → EReal) (v : Fin 16640 → EReal) (t : Fin 130) (r : Fin 128) : EReal :=
  (∑ s : Fin 128, (if keep t.val r.val s.val then wV ws t r s else 0) * v (rowOf t s)) + bV b t r

/-- One entry of the merged row. -/
def x1S (x : Fin 1024 → EReal) (att gu mx : Fin 512 → EReal) (sa sb : Fin 1024 → EReal) (wa wb : Fin 512 → Fin 1024 → EReal)
    (wo : Fin 1024 → Fin 1024 → EReal) (k : Fin 1024) : EReal :=
  x k + ∑ j, (sa j * (∑ i, att i * wa i j) + sb j * (∑ i, (gu i * mx i) * wb i j)) * wo j k

/-- One entry of a normed row. -/
def h2S (x g : Fin 1024 → EReal) (k : Fin 1024) : EReal :=
  x k * Ideal.rsqrt (Ideal.div (∑ j, x j * x j) c1024 + eps) * g k

/-- One entry of the key scores. -/
def stS (key : Fin 128 → EReal) (x g : Fin 1024 → EReal) (wq : Fin 1024 → Fin 128 → EReal) : EReal :=
  ∑ k, key k * ∑ j, h2S x g j * wq j k

/-- The group of a lane. -/
def grp (l : Fin 512) : Fin 8 := ⟨l.val / 64, by omega⟩

end Cert.Proof.P3

end
-- ==== Proof.P3Host.lean ====
module

public import proofs.«01_k».proof.Proof.P3Spec
public import proofs.«01_k».proof.Proof.Gen.Kernel3Ideal.Value
public import Idealize.ShloMosaic.Lib.Pipeline.ValueKit.Point
public import Idealize.ShloMosaic.Lib.VecWindow
public import Idealize.ShloMosaic.Lib.ValueIdxRank6
public import Idealize.ShloMosaic.Lib.WritesUnit

/-!
# The arrays that the merge call reads
-/
@[expose] public section

set_option maxRecDepth 16384

noncomputable section

namespace Cert.Proof.P3

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem host22 (k : Fin 1024) : V m c main_v22 (ix2 (0 : Fin 1) k) = m ((c : Thread nD τ).loc main_arg11) (ix1 k) := by
  have e : V m c main_v22 = broadcastInDim S1x1024 ![1] bcast_S1024_S1x1024_1 (m ((c : Thread nD τ).loc main_arg11)) := by
    unfold_abbrev_sides
    after_results
  rw [e]
  pointwise []

theorem host19 : V m c main_v19 = truncf (F := Ideal) .bf16 (m ((c : Thread nD τ).loc main_arg8) : FVec Ideal S512x1024 .f32) bitsLt_bf16_f32 := by
  unfold_abbrev_sides
  after_results

theorem host20 : V m c main_v20 = truncf (F := Ideal) .bf16 (m ((c : Thread nD τ).loc main_arg9) : FVec Ideal S512x1024 .f32) bitsLt_bf16_f32 := by
  unfold_abbrev_sides
  after_results

theorem host21 : V m c main_v21 = truncf (F := Ideal) .bf16 (m ((c : Thread nD τ).loc main_arg10) : FVec Ideal S1024x1024 .f32) bitsLt_bf16_f32 := by
  unfold_abbrev_sides
  after_results

theorem host23 : V m c main_v23 = truncf (F := Ideal) .bf16 (m ((c : Thread nD τ).loc main_arg12) : FVec Ideal S1024x2048 .f32) bitsLt_bf16_f32 := by
  unfold_abbrev_sides
  after_results

theorem keys_apply (X : Vec Ideal S8x2x128x128 .f32) (g : Fin 16) (n k : Fin 128) :
    shapeCast S16x128x128 X shapeCasts_S8x2x128x128_S16x128x128 (ix3 g n k)
      = X (ix4 (⟨g.val / 2, by omega⟩ : Fin 8) (⟨g.val % 2, by omega⟩ : Fin 2) n k) :=
  shapeCast_apply _ _ _ _ (by
    rewrite [Shape.rowMajor_val_four, Shape.rowMajor_val_three]
    show ((g.val / 2 * 2 + g.val % 2) * 128 + n.val) * 128 + k.val = (g.val * 128 + n.val) * 128 + k.val
    omega)

/-- The weights of a sequence of eight rows, over the whole chunk. -/
def tileW (X : Vec Ideal S8x128x128 .f32) : Vec Ideal S8x128x128 .f32 :=
  shapeCast S8x128x128 (broadcastInDim S1x8x16x8x16x8 ![0, 1, 2, 3, 4, 5] bcast_S1x8x1x8x1x8_S1x8x16x8x16x8_0_1_2_3_4_5
    (shapeCast S1x8x1x8x1x8 (extractStridedSlice S8x8x8 ![0, 0, 0] X slices_S8x128x128_S8x8x8_0_0_0)
      shapeCasts_S8x8x8_S1x8x1x8x1x8)) shapeCasts_S1x8x16x8x16x8_S8x128x128

theorem tileW_apply (X : Vec Ideal S8x128x128 .f32) (g : Fin 8) (r s : Fin 128) : tileW X (ix3 g r s) = X (ix3 g (inSeq r) (inSeq s)) := by
  unfold tileW
  generalize hy : extractStridedSlice S8x8x8 ![0, 0, 0] X slices_S8x128x128_S8x8x8_0_0_0 = y
  have e1 : ∀ (g a b : Fin 8), shapeCast S1x8x1x8x1x8 y shapeCasts_S8x8x8_S1x8x1x8x1x8 (ValueIdx.ix6 (0 : Fin 1) g (0 : Fin 1) a (0 : Fin 1) b) = y (ix3 g a b) :=
    fun g a b => shapeCast_apply _ _ _ _ (by
      rewrite [Shape.rowMajor_val_six, Shape.rowMajor_val_three]
      show (g.val * 8 + a.val) * 8 + b.val = ((((0 * 8 + g.val) * 1 + 0) * 8 + a.val) * 1 + 0) * 8 + b.val
      omega)
  refine (shapeCast_apply _ _ _ (ValueIdx.ix6 (0 : Fin 1) g (⟨r.val / 8, by omega⟩ : Fin 16) (⟨r.val % 8, by omega⟩ : Fin 8)
    (⟨s.val / 8, by omega⟩ : Fin 16) (⟨s.val % 8, by omega⟩ : Fin 8)) ?_).trans ?_
  · rewrite [Shape.rowMajor_val_six, Shape.rowMajor_val_three]
    show ((((0 * 8 + g.val) * 16 + r.val / 8) * 8 + r.val % 8) * 16 + s.val / 8) * 8 + s.val % 8 = (g.val * 128 + r.val) * 128 + s.val
    omega
  · refine (?_ : _ = shapeCast S1x8x1x8x1x8 y shapeCasts_S8x8x8_S1x8x1x8x1x8
      (ValueIdx.ix6 (0 : Fin 1) g (0 : Fin 1) (⟨r.val % 8, by omega⟩ : Fin 8) (0 : Fin 1) (⟨s.val % 8, by omega⟩ : Fin 8))).trans ?_
    · refine broadcastInDim_apply _ _ _ _ _ ?_
      intro a
      fin_cases a <;> rfl
    · rw [e1, ← hy]
      pointwise []
      try rfl

/-- The bias of a sequence of eight rows, over the whole chunk. -/
def tileB (X : Vec Ideal S8x128 .f32) : Vec Ideal S8x128 .f32 :=
  shapeCast S8x128 (broadcastInDim S1x8x16x8 ![0, 1, 2, 3] bcast_S1x8x1x8_S1x8x16x8_0_1_2_3
    (shapeCast S1x8x1x8 (extractStridedSlice S8x8 ![0, 0] X slices_S8x128_S8x8_0_0) shapeCasts_S8x8_S1x8x1x8)) shapeCasts_S1x8x16x8_S8x128

theorem tileB_apply (X : Vec Ideal S8x128 .f32) (g : Fin 8) (r : Fin 128) : tileB X (ix2 g r) = X (ix2 g (inSeq r)) := by
  unfold tileB
  generalize hy : extractStridedSlice S8x8 ![0, 0] X slices_S8x128_S8x8_0_0 = y
  have e1 : ∀ (g a : Fin 8), shapeCast S1x8x1x8 y shapeCasts_S8x8_S1x8x1x8 (ix4 (0 : Fin 1) g (0 : Fin 1) a) = y (ix2 g a) := fun g a =>
    shapeCast_apply _ _ _ _ (by
      rewrite [Shape.rowMajor_val_four, Shape.rowMajor_val_two]
      show g.val * 8 + a.val = ((0 * 8 + g.val) * 1 + 0) * 8 + a.val
      omega)
  refine (shapeCast_apply _ _ _ (ix4 (0 : Fin 1) g (⟨r.val / 8, by omega⟩ : Fin 16) (⟨r.val % 8, by omega⟩ : Fin 8)) ?_).trans ?_
  · rewrite [Shape.rowMajor_val_four, Shape.rowMajor_val_two]
    show ((0 * 8 + g.val) * 16 + r.val / 8) * 8 + r.val % 8 = g.val * 128 + r.val
    omega
  · pointwise [e1]
    rw [← hy]
    pointwise []
    try rfl

theorem host18 (g : Fin 16) (n k : Fin 128) : V m c main_v18 (ix3 g n k)
    = m ((c : Thread nD τ).loc main_arg13) (ix4 (⟨g.val / 2, by omega⟩ : Fin 8) (⟨g.val % 2, by omega⟩ : Fin 2) n k) := by
  have e : V m c main_v18 = shapeCast S16x128x128 (m ((c : Thread nD τ).loc main_arg13)) shapeCasts_S8x2x128x128_S16x128x128 := by
    unfold_abbrev_sides
    after_results
    try rfl
  rw [e]
  exact keys_apply _ g n k

theorem host6 : V m c main_v6 = concatenate S2x8x128x128 0
    [⟨S1x8x128x128, broadcastInDim S1x8x128x128 ![1, 2, 3] bcast_S8x128x128_S1x8x128x128_1_2_3 (m ((c : Thread nD τ).loc main_arg6))⟩,
     ⟨S1x8x128x128, broadcastInDim S1x8x128x128 ![1, 2, 3] bcast_S8x128x128_S1x8x128x128_1_2_3
       (shapeCast S8x128x128 (broadcastInDim S1x8x16x8x16x8 ![0, 1, 2, 3, 4, 5] bcast_S1x8x1x8x1x8_S1x8x16x8x16x8_0_1_2_3_4_5
         (shapeCast S1x8x1x8x1x8 (extractStridedSlice S8x8x8 ![0, 0, 0] (m ((c : Thread nD τ).loc main_arg6)) slices_S8x128x128_S8x8x8_0_0_0)
           shapeCasts_S8x8x8_S1x8x1x8x1x8)) shapeCasts_S1x8x16x8x16x8_S8x128x128)⟩]
    concatenates_S1x8x128x128_S1x8x128x128_S2x8x128x128_d0 := by
  unfold_abbrev_sides
  after_results
  try rfl

theorem v6_apply (v : Fin 2) (g : Fin 8) (r s : Fin 128) : V m c main_v6 (ix4 v g r s)
    = if v.val = 0 then m ((c : Thread nD τ).loc main_arg6) (ix3 g r s) else m ((c : Thread nD τ).loc main_arg6) (ix3 g (inSeq r) (inSeq s)) := by
  rw [host6]
  rw [← tileW_apply (m ((c : Thread nD τ).loc main_arg6))]
  unfold tileW
  generalize (shapeCast S8x128x128 (broadcastInDim S1x8x16x8x16x8 ![0, 1, 2, 3, 4, 5] bcast_S1x8x1x8x1x8_S1x8x16x8x16x8_0_1_2_3_4_5
    (shapeCast S1x8x1x8x1x8 (extractStridedSlice S8x8x8 ![0, 0, 0] (m ((c : Thread nD τ).loc main_arg6)) slices_S8x128x128_S8x8x8_0_0_0)
      shapeCasts_S8x8x8_S1x8x1x8x1x8)) shapeCasts_S1x8x16x8x16x8_S8x128x128) = y
  pointwise []
  by_cases h : v.val = 0
  · rw [if_pos h, dif_pos (by omega)]
  · rw [if_neg h, dif_neg (by omega)]

theorem host17 : V m c main_v17 = shapeCast S2x128x512 (broadcastInDim S2x128x8x64 ![0, 1, 2, 3] bcast_S2x128x8x1_S2x128x8x64_0_1_2_3
    (broadcastInDim S2x128x8x1 ![0, 1, 2] bcast_S2x128x8_S2x128x8x1_0_1_2 (transpose S2x128x8 [0, 2, 1]
      (concatenate S2x8x128 0
        [⟨S1x8x128, broadcastInDim S1x8x128 ![1, 2] bcast_S8x128_S1x8x128_1_2 (m ((c : Thread nD τ).loc main_arg7))⟩,
         ⟨S1x8x128, broadcastInDim S1x8x128 ![1, 2] bcast_S8x128_S1x8x128_1_2
          (shapeCast S8x128 (broadcastInDim S1x8x16x8 ![0, 1, 2, 3] bcast_S1x8x1x8_S1x8x16x8_0_1_2_3
            (shapeCast S1x8x1x8 (extractStridedSlice S8x8 ![0, 0] (m ((c : Thread nD τ).loc main_arg7)) slices_S8x128_S8x8_0_0)
              shapeCasts_S8x8_S1x8x1x8)) shapeCasts_S1x8x16x8_S8x128)⟩]
        concatenates_S1x8x128_S1x8x128_S2x8x128_d0)
      transposes_S2x8x128_S2x128x8_0_2_1))) shapeCasts_S2x128x8x64_S2x128x512 := by
  unfold_abbrev_sides
  after_results
  try rfl

theorem v17_apply (v : Fin 2) (r : Fin 128) (l : Fin 512) : V m c main_v17 (ix3 v r l)
    = if v.val = 0 then m ((c : Thread nD τ).loc main_arg7) (ix2 (grp l) r) else m ((c : Thread nD τ).loc main_arg7) (ix2 (grp l) (inSeq r)) := by
  rw [host17]
  rw [← tileB_apply (m ((c : Thread nD τ).loc main_arg7))]
  unfold tileB
  generalize (shapeCast S8x128 (broadcastInDim S1x8x16x8 ![0, 1, 2, 3] bcast_S1x8x1x8_S1x8x16x8_0_1_2_3
    (shapeCast S1x8x1x8 (extractStridedSlice S8x8 ![0, 0] (m ((c : Thread nD τ).loc main_arg7)) slices_S8x128_S8x8_0_0)
      shapeCasts_S8x8_S1x8x1x8)) shapeCasts_S1x8x16x8_S8x128) = y
  refine (shapeCast_apply _ _ _ (ix4 v r (grp l) (⟨l.val % 64, by omega⟩ : Fin 64)) ?_).trans ?_
  · rewrite [Shape.rowMajor_val_four, Shape.rowMajor_val_three]
    show ((v.val * 128 + r.val) * 8 + l.val / 64) * 64 + l.val % 64 = (v.val * 128 + r.val) * 512 + l.val
    omega
  · pointwise []
    by_cases h : v.val = 0
    · rw [if_pos h, dif_pos (by omega)]
    · rw [if_neg h, dif_neg (by omega)]

end Cert.Proof.P3

end
-- ==== Proof.P3Idx.lean ====
module

public import proofs.«01_k».proof.Proof.P3Host

/-!
# The windows of the merge
-/
@[expose] public section

set_option maxRecDepth 16384

noncomputable section

namespace Cert.Proof.P3

open Idealize.ShloMosaic Idealize.ShloMosaic.TcCoe Idealize.SL.Sem
open Cert.Kernel3Ideal Cert.Kernel3Ideal.Gen

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx6 : ∀ t : Fin cfg0.N, (cfg0.win 6).index t = ![if t.val < 128 then 0 else 1, 0, 0, 0] := by decide +kernel
theorem idx7 : ∀ t : Fin cfg0.N, (cfg0.win 7).index t = ![if t.val < 128 then 0 else 1, 0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![0, 0] := by decide +kernel
theorem idx12 : ∀ t : Fin cfg0.N, (cfg0.win 12).index t = ![0, 0] := by decide +kernel
theorem idx13 : ∀ t : Fin cfg0.N, (cfg0.win 13).index t = ![0, 0, 0] := by decide +kernel
theorem idx14 : ∀ t : Fin cfg0.N, (cfg0.win 14).index t = ![t.val, 0] := by decide +kernel
theorem idx15 : ∀ t : Fin cfg0.N, (cfg0.win 15).index t = ![t.val, 0] := by decide +kernel
theorem idx16 : ∀ t : Fin cfg0.N, (cfg0.win 16).index t = ![0, 0, t.val] := by decide +kernel
theorem coord0 : ∀ t : Fin cfg0.N, t.val = (grid0.coords t 0).val := by decide +kernel

end Cert.Proof.P3

end
-- ==== Proof.P3Pay.lean ====
module

public import proofs.«01_k».proof.Proof.P3Spec
public import proofs.«01_k».proof.Proof.Gen.Kernel3Ideal.Value
public import Idealize.ShloMosaic.Lib.Pipeline.ValueKit.Point
public import Idealize.ShloMosaic.Lib.VecWindow
public import Idealize.ShloMosaic.Lib.WritesUnit

/-!
# The merge call's values, entry by entry
-/
@[expose] public section

set_option maxRecDepth 16384

noncomputable section

namespace Cert.Proof.P3

open Idealize.ShloMosaic Idealize.ShloMosaic.TcCoe Idealize.SL.Sem
open Cert.Proof.P2 (c1024 eps)
open Cert.Kernel3Ideal Cert.Kernel3Ideal.Gen

theorem pay5_apply (r s : Fin 128) : k0_pay5 (ix2 r s) = BitVec.ofNat 32 (r.val / 8) := by
  pointwise [k0_pay5]
  clear s
  revert r
  decide +kernel

theorem floor_apply (r s : Fin 128) :
    select (andi k0_pay7 (cmpi .ne (remsi (iota .tc S128x128 32 [1] iota_S128x128_d1_w32) k0_pay8) (broadcast S128x128 0#32)))
      (subi k0_pay6 (broadcast S128x128 1#32)) k0_pay6 (ix2 r s) = BitVec.ofNat 32 (s.val / 8) := by
  pointwise [k0_pay6, k0_pay7, k0_pay8]
  clear r
  revert s
  decide +kernel

theorem cmp_sle : ∀ r s : Fin 128, IntOp.cmpi .sle (BitVec.ofNat 32 s.val) (BitVec.ofNat 32 r.val) = if s.val ≤ r.val then 1#1 else 0#1 := by
  decide +kernel

theorem cmp_eq : ∀ r s : Fin 128, IntOp.cmpi .eq (BitVec.ofNat 32 (r.val / 8)) (BitVec.ofNat 32 (s.val / 8)) = if r.val / 8 = s.val / 8 then 1#1 else 0#1 := by
  decide +kernel

theorem cmp_slt : ∀ t : Fin 130, IntOp.cmpi .slt (BitVec.ofNat 32 t.val) 128#32 = if t.val < 128 then 1#1 else 0#1 := by
  decide +kernel

/-- The mask of the mixing. -/
theorem keep_apply (i : grid0.Coords) (t : Fin 130) (ht : t.val = (i 0).val) (r s : Fin 128) :
    k0_pay9 (iota .tc S128x128 32 [0] iota_S128x128_d0_w32) (iota .tc S128x128 32 [1] iota_S128x128_d1_w32) (k0_pay4 i) k0_pay5 k0_pay6 k0_pay7
      k0_pay8 (ix2 r s) = if keep t.val r.val s.val then 1#1 else 0#1 := by
  have e : k0_pay9 (iota .tc S128x128 32 [0] iota_S128x128_d0_w32) (iota .tc S128x128 32 [1] iota_S128x128_d1_w32) (k0_pay4 i) k0_pay5 k0_pay6 k0_pay7
      k0_pay8 (ix2 r s) = IntOp.andi (IntOp.cmpi .sle (BitVec.ofNat 32 s.val) (BitVec.ofNat 32 r.val))
        (IntOp.ori (IntOp.cmpi .slt (BitVec.ofNat 32 (i 0).val) 128#32) (IntOp.cmpi .eq (BitVec.ofNat 32 (r.val / 8)) (BitVec.ofNat 32 (s.val / 8)))) := by
    rw [← pay5_apply r s, ← floor_apply r s]
    pointwise [k0_pay9, k0_pay4]
    try rfl
  rw [e, cmp_sle, cmp_eq, ← ht, cmp_slt]
  unfold keep
  by_cases h1 : s.val ≤ r.val <;> by_cases h2 : t.val < 128 <;> by_cases h3 : r.val / 8 = s.val / 8 <;> simp [h1, h2, h3, IntOp.andi, IntOp.ori]

/-- The mixing of one column by two weights, of which the lane takes one. -/
def pairS (M : IVec S128x128 1) (w0 w1 : Vec Ideal S1x1x128x128 .f32) (v : Fin 128 → EReal) (r l : Fin 128) : EReal :=
  ∑ s : Fin 128, (if M (ix2 r s) = 1#1 then (if l.val < 64 then w0 else w1) (ix4 (0 : Fin 1) (0 : Fin 1) r s) else 0) * v s

theorem lane_apply (l : Fin 128) : k0_pay10 (ix2 (0 : Fin 1) l) = if l.val < 64 then 1#1 else 0#1 := by
  pointwise [k0_pay10]
  revert l
  decide +kernel

theorem sel_ite {α : Type} (c : BitVec 1) (a b : α) : Scalar.select c a b = if c = 1#1 then a else b := rfl

theorem half_apply (M : IVec S128x128 1) (w : Vec Ideal S1x1x128x128 .f32) (v : FVec Ideal S128x128 .bf16) (r l : Fin 128) :
    matmul (F := Ideal) dot_S128x128_S128x128_S128x128_1_0_0_1_n_n none
      (truncf (F := Ideal) .bf16 (select M (shapeCast S128x128 w shapeCasts_S1x1x128x128_S128x128 : FVec Ideal S128x128 .f32)
        (broadcast S128x128 (Scalar.ofBits (F := Ideal) .f32 0x00000000#32))) bitsLt_bf16_f32) v (constant (F := Ideal) S128x128 .f32 0x00000000#32) (ix2 r l)
      = ∑ s : Fin 128, (if M (ix2 r s) = 1#1 then w (ix4 (0 : Fin 1) (0 : Fin 1) r s) else 0) * v (ix2 s l) := by
  pointwise []
  refine Finset.sum_congr rfl fun s _ => ?_
  rw [sel_ite]
  by_cases h : M (ix2 r s) = 1#1
  · simp [h]
  · simp [h]

theorem pair_close (M : IVec S128x128 1) (w0 w1 : Vec Ideal S1x1x128x128 .f32) (v : Fin 128 → EReal) (r l : Fin 128) :
    Scalar.select (if l.val < 64 then 1#1 else 0#1)
      (∑ x, Scalar.select (M (ix2 r x)) (w0 (ix4 (0 : Fin 1) (0 : Fin 1) r x) * v x) 0)
      (∑ x, Scalar.select (M (ix2 r x)) (w1 (ix4 (0 : Fin 1) (0 : Fin 1) r x) * v x) 0) = pairS M w0 w1 v r l := by
  unfold pairS
  rw [sel_ite]
  by_cases hl : l.val < 64
  · simp only [hl, if_true]
    refine Finset.sum_congr rfl fun s _ => ?_
    rw [sel_ite]
    by_cases h : M (ix2 r s) = 1#1
    · simp [h]
    · simp [h]
  · have hn : ¬ ((0#1 : BitVec 1) = 1#1) := by decide
    simp only [hl, if_false, hn]
    refine Finset.sum_congr rfl fun s _ => ?_
    rw [sel_ite]
    by_cases h : M (ix2 r s) = 1#1
    · simp [h]
    · simp [h]

theorem pay12_apply (v0 v1 : IVec S128x128 32) (v4 : IVec S128x128 1) (v28 v30 : IVec S128x128 32) (v44 : IVec S128x128 1) (v45 : IVec S128x128 32)
    (v60 : Vec Ideal S128x512 .f32) (v63 v69 : Vec Ideal S1x1x128x128 .f32) (r l : Fin 128) :
    k0_pay12 (F := Ideal) v0 v1 v4 v28 v30 v44 v45 v60 v63 v69 (ix2 r l)
      = pairS (k0_pay9 v0 v1 v4 v28 v30 v44 v45) v63 v69 (fun s => v60 (ix2 s (⟨l.val, by omega⟩ : Fin 512))) r l := by
  unfold k0_pay12
  generalize k0_pay9 v0 v1 v4 v28 v30 v44 v45 = M
  pointwise [lane_apply, half_apply, k0_pay11]
  exact pair_close M _ _ _ r l

theorem pay15_apply (v0 v1 : IVec S128x128 32) (v4 : IVec S128x128 1) (v28 v30 : IVec S128x128 32) (v44 : IVec S128x128 1) (v45 : IVec S128x128 32)
    (v60 : Vec Ideal S128x512 .f32) (v79 v85 : Vec Ideal S1x1x128x128 .f32) (r l : Fin 128) :
    k0_pay15 (F := Ideal) (k0_pay9 v0 v1 v4 v28 v30 v44 v45) k0_pay10 (k0_pay13 v60) (k0_pay14 v0 v1 v4 v28 v30 v44 v45 v79) v85 (ix2 r l)
      = pairS (k0_pay9 v0 v1 v4 v28 v30 v44 v45) v79 v85 (fun s => v60 (ix2 s (⟨128 + l.val, by omega⟩ : Fin 512))) r l := by
  unfold k0_pay15 k0_pay14
  generalize k0_pay9 v0 v1 v4 v28 v30 v44 v45 = M
  pointwise [lane_apply, half_apply, k0_pay13, k0_pay11]
  exact pair_close M _ _ _ r l

theorem pay16_apply (M : IVec S128x128 1) (v60 : Vec Ideal S128x512 .f32) (w0 w1 : Vec Ideal S1x1x128x128 .f32) (r l : Fin 128) :
    k0_pay16 (F := Ideal) M k0_pay10 (k0_pay11 v60) w0 w1 (ix2 r l)
      = pairS M w0 w1 (fun s => v60 (ix2 s (⟨256 + l.val, by omega⟩ : Fin 512))) r l := by
  unfold k0_pay16
  pointwise [lane_apply, half_apply, k0_pay11]
  exact pair_close M _ _ _ r l

theorem pay18_apply (M : IVec S128x128 1) (v61 : FVec Ideal S128x512 .bf16) (w : Vec Ideal S1x1x128x128 .f32) (r l : Fin 128) :
    k0_pay18 (F := Ideal) M v61 w (ix2 r l)
      = ∑ x, Scalar.select (M (ix2 r x)) (w (ix4 (0 : Fin 1) (0 : Fin 1) r x) * v61 (ix2 x (⟨384 + l.val, by omega⟩ : Fin 512))) 0 := by
  unfold k0_pay18
  pointwise [k0_pay17]
  try rfl

/-- Four blocks of lanes side by side. -/
def catS (a0 a1 a2 a3 : Fin 128 → EReal) (l : Fin 512) : EReal :=
  if h : l.val < 128 then a0 ⟨l.val, h⟩ else if h : l.val - 128 < 128 then a1 ⟨l.val - 128, h⟩
    else if h : l.val - 128 - 128 < 128 then a2 ⟨l.val - 128 - 128, h⟩ else a3 ⟨l.val - 128 - 128 - 128, by omega⟩

/-- The last pair of groups. -/
def lastPair (M : IVec S128x128 1) (v61 : FVec Ideal S128x512 .bf16) (w0 w1 : Vec Ideal S1x1x128x128 .f32) : FVec Ideal S128x128 .f32 :=
  select (broadcastTo S128x128 (shapeCast S1x128 k0_pay10 shapeCasts_S1x128_S1x128) broadcasts_S1x128_S128x128) (k0_pay18 (F := Ideal) M v61 w0)
    (matmul (F := Ideal) dot_S128x128_S128x128_S128x128_1_0_0_1_n_n none
      (truncf (F := Ideal) .bf16 (select M (shapeCast S128x128 w1 shapeCasts_S1x1x128x128_S128x128 : FVec Ideal S128x128 .f32)
        (broadcast S128x128 (Scalar.ofBits (F := Ideal) .f32 0x00000000#32))) bitsLt_bf16_f32) (k0_pay17 (F := Ideal) v61)
      (constant (F := Ideal) S128x128 .f32 0x00000000#32))

theorem lastPair_apply (M : IVec S128x128 1) (v61 : FVec Ideal S128x512 .bf16) (w0 w1 : Vec Ideal S1x1x128x128 .f32) (r l : Fin 128) :
    lastPair M v61 w0 w1 (ix2 r l) = pairS M w0 w1 (fun s => v61 (ix2 s (⟨384 + l.val, by omega⟩ : Fin 512))) r l := by
  unfold lastPair
  pointwise [lane_apply, k0_pay17, pay18_apply]
  exact pair_close M _ _ _ r l

/-- The merged rows from the four pairs of groups. -/
def tailV (a0 a1 a2 a3 : FVec Ideal S128x128 .f32) (b : Vec Ideal S1x128x512 .f32) (gu : Vec Ideal S128x512 .f32) (att : Vec Ideal S128x512 .bf16)
    (wa wb : Vec Ideal S512x1024 .bf16) (sa sb x : Vec Ideal S128x1024 .f32) (wo : Vec Ideal S1024x1024 .bf16) : FVec Ideal S128x1024 .f32 :=
  addf (F := Ideal) (φ := .f32) x (matmul (F := Ideal) (φ₁ := .bf16) (φ₂ := .bf16) dot_S128x1024_S1024x1024_S128x1024_1_0_0_1_n_n none (truncf (F := Ideal) (φ := .f32) .bf16
    (addf (F := Ideal) (φ := .f32)
      (mulf (F := Ideal) (φ := .f32) sa (matmul (F := Ideal) (φ₁ := .bf16) (φ₂ := .bf16) dot_S128x512_S512x1024_S128x1024_1_0_0_1_n_n none (att : FVec Ideal S128x512 .bf16)
        (shapeCast S512x1024 wa shapeCasts_S512x1024_S512x1024 : FVec Ideal S512x1024 .bf16) (constant (F := Ideal) S128x1024 .f32 0x00000000#32)))
      (mulf (F := Ideal) (φ := .f32) sb (matmul (F := Ideal) (φ₁ := .bf16) (φ₂ := .bf16) dot_S128x512_S512x1024_S128x1024_1_0_0_1_n_n none
        (truncf (F := Ideal) (φ := .f32) .bf16 (mulf (F := Ideal) (φ := .f32) gu (addf (F := Ideal) (φ := .f32)
          (concatenate S128x512 1 [⟨S128x128, a0⟩, ⟨S128x128, a1⟩, ⟨S128x128, a2⟩, ⟨S128x128, a3⟩] concatenates_S128x128_S128x128_S128x128_S128x128_S128x512_d1)
          (shapeCast S128x512 b shapeCasts_S1x128x512_S128x512))) bitsLt_bf16_f32)
        (shapeCast S512x1024 wb shapeCasts_S512x1024_S512x1024 : FVec Ideal S512x1024 .bf16) (constant (F := Ideal) S128x1024 .f32 0x00000000#32)))) bitsLt_bf16_f32)
    (shapeCast S1024x1024 wo shapeCasts_S1024x1024_S1024x1024 : FVec Ideal S1024x1024 .bf16) (constant (F := Ideal) S128x1024 .f32 0x00000000#32))

theorem tailV_apply (a0 a1 a2 a3 : FVec Ideal S128x128 .f32) (b : Vec Ideal S1x128x512 .f32) (gu : Vec Ideal S128x512 .f32) (att : Vec Ideal S128x512 .bf16)
    (wa wb : Vec Ideal S512x1024 .bf16) (sa sb x : Vec Ideal S128x1024 .f32) (wo : Vec Ideal S1024x1024 .bf16) (r : Fin 128) (k : Fin 1024) :
    tailV a0 a1 a2 a3 b gu att wa wb sa sb x wo (ix2 r k)
      = x1S (fun j => x (ix2 r j)) (fun j => att (ix2 r j)) (fun j => gu (ix2 r j))
        (fun l => catS (fun j => a0 (ix2 r j)) (fun j => a1 (ix2 r j)) (fun j => a2 (ix2 r j)) (fun j => a3 (ix2 r j)) l + b (ix3 (0 : Fin 1) r l))
        (fun j => sa (ix2 r j)) (fun j => sb (ix2 r j)) (fun i j => wa (ix2 i j)) (fun i j => wb (ix2 i j)) (fun i j => wo (ix2 i j)) k := by
  unfold tailV x1S catS
  pointwise []

theorem pay19_eq (M : IVec S128x128 1) (v61 : FVec Ideal S128x512 .bf16) (a0 a1 a2 : FVec Ideal S128x128 .f32) (w0 w1 : Vec Ideal S1x1x128x128 .f32)
    (b : Vec Ideal S1x128x512 .f32) (gu : Vec Ideal S128x512 .f32) (att : Vec Ideal S128x512 .bf16) (wa wb : Vec Ideal S512x1024 .bf16)
    (sa sb x : Vec Ideal S128x1024 .f32) (wo : Vec Ideal S1024x1024 .bf16) :
    k0_pay19 (F := Ideal) M k0_pay10 a0 a1 a2 (k0_pay17 v61) (k0_pay18 M v61 w0) w1 b gu att wa wb sa sb x wo
      = tailV a0 a1 a2 (lastPair M v61 w0 w1) b gu att wa wb sa sb x wo := rfl

theorem pay20_apply (x1 : FVec Ideal S128x1024 .f32) (g : Vec Ideal S1x1024 .f32) (r : Fin 128) (k : Fin 1024) :
    k0_pay20 (F := Ideal) x1 g (ix2 r k) = h2S (fun j => x1 (ix2 r j)) (fun j => g (ix2 (0 : Fin 1) j)) k := by
  unfold h2S c1024 eps
  pointwise [k0_pay20]
  try rfl

theorem pay21_apply (x1 : FVec Ideal S128x1024 .f32) (g : Vec Ideal S1x1024 .f32) (w : Vec Ideal S1024x2048 .bf16) (r : Fin 128) (n : Fin 2048) :
    k0_pay21 (F := Ideal) x1 g w (ix2 r n) = ∑ j, h2S (fun j => x1 (ix2 r j)) (fun j => g (ix2 (0 : Fin 1) j)) j * w (ix2 j n) := by
  unfold k0_pay21
  generalize hy : k0_pay20 (F := Ideal) x1 g = y
  pointwise []
  simp only [← hy, pay20_apply]

theorem ldw (x : Vec Ideal S1x8x128x128 .f32) (g : Fin 8) (inb : ∀ a, (![0, g.val, 0, 0] : Fin 4 → ℕ) a + S1x1x128x128.size a ≤ S1x8x128x128.size a)
    (r s : Fin 128) :
    View.ld x (Rect.unit (s := S1x8x128x128) ![0, g.val, 0, 0] S1x1x128x128.size inb) (ix4 (0 : Fin 1) (0 : Fin 1) r s) = x (ix4 (0 : Fin 1) g r s) := by
  refine (View.ld_apply _ _ _).trans (congrArg x (funext fun a => Fin.ext ?_))
  rw [Rect.idx_unit_val]
  match a with
  | ⟨0, _⟩ => rfl
  | ⟨1, _⟩ => show g.val + 0 = g.val; omega
  | ⟨2, _⟩ => show 0 + r.val = r.val; omega
  | ⟨3, _⟩ => show 0 + s.val = s.val; omega

theorem ldk (x : Vec Ideal S16x128x128 .f32) (g : Fin 16) (inb : ∀ a, (![g.val, 0, 0] : Fin 3 → ℕ) a + S1x128x128.size a ≤ S16x128x128.size a)
    (r s : Fin 128) :
    View.ld x (Rect.unit (s := S16x128x128) ![g.val, 0, 0] S1x128x128.size inb) (ix3 (0 : Fin 1) r s) = x (ix3 g r s) := by
  refine (View.ld_apply _ _ _).trans (congrArg x (funext fun a => Fin.ext ?_))
  rw [Rect.idx_unit_val]
  match a with
  | ⟨0, _⟩ => show g.val + 0 = g.val; omega
  | ⟨1, _⟩ => show 0 + r.val = r.val; omega
  | ⟨2, _⟩ => show 0 + s.val = s.val; omega

end Cert.Proof.P3

end
-- ==== Proof.P3Pay2.lean ====
module

public import proofs.«01_k».proof.Proof.P3Pay
public import Idealize.ShloMosaic.Lib.Pipeline.Value

/-!
# The values of the merge's chunk, entry by entry
-/
@[expose] public section

set_option maxRecDepth 16384

noncomputable section

namespace Cert.Proof.P3

open Idealize.ShloMosaic Idealize.ShloMosaic.TcCoe Idealize.SL.Sem
open Cert.Proof.P2 (c1024 eps)
open Cert.Kernel3Ideal Cert.Kernel3Ideal.Gen

theorem pairS_keep (M : IVec S128x128 1) (t : ℕ) (hM : ∀ r s : Fin 128, M (ix2 r s) = if keep t r.val s.val then 1#1 else 0#1)
    (x6 : Vec Ideal S1x8x128x128 .f32) (w0 w1 : Vec Ideal S1x1x128x128 .f32) (g0 g1 : Fin 8)
    (h0 : ∀ r s, w0 (ix4 (0 : Fin 1) (0 : Fin 1) r s) = x6 (ix4 (0 : Fin 1) g0 r s)) (h1 : ∀ r s, w1 (ix4 (0 : Fin 1) (0 : Fin 1) r s) = x6 (ix4 (0 : Fin 1) g1 r s))
    (v : Fin 128 → EReal) (r l : Fin 128) (g : Fin 8) (hg0 : l.val < 64 → g = g0) (hg1 : ¬ l.val < 64 → g = g1) :
    pairS M w0 w1 v r l = ∑ s : Fin 128, (if keep t r.val s.val then x6 (ix4 (0 : Fin 1) g r s) else 0) * v s := by
  unfold pairS
  refine Finset.sum_congr rfl fun s _ => congrArg (· * v s) ?_
  have e : ((if l.val < 64 then w0 else w1) (ix4 (0 : Fin 1) (0 : Fin 1) r s)) = x6 (ix4 (0 : Fin 1) g r s) := by
    by_cases hl : l.val < 64
    · rw [if_pos hl, h0, hg0 hl]
    · rw [if_neg hl, h1, hg1 hl]
  rw [e, hM r s]
  by_cases hk : keep t r.val s.val
  · rw [if_pos hk, if_pos hk, if_pos rfl]
  · rw [if_neg hk, if_neg hk, if_neg (by decide)]

variable (i : grid0.Coords) (x0 : Vec Ideal S128x1024 .f32) (x1 : Vec Ideal S128x512 .bf16) (x2 x3 : Vec Ideal S128x512 .f32) (x4 x5 : Vec Ideal S128x1024 .f32)
  (x6 : Vec Ideal S1x8x128x128 .f32) (x7 : Vec Ideal S1x128x512 .f32) (x8 x9 : Vec Ideal S512x1024 .bf16) (x10 : Vec Ideal S1024x1024 .bf16)
  (x11 : Vec Ideal S1x1024 .f32) (x12 : Vec Ideal S1024x2048 .bf16) (x13 : Vec Ideal S16x128x128 .f32)

theorem pay46_apply (t : Fin 130) (ht : t.val = (i 0).val) (r s : Fin 128) :
    k0_pay46 (F := Ideal) i x0 x1 x2 x3 x4 x5 x6 x7 x8 x9 x10 x11 x12 x13 (ix2 r s) = if keep t.val r.val s.val then 1#1 else 0#1 :=
  keep_apply i t ht r s

/-- The chunk's mixed values. -/
def mixB (t : Fin 130) (r : Fin 128) (l : Fin 512) : EReal :=
  (∑ s : Fin 128, (if keep t.val r.val s.val then x6 (ix4 (0 : Fin 1) (grp l) r s) else 0) * x3 (ix2 s l)) + x7 (ix3 (0 : Fin 1) r l)

/-- The chunk's merged rows. -/
abbrev x1B (t : Fin 130) (r : Fin 128) : Fin 1024 → EReal :=
  x1S (fun j => x0 (ix2 r j)) (fun j => x1 (ix2 r j)) (fun j => x2 (ix2 r j)) (mixB x3 x6 x7 t r)
    (fun j => x4 (ix2 r j)) (fun j => x5 (ix2 r j)) (fun i j => x8 (ix2 i j)) (fun i j => x9 (ix2 i j)) (fun i j => x10 (ix2 i j))

theorem pay49_apply (t : Fin 130) (ht : t.val = (i 0).val) (r : Fin 128) (k : Fin 1024) :
    k0_pay49 (F := Ideal) i x0 x1 x2 x3 x4 x5 x6 x7 x8 x9 x10 x11 x12 x13 (ix2 r k) = x1B x0 x1 x2 x3 x4 x5 x6 x7 x8 x9 x10 t r k := by
  have hM := pay46_apply i x0 x1 x2 x3 x4 x5 x6 x7 x8 x9 x10 x11 x12 x13 t ht
  have e : k0_pay49 (F := Ideal) i x0 x1 x2 x3 x4 x5 x6 x7 x8 x9 x10 x11 x12 x13 = tailV
      (k0_pay12 (F := Ideal) (iota .tc S128x128 32 [0] iota_S128x128_d0_w32) (iota .tc S128x128 32 [1] iota_S128x128_d1_w32) (k0_pay4 i) k0_pay5 k0_pay6 k0_pay7 k0_pay8
        (View.ld x3 r0_0) (View.ld x6 r0_1) (View.ld x6 r0_2))
      (k0_pay15 (F := Ideal) (k0_pay9 (iota .tc S128x128 32 [0] iota_S128x128_d0_w32) (iota .tc S128x128 32 [1] iota_S128x128_d1_w32) (k0_pay4 i) k0_pay5 k0_pay6 k0_pay7 k0_pay8)
        k0_pay10 (k0_pay13 (View.ld x3 r0_0)) (k0_pay14 (iota .tc S128x128 32 [0] iota_S128x128_d0_w32) (iota .tc S128x128 32 [1] iota_S128x128_d1_w32) (k0_pay4 i) k0_pay5 k0_pay6 k0_pay7 k0_pay8
          (View.ld x6 r0_3)) (View.ld x6 r0_4))
      (k0_pay16 (F := Ideal) (k0_pay46 (F := Ideal) i x0 x1 x2 x3 x4 x5 x6 x7 x8 x9 x10 x11 x12 x13) k0_pay10 (k0_pay11 (View.ld x3 r0_0)) (View.ld x6 r0_5) (View.ld x6 r0_6))
      (lastPair (k0_pay46 (F := Ideal) i x0 x1 x2 x3 x4 x5 x6 x7 x8 x9 x10 x11 x12 x13) (k0_pay11 (View.ld x3 r0_0)) (View.ld x6 r0_7) (View.ld x6 r0_8))
      (View.ld x7 r0_9) (View.ld x2 r0_0) (View.ld x1 r0_0) (View.ld x8 r0_10) (View.ld x9 r0_10) (View.ld x4 r0_11) (View.ld x5 r0_11) (View.ld x0 r0_11)
      (View.ld x10 r0_12) := pay19_eq _ _ _ _ _ _ _ _ _ _ _ _ _ _ _ _
  rw [e, tailV_apply]
  repeat rw [View.ld_unit_lit _ _ (by decide)]
  unfold x1B
  refine congrArg (fun z => x1S _ _ _ z _ _ _ _ _ k) (funext fun l => ?_)
  unfold mixB
  refine congrArg (· + x7 (ix3 (0 : Fin 1) r l)) ?_
  unfold catS
  have hl := l.isLt
  by_cases h1 : l.val < 128
  · rw [dif_pos h1]
    refine (pay12_apply _ _ _ _ _ _ _ _ _ _ r ⟨l.val, h1⟩).trans ?_
    exact pairS_keep _ t.val hM x6 _ _ 0 1 (ldw x6 0 _) (ldw x6 1 _) _ r ⟨l.val, h1⟩ (grp l)
      (fun h => Fin.ext (show l.val / 64 = 0 by have : l.val < 64 := h; omega)) (fun h => Fin.ext (show l.val / 64 = 1 by have : ¬ l.val < 64 := h; omega))
  · rw [dif_neg h1]
    by_cases h2 : l.val - 128 < 128
    · rw [dif_pos h2]
      refine (pay15_apply _ _ _ _ _ _ _ _ _ _ r ⟨l.val - 128, h2⟩).trans ?_
      refine (pairS_keep _ t.val hM x6 _ _ 2 3 (ldw x6 2 _) (ldw x6 3 _) _ r ⟨l.val - 128, h2⟩ (grp l)
        (fun h => Fin.ext (show l.val / 64 = 2 by have : l.val - 128 < 64 := h; omega)) (fun h => Fin.ext (show l.val / 64 = 3 by have : ¬ l.val - 128 < 64 := h; omega))).trans ?_
      refine Finset.sum_congr rfl fun s _ => congrArg₂ (· * ·) rfl (congrArg (fun z : Fin 512 => x3 (ix2 s z)) (Fin.ext ?_))
      show 128 + (l.val - 128) = l.val
      omega
    · rw [dif_neg h2]
      by_cases h3 : l.val - 128 - 128 < 128
      · rw [dif_pos h3]
        refine (pay16_apply _ _ _ _ r ⟨l.val - 128 - 128, h3⟩).trans ?_
        refine (pairS_keep _ t.val hM x6 _ _ 4 5 (ldw x6 4 _) (ldw x6 5 _) _ r ⟨l.val - 128 - 128, h3⟩ (grp l)
          (fun h => Fin.ext (show l.val / 64 = 4 by have : l.val - 128 - 128 < 64 := h; omega)) (fun h => Fin.ext (show l.val / 64 = 5 by have : ¬ l.val - 128 - 128 < 64 := h; omega))).trans ?_
        refine Finset.sum_congr rfl fun s _ => congrArg₂ (· * ·) rfl (congrArg (fun z : Fin 512 => x3 (ix2 s z)) (Fin.ext ?_))
        show 256 + (l.val - 128 - 128) = l.val
        omega
      · rw [dif_neg h3]
        refine (lastPair_apply _ _ _ _ r ⟨l.val - 128 - 128 - 128, by omega⟩).trans ?_
        refine (pairS_keep _ t.val hM x6 _ _ 6 7 (ldw x6 6 _) (ldw x6 7 _) _ r ⟨l.val - 128 - 128 - 128, by omega⟩ (grp l)
          (fun h => Fin.ext (show l.val / 64 = 6 by have : l.val - 128 - 128 - 128 < 64 := h; omega)) (fun h => Fin.ext (show l.val / 64 = 7 by have : ¬ l.val - 128 - 128 - 128 < 64 := h; omega))).trans ?_
        refine Finset.sum_congr rfl fun s _ => congrArg₂ (· * ·) rfl (congrArg (fun z : Fin 512 => x3 (ix2 s z)) (Fin.ext ?_))
        show 384 + (l.val - 128 - 128 - 128) = l.val
        omega

theorem out14_apply (t : Fin 130) (ht : t.val = (i 0).val) (r : Fin 128) (k : Fin 1024) :
    out0_14 (F := Ideal) i x0 x1 x2 x3 x4 x5 x6 x7 x8 x9 x10 x11 x12 x13 (ix2 r k) = x1B x0 x1 x2 x3 x4 x5 x6 x7 x8 x9 x10 t r k := by
  unfold out0_14
  rw [View.canon_cons_unit_lit _ _ _ (by decide)]
  exact pay49_apply i x0 x1 x2 x3 x4 x5 x6 x7 x8 x9 x10 x11 x12 x13 t ht r k

theorem out15_apply (t : Fin 130) (ht : t.val = (i 0).val) (r : Fin 128) (k : Fin 1024) :
    out0_15 (F := Ideal) i x0 x1 x2 x3 x4 x5 x6 x7 x8 x9 x10 x11 x12 x13 (ix2 r k) = h2S (x1B x0 x1 x2 x3 x4 x5 x6 x7 x8 x9 x10 t r) (fun j => x11 (ix2 (0 : Fin 1) j)) k := by
  unfold out0_15
  rw [View.canon_cons_unit_lit _ _ _ (by decide)]
  repeat rw [View.ld_unit_lit _ _ (by decide)]
  refine (pay20_apply _ _ r k).trans (congrArg (fun z => h2S z _ k) (funext fun j => ?_))
  exact pay49_apply i x0 x1 x2 x3 x4 x5 x6 x7 x8 x9 x10 x11 x12 x13 t ht r j

end Cert.Proof.P3

end
-- ==== Proof.P3Pay3.lean ====
module

public import proofs.«01_k».proof.Proof.P3Pay2
public import Idealize.ShloMosaic.Lib.Pipeline.Value

/-!
# The values of the merge's key scores, entry by entry
-/
@[expose] public section

set_option maxRecDepth 16384

noncomputable section

namespace Cert.Proof.P3

open Idealize.ShloMosaic Idealize.ShloMosaic.TcCoe Idealize.SL.Sem
open Cert.Proof.P2 (c1024 eps)
open Cert.Kernel3Ideal Cert.Kernel3Ideal.Gen

variable (i : grid0.Coords) (x0 : Vec Ideal S128x1024 .f32) (x1 : Vec Ideal S128x512 .bf16) (x2 x3 : Vec Ideal S128x512 .f32) (x4 x5 : Vec Ideal S128x1024 .f32)
  (x6 : Vec Ideal S1x8x128x128 .f32) (x7 : Vec Ideal S1x128x512 .f32) (x8 x9 : Vec Ideal S512x1024 .bf16) (x10 : Vec Ideal S1024x1024 .bf16)
  (x11 : Vec Ideal S1x1024 .f32) (x12 : Vec Ideal S1024x2048 .bf16) (x13 : Vec Ideal S16x128x128 .f32)

theorem sc2 (y : FVec Ideal S128x2048 .f32) (w : Vec Ideal S1x128x128 .f32) (n r : Fin 128) :
    k0_pay25 (F := Ideal) y w (ix3 (0 : Fin 1) n r) = ∑ k, w (ix3 (0 : Fin 1) n k) * y (ix2 r (⟨256 + k.val, by omega⟩ : Fin 2048)) := by
  pointwise [k0_pay25]
  try rfl

theorem sc3 (y : FVec Ideal S128x2048 .f32) (w : Vec Ideal S1x128x128 .f32) (n r : Fin 128) :
    k0_pay26 (F := Ideal) y w (ix3 (0 : Fin 1) n r) = ∑ k, w (ix3 (0 : Fin 1) n k) * y (ix2 r (⟨384 + k.val, by omega⟩ : Fin 2048)) := by
  pointwise [k0_pay26]
  try rfl

theorem sc4 (y : FVec Ideal S128x2048 .f32) (w : Vec Ideal S1x128x128 .f32) (n r : Fin 128) :
    k0_pay27 (F := Ideal) y w (ix3 (0 : Fin 1) n r) = ∑ k, w (ix3 (0 : Fin 1) n k) * y (ix2 r (⟨512 + k.val, by omega⟩ : Fin 2048)) := by
  pointwise [k0_pay27]
  try rfl

theorem sc5 (y : FVec Ideal S128x2048 .f32) (w : Vec Ideal S1x128x128 .f32) (n r : Fin 128) :
    k0_pay29 (F := Ideal) (k0_pay28 (F := Ideal) y w) (ix3 (0 : Fin 1) n r) = ∑ k, w (ix3 (0 : Fin 1) n k) * y (ix2 r (⟨640 + k.val, by omega⟩ : Fin 2048)) := by
  pointwise [k0_pay29, k0_pay28]
  try rfl

theorem sc6 (y : FVec Ideal S128x2048 .f32) (w : Vec Ideal S1x128x128 .f32) (n r : Fin 128) :
    k0_pay30 (F := Ideal) y w (ix3 (0 : Fin 1) n r) = ∑ k, w (ix3 (0 : Fin 1) n k) * y (ix2 r (⟨768 + k.val, by omega⟩ : Fin 2048)) := by
  pointwise [k0_pay30]
  try rfl

theorem sc7 (y : FVec Ideal S128x2048 .f32) (w : Vec Ideal S1x128x128 .f32) (n r : Fin 128) :
    k0_pay31 (F := Ideal) y w (ix3 (0 : Fin 1) n r) = ∑ k, w (ix3 (0 : Fin 1) n k) * y (ix2 r (⟨896 + k.val, by omega⟩ : Fin 2048)) := by
  pointwise [k0_pay31]
  try rfl

theorem sc8 (y : FVec Ideal S128x2048 .f32) (w : Vec Ideal S1x128x128 .f32) (n r : Fin 128) :
    k0_pay32 (F := Ideal) y w (ix3 (0 : Fin 1) n r) = ∑ k, w (ix3 (0 : Fin 1) n k) * y (ix2 r (⟨1024 + k.val, by omega⟩ : Fin 2048)) := by
  pointwise [k0_pay32]
  try rfl

theorem sc9 (y : FVec Ideal S128x2048 .f32) (w : Vec Ideal S1x128x128 .f32) (n r : Fin 128) :
    k0_pay34 (F := Ideal) (k0_pay33 (F := Ideal) y w) (ix3 (0 : Fin 1) n r) = ∑ k, w (ix3 (0 : Fin 1) n k) * y (ix2 r (⟨1152 + k.val, by omega⟩ : Fin 2048)) := by
  pointwise [k0_pay34, k0_pay33]
  try rfl

theorem sc10 (y : FVec Ideal S128x2048 .f32) (w : Vec Ideal S1x128x128 .f32) (n r : Fin 128) :
    k0_pay35 (F := Ideal) y w (ix3 (0 : Fin 1) n r) = ∑ k, w (ix3 (0 : Fin 1) n k) * y (ix2 r (⟨1280 + k.val, by omega⟩ : Fin 2048)) := by
  pointwise [k0_pay35]
  try rfl

theorem sc11 (y : FVec Ideal S128x2048 .f32) (w : Vec Ideal S1x128x128 .f32) (n r : Fin 128) :
    k0_pay36 (F := Ideal) y w (ix3 (0 : Fin 1) n r) = ∑ k, w (ix3 (0 : Fin 1) n k) * y (ix2 r (⟨1408 + k.val, by omega⟩ : Fin 2048)) := by
  pointwise [k0_pay36]
  try rfl

theorem sc12 (y : FVec Ideal S128x2048 .f32) (w : Vec Ideal S1x128x128 .f32) (n r : Fin 128) :
    k0_pay37 (F := Ideal) y w (ix3 (0 : Fin 1) n r) = ∑ k, w (ix3 (0 : Fin 1) n k) * y (ix2 r (⟨1536 + k.val, by omega⟩ : Fin 2048)) := by
  pointwise [k0_pay37]
  try rfl

theorem sc13 (y : FVec Ideal S128x2048 .f32) (w : Vec Ideal S1x128x128 .f32) (n r : Fin 128) :
    k0_pay1 (F := Ideal) (k0_pay38 (F := Ideal) y w) (ix3 (0 : Fin 1) n r) = ∑ k, w (ix3 (0 : Fin 1) n k) * y (ix2 r (⟨1664 + k.val, by omega⟩ : Fin 2048)) := by
  pointwise [k0_pay1, k0_pay38]
  try rfl

theorem sc14 (y : FVec Ideal S128x2048 .f32) (w : Vec Ideal S1x128x128 .f32) (n r : Fin 128) :
    k0_pay2 (F := Ideal) y w (ix3 (0 : Fin 1) n r) = ∑ k, w (ix3 (0 : Fin 1) n k) * y (ix2 r (⟨1792 + k.val, by omega⟩ : Fin 2048)) := by
  pointwise [k0_pay2]
  try rfl

theorem sc15 (y : FVec Ideal S128x2048 .f32) (w : Vec Ideal S1x128x128 .f32) (n r : Fin 128) :
    k0_pay3 (F := Ideal) y w (ix3 (0 : Fin 1) n r) = ∑ k, w (ix3 (0 : Fin 1) n k) * y (ix2 r (⟨1920 + k.val, by omega⟩ : Fin 2048)) := by
  pointwise [k0_pay3]
  try rfl

theorem sc0 (a : FVec Ideal S128x1024 .f32) (b : Vec Ideal S1x1024 .f32) (d : Vec Ideal S1024x2048 .bf16) (w : Vec Ideal S1x128x128 .f32) (n r : Fin 128) :
    k0_pay22 (F := Ideal) a b d w (ix3 (0 : Fin 1) n r) = ∑ k, w (ix3 (0 : Fin 1) n k) * k0_pay21 (F := Ideal) a b d (ix2 r (⟨0 + k.val, by omega⟩ : Fin 2048)) := by
  unfold k0_pay22
  generalize k0_pay21 (F := Ideal) a b d = y
  pointwise []
  try rfl

theorem sc1 (a : FVec Ideal S128x1024 .f32) (b : Vec Ideal S1x1024 .f32) (d : Vec Ideal S1024x2048 .bf16) (w : Vec Ideal S1x128x128 .f32) (n r : Fin 128) :
    k0_pay24 (F := Ideal) (k0_pay23 (F := Ideal) a b d w) (ix3 (0 : Fin 1) n r) = ∑ k, w (ix3 (0 : Fin 1) n k) * k0_pay21 (F := Ideal) a b d (ix2 r (⟨128 + k.val, by omega⟩ : Fin 2048)) := by
  unfold k0_pay23
  generalize k0_pay21 (F := Ideal) a b d = y
  pointwise [k0_pay24]
  try rfl

/-- The chunk's key scores. -/
def stB (q : Fin 128 → Fin 2048 → EReal) (key : Fin 16 → Fin 128 → Fin 128 → EReal) (g : Fin 16) (n r : Fin 128) : EReal :=
  ∑ k : Fin 128, key g n k * q r ⟨g.val * 128 + k.val, by omega⟩

/-- One piece of the scores. -/
theorem piece (q : FVec Ideal S128x2048 .f32) (g : Fin 16) (inb : ∀ a, (![g.val, 0, 0] : Fin 3 → ℕ) a + S1x128x128.size a ≤ S16x128x128.size a)
    (P : Vec Ideal S1x128x128 .f32) (hP : ∀ n r : Fin 128, P (ix3 (0 : Fin 1) n r) = ∑ k : Fin 128,
      View.ld x13 (Rect.unit (s := S16x128x128) ![g.val, 0, 0] S1x128x128.size inb) (ix3 (0 : Fin 1) n k) * q (ix2 r (⟨g.val * 128 + k.val, by omega⟩ : Fin 2048)))
    (x : S1x128x128.Idx) : P x = (fun y : S16x128x128.Idx => stB (fun r j => q (ix2 r j)) (fun g n k => x13 (ix3 g n k)) (y 0) (y 1) (y 2))
      ((Rect.unit (s := S16x128x128) ![g.val, 0, 0] S1x128x128.size inb).emb x) := by
  have hx : x = ix3 (0 : Fin 1) (x 1) (x 2) := by
    funext a
    match a with
    | ⟨0, _⟩ => exact Fin.ext (by have : (x 0).val < 1 := (x 0).isLt; show (x 0).val = 0; omega)
    | ⟨1, _⟩ => rfl
    | ⟨2, _⟩ => rfl
  have e0 : ((Rect.unit (s := S16x128x128) ![g.val, 0, 0] S1x128x128.size inb).emb x) = ix3 g (x 1) (x 2) := by
    funext a
    refine Fin.ext ((Rect.idx_unit_val _ _ _ _ _).trans ?_)
    match a with
    | ⟨0, _⟩ => have : (x 0).val < 1 := (x 0).isLt; show g.val + (x 0).val = g.val; omega
    | ⟨1, _⟩ => show 0 + (x 1).val = (x 1).val; omega
    | ⟨2, _⟩ => show 0 + (x 2).val = (x 2).val; omega
  rw [e0]
  refine (congrArg P hx).trans ((hP (x 1) (x 2)).trans ?_)
  unfold stB
  refine Finset.sum_congr rfl fun k _ => ?_
  exact congrArg₂ (· * ·) (ldk x13 g inb (x 1) k) rfl

theorem out16_pieces (a : FVec Ideal S128x1024 .f32) (b : Vec Ideal S1x1024 .f32) (d : Vec Ideal S1024x2048 .bf16) (y : S16x128x128.Idx)
    (e9 : k0_pay49 (F := Ideal) i x0 x1 x2 x3 x4 x5 x6 x7 x8 x9 x10 x11 x12 x13 = a) (e1 : View.ld x11 r0_13 = b) (e2 : View.ld x12 r0_14 = d) :
    out0_16 (F := Ideal) i x0 x1 x2 x3 x4 x5 x6 x7 x8 x9 x10 x11 x12 x13 y
      = stB (fun r j => k0_pay21 (F := Ideal) a b d (ix2 r j)) (fun g n k => x13 (ix3 g n k)) (y 0) (y 1) (y 2) := by
  have e3 : k0_pay50 (F := Ideal) i x0 x1 x2 x3 x4 x5 x6 x7 x8 x9 x10 x11 x12 x13 = k0_pay21 (F := Ideal) a b d := by
    rw [← e9, ← e1, ← e2]
    rfl
  unfold out0_16
  rw [e3, e9, e1, e2]
  refine View.canon_apply_of_pieces (Val := Elt Ideal) (e := .f32) (fun y : S16x128x128.Idx => stB (fun r j => k0_pay21 (F := Ideal) a b d (ix2 r j)) (fun g n k => x13 (ix3 g n k)) (y 0) (y 1) (y 2))
    _ ?_ y (cover0_16 _ _ _ _ _ _ _ _ _ _ _ _ _ _ _ _ y)
  refine List.forall_mem_cons.2 ⟨fun x => piece x13 _ 15 _ _ (fun n r => sc15 _ _ n r) x, ?_⟩
  refine List.forall_mem_cons.2 ⟨fun x => piece x13 _ 14 _ _ (fun n r => sc14 _ _ n r) x, ?_⟩
  refine List.forall_mem_cons.2 ⟨fun x => piece x13 _ 13 _ _ (fun n r => sc13 _ _ n r) x, ?_⟩
  refine List.forall_mem_cons.2 ⟨fun x => piece x13 _ 12 _ _ (fun n r => sc12 _ _ n r) x, ?_⟩
  refine List.forall_mem_cons.2 ⟨fun x => piece x13 _ 11 _ _ (fun n r => sc11 _ _ n r) x, ?_⟩
  refine List.forall_mem_cons.2 ⟨fun x => piece x13 _ 10 _ _ (fun n r => sc10 _ _ n r) x, ?_⟩
  refine List.forall_mem_cons.2 ⟨fun x => piece x13 _ 9 _ _ (fun n r => sc9 _ _ n r) x, ?_⟩
  refine List.forall_mem_cons.2 ⟨fun x => piece x13 _ 8 _ _ (fun n r => sc8 _ _ n r) x, ?_⟩
  refine List.forall_mem_cons.2 ⟨fun x => piece x13 _ 7 _ _ (fun n r => sc7 _ _ n r) x, ?_⟩
  refine List.forall_mem_cons.2 ⟨fun x => piece x13 _ 6 _ _ (fun n r => sc6 _ _ n r) x, ?_⟩
  refine List.forall_mem_cons.2 ⟨fun x => piece x13 _ 5 _ _ (fun n r => sc5 _ _ n r) x, ?_⟩
  refine List.forall_mem_cons.2 ⟨fun x => piece x13 _ 4 _ _ (fun n r => sc4 _ _ n r) x, ?_⟩
  refine List.forall_mem_cons.2 ⟨fun x => piece x13 _ 3 _ _ (fun n r => sc3 _ _ n r) x, ?_⟩
  refine List.forall_mem_cons.2 ⟨fun x => piece x13 _ 2 _ _ (fun n r => sc2 _ _ n r) x, ?_⟩
  refine List.forall_mem_cons.2 ⟨fun x => piece x13 _ 1 _ _ (fun n r => sc1 _ _ _ _ n r) x, ?_⟩
  refine List.forall_mem_cons.2 ⟨fun x => piece x13 _ 0 _ _ (fun n r => sc0 _ _ _ _ n r) x, ?_⟩
  exact fun p hp => absurd hp List.not_mem_nil

theorem out16_apply (t : Fin 130) (ht : t.val = (i 0).val) (g : Fin 16) (n r : Fin 128) :
    out0_16 (F := Ideal) i x0 x1 x2 x3 x4 x5 x6 x7 x8 x9 x10 x11 x12 x13 (ix3 g n r)
      = stB (fun r n => ∑ j, h2S (x1B x0 x1 x2 x3 x4 x5 x6 x7 x8 x9 x10 t r) (fun j => x11 (ix2 (0 : Fin 1) j)) j * x12 (ix2 j n)) (fun g n k => x13 (ix3 g n k)) g n r := by
  refine (out16_pieces i x0 x1 x2 x3 x4 x5 x6 x7 x8 x9 x10 x11 x12 x13 _ _ _ _ rfl (View.ld_unit_lit _ _ (by decide)) (View.ld_unit_lit _ _ (by decide))).trans ?_
  show stB _ _ g n r = _
  unfold stB
  refine Finset.sum_congr rfl fun k _ => congrArg (_ * ·) ?_
  refine (pay21_apply _ _ _ r _).trans (Finset.sum_congr rfl fun j _ => congrArg (· * _) (congrArg (fun z => h2S z _ j) (funext fun j => ?_)))
  exact pay49_apply i x0 x1 x2 x3 x4 x5 x6 x7 x8 x9 x10 x11 x12 x13 t ht r j

end Cert.Proof.P3

end
-- ==== Proof.P3Arr.lean ====
module

public import proofs.«01_k».proof.Proof.P3Idx
public import proofs.«01_k».proof.Proof.P3Pay3
public import Idealize.ShloMosaic.Lib.WritesUnit

/-!
# The arrays the merge leaves
-/
@[expose] public section

set_option maxRecDepth 16384

noncomputable section

namespace Cert.Proof.P3

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The input arrays by entry. -/
abbrev aX (r : Fin 16640) (k : Fin 1024) : EReal := m ((c : Thread nD τ).loc main_arg0) (ix2 r k)
abbrev aAtt (r : Fin 16640) (k : Fin 512) : EReal := m ((c : Thread nD τ).loc main_arg1) (ix2 r k)
abbrev aGu (r : Fin 16640) (k : Fin 512) : EReal := m ((c : Thread nD τ).loc main_arg2) (ix2 r k)
abbrev aV (r : Fin 16640) (k : Fin 512) : EReal := m ((c : Thread nD τ).loc main_arg3) (ix2 r k)
abbrev aSa (r : Fin 16640) (k : Fin 1024) : EReal := m ((c : Thread nD τ).loc main_arg4) (ix2 r k)
abbrev aSb (r : Fin 16640) (k : Fin 1024) : EReal := m ((c : Thread nD τ).loc main_arg5) (ix2 r k)
abbrev aWs (g : Fin 8) (r s : Fin 128) : EReal := m ((c : Thread nD τ).loc main_arg6) (ix3 g r s)
abbrev aBs (g : Fin 8) (r : Fin 128) : EReal := m ((c : Thread nD τ).loc main_arg7) (ix2 g r)
abbrev aWa (i : Fin 512) (j : Fin 1024) : EReal := m ((c : Thread nD τ).loc main_arg8) (ix2 i j)
abbrev aWb (i : Fin 512) (j : Fin 1024) : EReal := m ((c : Thread nD τ).loc main_arg9) (ix2 i j)
abbrev aWo (i : Fin 1024) (j : Fin 1024) : EReal := m ((c : Thread nD τ).loc main_arg10) (ix2 i j)
abbrev aG (k : Fin 1024) : EReal := m ((c : Thread nD τ).loc main_arg11) (ix1 k)
abbrev aWq (i : Fin 1024) (j : Fin 2048) : EReal := m ((c : Thread nD τ).loc main_arg12) (ix2 i j)
abbrev aKey (g : Fin 16) (n k : Fin 128) : EReal :=
  m ((c : Thread nD τ).loc main_arg13) (ix4 (⟨g.val / 2, by omega⟩ : Fin 8) (⟨g.val % 2, by omega⟩ : Fin 2) n k)

/-- A chunk by its point. -/
abbrev ch (t : Fin cfg0.N) : Fin 130 := ⟨t.val, Nat.lt_of_lt_of_eq t.isLt N_0⟩

theorem blk0 (t : Fin cfg0.N) (r : Fin 128) (k : Fin 1024) : iblk m c 0 t (ix2 r k) = aX m c (rowOf (ch t) r) k := by
  unfold aX rowOf
  blk_point [iblk, idx0 t]

theorem blk1 (t : Fin cfg0.N) (r : Fin 128) (k : Fin 512) : iblk m c 1 t (ix2 r k) = aAtt m c (rowOf (ch t) r) k := by
  unfold aAtt rowOf
  blk_point [iblk, idx1 t]

theorem blk2 (t : Fin cfg0.N) (r : Fin 128) (k : Fin 512) : iblk m c 2 t (ix2 r k) = aGu m c (rowOf (ch t) r) k := by
  unfold aGu rowOf
  blk_point [iblk, idx2 t]

theorem blk3 (t : Fin cfg0.N) (r : Fin 128) (k : Fin 512) : iblk m c 3 t (ix2 r k) = aV m c (rowOf (ch t) r) k := by
  unfold aV rowOf
  blk_point [iblk, idx3 t]

theorem blk4 (t : Fin cfg0.N) (r : Fin 128) (k : Fin 1024) : iblk m c 4 t (ix2 r k) = aSa m c (rowOf (ch t) r) k := by
  unfold aSa rowOf
  blk_point [iblk, idx4 t]

theorem blk5 (t : Fin cfg0.N) (r : Fin 128) (k : Fin 1024) : iblk m c 5 t (ix2 r k) = aSb m c (rowOf (ch t) r) k := by
  unfold aSb rowOf
  blk_point [iblk, idx5 t]

theorem blk6 (t : Fin cfg0.N) (g : Fin 8) (r s : Fin 128) : iblk m c 6 t (ix4 (0 : Fin 1) g r s) = wV (aWs m c g) (ch t) r s := by
  unfold wV aWs
  by_cases h : t.val < 128
  · have e : (cfg0.win 6).index t = ![0, 0, 0, 0] := by rw [idx6 t, if_pos h]
    rw [if_pos (show (ch t).val < 128 from h)]
    refine Eq.trans ?_ ((v6_apply m c 0 g r s).trans (if_pos rfl))
    blk_point [iblk, e]
  · have e : (cfg0.win 6).index t = ![1, 0, 0, 0] := by rw [idx6 t, if_neg h]
    rw [if_neg (show ¬ (ch t).val < 128 from h)]
    refine Eq.trans ?_ ((v6_apply m c 1 g r s).trans (if_neg (by decide)))
    blk_point [iblk, e]

theorem blk7 (t : Fin cfg0.N) (r : Fin 128) (l : Fin 512) : iblk m c 7 t (ix3 (0 : Fin 1) r l) = bV (aBs m c (grp l)) (ch t) r := by
  unfold bV aBs
  by_cases h : t.val < 128
  · have e : (cfg0.win 7).index t = ![0, 0, 0] := by rw [idx7 t, if_pos h]
    rw [if_pos (show (ch t).val < 128 from h)]
    refine Eq.trans ?_ ((v17_apply m c 0 r l).trans (if_pos rfl))
    blk_point [iblk, e]
  · have e : (cfg0.win 7).index t = ![1, 0, 0] := by rw [idx7 t, if_neg h]
    rw [if_neg (show ¬ (ch t).val < 128 from h)]
    refine Eq.trans ?_ ((v17_apply m c 1 r l).trans (if_neg (by decide)))
    blk_point [iblk, e]

theorem blk8 (t : Fin cfg0.N) (k : Fin 512) (l : Fin 1024) : iblk m c 8 t (ix2 k l) = aWa m c k l := by
  have e : V m c main_v19 (ix2 k l) = aWa m c k l := by rw [host19]; rfl
  rw [← e]
  blk_point [iblk, idx8 t]

theorem blk9 (t : Fin cfg0.N) (k : Fin 512) (l : Fin 1024) : iblk m c 9 t (ix2 k l) = aWb m c k l := by
  have e : V m c main_v20 (ix2 k l) = aWb m c k l := by rw [host20]; rfl
  rw [← e]
  blk_point [iblk, idx9 t]

theorem blk10 (t : Fin cfg0.N) (k : Fin 1024) (l : Fin 1024) : iblk m c 10 t (ix2 k l) = aWo m c k l := by
  have e : V m c main_v21 (ix2 k l) = aWo m c k l := by rw [host21]; rfl
  rw [← e]
  blk_point [iblk, idx10 t]

theorem blk12 (t : Fin cfg0.N) (k : Fin 1024) (l : Fin 2048) : iblk m c 12 t (ix2 k l) = aWq m c k l := by
  have e : V m c main_v23 (ix2 k l) = aWq m c k l := by rw [host23]; rfl
  rw [← e]
  blk_point [iblk, idx12 t]

theorem blk11 (t : Fin cfg0.N) (k : Fin 1024) : iblk m c 11 t (ix2 (0 : Fin 1) k) = aG m c k := by
  unfold aG
  rw [← host22 m c]
  blk_point [iblk, idx11 t]

theorem blk13 (t : Fin cfg0.N) (g : Fin 16) (n k : Fin 128) : iblk m c 13 t (ix3 g n k) = aKey m c g n k := by
  unfold aKey
  rw [← host18 m c]
  blk_point [iblk, idx13 t]

/-- The merged rows by chunk and row. -/
abbrev x1A (t : Fin 130) (r : Fin 128) : Fin 1024 → EReal :=
  x1S (aX m c (rowOf t r)) (aAtt m c (rowOf t r)) (aGu m c (rowOf t r))
    (fun l => mixS (aWs m c (grp l)) (aBs m c (grp l)) (fun i => aV m c i l) t r)
    (aSa m c (rowOf t r)) (aSb m c (rowOf t r)) (aWa m c) (aWb m c) (aWo m c)

theorem x1_blk (t : Fin cfg0.N) (r : Fin 128) :
    x1B (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ch t) r = x1A m c (ch t) r := by
  unfold x1B x1A mixS mixB
  simp only [blk0, blk1, blk2, blk3, blk4, blk5, blk6, blk7, blk8, blk9, blk10]

theorem out14_blk (t : Fin cfg0.N) (r : Fin 128) (k : Fin 1024) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) = x1A m c (ch t) r k := by
  refine (out14_apply (grid0.coords t) _ _ _ _ _ _ _ _ _ _ _ _ _ _ (ch t) (coord0 t) r k).trans ?_
  rw [x1_blk]

theorem out15_blk (t : Fin cfg0.N) (r : Fin 128) (k : Fin 1024) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) = h2S (x1A m c (ch t) r) (aG m c) k := by
  refine (out15_apply (grid0.coords t) _ _ _ _ _ _ _ _ _ _ _ _ _ _ (ch t) (coord0 t) r k).trans ?_
  rw [x1_blk]
  simp only [blk11]

/-- The key scores by chunk and row. -/
abbrev stA (g : Fin 16) (n : Fin 128) (t : Fin 130) (r : Fin 128) : EReal :=
  ∑ k : Fin 128, aKey m c g n k * ∑ j, h2S (x1A m c t r) (aG m c) j * aWq m c j ⟨g.val * 128 + k.val, by omega⟩

theorem out16_blk (t : Fin cfg0.N) (g : Fin 16) (n r : Fin 128) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 g n r) = stA m c g n (ch t) r := by
  refine (out16_apply (grid0.coords t) _ _ _ _ _ _ _ _ _ _ _ _ _ _ (ch t) (coord0 t) g n r).trans ?_
  unfold stB stA
  simp only [x1_blk, blk11, blk12, blk13]

/-- The chunk of a row and its place there. -/
abbrev chOf (i : Fin 16640) : Fin 130 := ⟨i.val / 128, by omega⟩
abbrev inOf (i : Fin 16640) : Fin 128 := ⟨i.val % 128, by omega⟩

theorem chOf_rowOf (t : Fin 130) (r : Fin 128) : chOf (rowOf t r) = t := Fin.ext (by
  show (t.val * 128 + r.val) / 128 = t.val
  omega)

theorem inOf_rowOf (t : Fin 130) (r : Fin 128) : inOf (rowOf t r) = r := Fin.ext (by
  show (t.val * 128 + r.val) % 128 = r.val
  omega)

theorem rowOf_chOf (i : Fin 16640) : rowOf (chOf i) (inOf i) = i := Fin.ext (by
  show i.val / 128 * 128 + i.val % 128 = i.val
  omega)

theorem arr14 : (dats m 0 c).arrAt 14 cfg0.N = fun y : S16640x1024.Idx => x1A m c (chOf (y 0)) (inOf (y 0)) (y 1) := by
  refine (dats m 0 c).arrAt_eq_of_covers 14 _ (by decide +kernel) fun t hf y => ?_
  rw [after0_14]
  have hN := Nat.lt_of_lt_of_eq t.isLt N_0
  blk_simp
  have h0 : (y 0).val < 128 := (y 0).isLt
  have h1 : (y 1).val < 1024 := (y 1).isLt
  have e0 : ((win0_14.blk t).view.emb y 0) = rowOf (ch t) ⟨(y 0).val, h0⟩ := by
    refine Fin.ext ?_
    unfold rowOf
    blk_simp [idx14 t]
    try rfl
  have e1 : ((win0_14.blk t).view.emb y 1) = (⟨(y 1).val, h1⟩ : Fin 1024) := by
    refine Fin.ext ?_
    blk_simp [idx14 t]
    try rfl
  have hy : y = ix2 (⟨(y 0).val, h0⟩ : Fin 128) (⟨(y 1).val, h1⟩ : Fin 1024) := by
    funext a
    fin_cases a <;> rfl
  rw [e0, e1, chOf_rowOf, inOf_rowOf]
  exact (congrArg _ hy).trans (out14_blk m c t ⟨(y 0).val, h0⟩ ⟨(y 1).val, h1⟩)

theorem arr15 : (dats m 0 c).arrAt 15 cfg0.N = fun y : S16640x1024.Idx => h2S (x1A m c (chOf (y 0)) (inOf (y 0))) (aG m c) (y 1) := by
  refine (dats m 0 c).arrAt_eq_of_covers 15 _ (by decide +kernel) fun t hf y => ?_
  rw [after0_15]
  have hN := Nat.lt_of_lt_of_eq t.isLt N_0
  blk_simp
  have h0 : (y 0).val < 128 := (y 0).isLt
  have h1 : (y 1).val < 1024 := (y 1).isLt
  have e0 : ((win0_15.blk t).view.emb y 0) = rowOf (ch t) ⟨(y 0).val, h0⟩ := by
    refine Fin.ext ?_
    unfold rowOf
    blk_simp [idx15 t]
    try rfl
  have e1 : ((win0_15.blk t).view.emb y 1) = (⟨(y 1).val, h1⟩ : Fin 1024) := by
    refine Fin.ext ?_
    blk_simp [idx15 t]
    try rfl
  have hy : y = ix2 (⟨(y 0).val, h0⟩ : Fin 128) (⟨(y 1).val, h1⟩ : Fin 1024) := by
    funext a
    fin_cases a <;> rfl
  rw [e0, e1, chOf_rowOf, inOf_rowOf]
  exact (congrArg _ hy).trans (out15_blk m c t ⟨(y 0).val, h0⟩ ⟨(y 1).val, h1⟩)

theorem arr16 : (dats m 0 c).arrAt 16 cfg0.N = fun y : S16x128x16640.Idx => stA m c (y 0) (y 1) (chOf (y 2)) (inOf (y 2)) := by
  refine (dats m 0 c).arrAt_eq_of_covers 16 _ (by decide +kernel) fun t hf y => ?_
  rw [after0_16]
  have hN := Nat.lt_of_lt_of_eq t.isLt N_0
  blk_simp
  have h0 : (y 0).val < 16 := (y 0).isLt
  have h1 : (y 1).val < 128 := (y 1).isLt
  have h2 : (y 2).val < 128 := (y 2).isLt
  have e0 : ((win0_16.blk t).view.emb y 0) = (⟨(y 0).val, h0⟩ : Fin 16) := by
    refine Fin.ext ?_
    blk_simp [idx16 t]
    try rfl
  have e1 : ((win0_16.blk t).view.emb y 1) = (⟨(y 1).val, h1⟩ : Fin 128) := by
    refine Fin.ext ?_
    blk_simp [idx16 t]
    try rfl
  have e2 : ((win0_16.blk t).view.emb y 2) = rowOf (ch t) ⟨(y 2).val, h2⟩ := by
    refine Fin.ext ?_
    unfold rowOf
    blk_simp [idx16 t]
    try rfl
  have hy : y = ix3 (⟨(y 0).val, h0⟩ : Fin 16) (⟨(y 1).val, h1⟩ : Fin 128) (⟨(y 2).val, h2⟩ : Fin 128) := by
    funext a
    fin_cases a <;> rfl
  rw [e0, e1, e2, chOf_rowOf, inOf_rowOf]
  exact (congrArg _ hy).trans (out16_blk m c t ⟨(y 0).val, h0⟩ ⟨(y 1).val, h1⟩ ⟨(y 2).val, h2⟩)

end Cert.Proof.P3

end
-- ==== Proof.P3Ref.lean ====
module

public import proofs.«01_k».proof.Proof.P3Spec
public import proofs.«01_k».proof.Proof.Gen.Reference3Ideal.Read
public import Idealize.ShloMosaic.Lib.KernelVsHost

/-!
# The reference of the merge, entry by entry
-/
@[expose] public section

set_option maxRecDepth 16384

noncomputable section

namespace Cert.Proof.P3

open Idealize.ShloMosaic Idealize.ShloMosaic.TcCoe Idealize.SL.Sem
open Cert.Proof.P2 (c1024 eps)
open Cert.Reference3Ideal Cert.Reference3Ideal.Gen Cert.Reference3Ideal.Read

variable (x3 : (⟨S16640x512, .f32⟩ : BufTy).Contents (Elt Ideal)) (x6 : (⟨S8x128x128, .f32⟩ : BufTy).Contents (Elt Ideal))
  (x7 : (⟨S8x128, .f32⟩ : BufTy).Contents (Elt Ideal))

theorem cmp_sge : ∀ r s : Fin 128, IntOp.cmpi .sge (BitVec.ofNat 32 r.val) (BitVec.ofNat 32 s.val) = if s.val ≤ r.val then 1#1 else 0#1 := by
  decide +kernel

theorem uitofp_one : (FloatOps.uitofp .f32 (1#1) : Ideal .f32) = 1 := by
  show (((((1#1 : BitVec 1).toNat : ℝ)) : EReal)) = 1
  norm_num

theorem uitofp_zero : (FloatOps.uitofp .f32 (0#1) : Ideal .f32) = 0 := by
  show (((((0#1 : BitVec 1).toNat : ℝ)) : EReal)) = 0
  norm_num

theorem r10 (g : Fin 8) (r s : Fin 128) : val_main_v10 (F := Ideal) x6 (ix3 g r s) = if s.val ≤ r.val then x6 (ix3 g r s) else 0 := by
  unfold val_main_v10 val_main_v9 val_main_v8 val_main_v7 val_main_v6 val_main_v5 val_main_v4 val_main_v3 val_main_v2 val_main_v1 val_main_v0
  pointwise []
  rw [cmp_sge r s]
  by_cases h : s.val ≤ r.val
  · rw [if_pos h, if_pos h, show (FloatOps.uitofp .f32 (1#1) : Ideal .f32) = 1 from uitofp_one, mul_one]
  · rw [if_neg h, if_neg h, show (FloatOps.uitofp .f32 (0#1) : Ideal .f32) = 0 from uitofp_zero, mul_zero]

theorem r14 (b : Fin 2) (t : Fin 64) (s : Fin 128) (g : Fin 8) (d : Fin 64) : val_main_v14 (F := Ideal) x3 (ix5 b t s g d)
    = x3 (ix2 (⟨b.val * 8192 + t.val * 128 + s.val, by omega⟩ : Fin 16640) (⟨g.val * 64 + d.val, by omega⟩ : Fin 512)) := by
  refine (val_main_v14_apply x3 _).trans ?_
  unfold val_main_v13
  refine (pad_apply_of_inside _ _ _ _ _ _ _ _ (idx_main_v14 (ix5 b t s g d)) ?_).trans ?_
  · intro a
    match a with
    | ⟨0, _⟩ => exact (by omega : ∀ n : ℕ, n = 0 + n * (0 + 1)) _
    | ⟨1, _⟩ => exact (by omega : ∀ n : ℕ, n = 0 + n * (0 + 1)) _
    | ⟨2, _⟩ => exact (by omega : ∀ n : ℕ, n = 0 + n * (0 + 1)) _
  · refine (val_main_v12_apply x3 _).trans ((val_main_v11_apply x3 _).trans (congrArg x3 (funext fun a => Fin.ext ?_)))
    have hb := b.isLt
    have ht := t.isLt
    have hs := s.isLt
    have hg := g.isLt
    have hd := d.isLt
    match a with
    | ⟨0, _⟩ =>
      show ((((((b.val * 64 + t.val) * 128 + s.val) * 8 + g.val) * 64 + d.val) / 4194304 * 8192
        + ((((b.val * 64 + t.val) * 128 + s.val) * 8 + g.val) * 64 + d.val) / 512 % 8192) * 512
        + ((((b.val * 64 + t.val) * 128 + s.val) * 8 + g.val) * 64 + d.val) % 512) / 512 = b.val * 8192 + t.val * 128 + s.val
      have h1 : ((((b.val * 64 + t.val) * 128 + s.val) * 8 + g.val) * 64 + d.val) / 4194304 = b.val := by omega
      have h2 : ((((b.val * 64 + t.val) * 128 + s.val) * 8 + g.val) * 64 + d.val) / 512 % 8192 = t.val * 128 + s.val := by omega
      have h3 : ((((b.val * 64 + t.val) * 128 + s.val) * 8 + g.val) * 64 + d.val) % 512 = g.val * 64 + d.val := by omega
      rw [h1, h2, h3]
      omega
    | ⟨1, _⟩ =>
      show ((((((b.val * 64 + t.val) * 128 + s.val) * 8 + g.val) * 64 + d.val) / 4194304 * 8192
        + ((((b.val * 64 + t.val) * 128 + s.val) * 8 + g.val) * 64 + d.val) / 512 % 8192) * 512
        + ((((b.val * 64 + t.val) * 128 + s.val) * 8 + g.val) * 64 + d.val) % 512) % 512 = g.val * 64 + d.val
      omega

theorem r20 (b : Fin 2) (t : Fin 64) (r : Fin 128) (g : Fin 8) (d : Fin 64) : val_main_v20 (F := Ideal) x3 x6 x7 (ix5 b t r g d)
    = (∑ s : Fin 128, x3 (ix2 (⟨b.val * 8192 + t.val * 128 + s.val, by omega⟩ : Fin 16640) (⟨g.val * 64 + d.val, by omega⟩ : Fin 512))
        * (if s.val ≤ r.val then x6 (ix3 g r s) else 0)) + x7 (ix2 g r) := by
  have e : ∀ s : Fin 128, val_main_v14 (F := Ideal) x3 (lidx_main_v15 (idx_main_v16 (ix5 b t r g d)) s) * val_main_v10 (F := Ideal) x6 (ridx_main_v15 (idx_main_v16 (ix5 b t r g d)) s)
      = x3 (ix2 (⟨b.val * 8192 + t.val * 128 + s.val, by omega⟩ : Fin 16640) (⟨g.val * 64 + d.val, by omega⟩ : Fin 512))
        * (if s.val ≤ r.val then x6 (ix3 g r s) else 0) := fun s => by
    rw [← r14 x3, ← r10 x6]
    congr 2 <;> (funext a; fin_cases a <;> rfl)
  rw [val_main_v20_apply, val_main_v16_apply, val_main_v15_apply]
  refine congrArg₂ (· + ·) (Finset.sum_congr rfl fun s _ => e s) ?_
  unfold val_main_v19 val_main_v18 val_main_v17
  pointwise []

theorem r22 (t : Fin 128) (r : Fin 128) (l : Fin 512) : val_main_v22 (F := Ideal) x3 x6 x7 (ix2 (⟨t.val * 128 + r.val, by omega⟩ : Fin 16384) l)
    = val_main_v20 (F := Ideal) x3 x6 x7 (ix5 (⟨t.val / 64, by omega⟩ : Fin 2) (⟨t.val % 64, by omega⟩ : Fin 64) r (grp l) (⟨l.val % 64, by omega⟩ : Fin 64)) := by
  rw [val_main_v22_apply, val_main_v21_apply]
  refine congrArg _ (funext fun a => Fin.ext ?_)
  have ht := t.isLt
  have hr := r.isLt
  have hl := l.isLt
  have h1 : ((t.val * 128 + r.val) * 512 + l.val) / 4194304 = t.val / 64 := by omega
  have h2 : ((t.val * 128 + r.val) * 512 + l.val) / 512 % 8192 = t.val % 64 * 128 + r.val := by omega
  have h3 : ((t.val * 128 + r.val) * 512 + l.val) % 512 = l.val := by omega
  have e : idx_main_v22 (ix2 (⟨t.val * 128 + r.val, by omega⟩ : Fin 16384) l)
      = ix3 (⟨t.val / 64, by omega⟩ : Fin 2) (⟨t.val % 64 * 128 + r.val, by omega⟩ : Fin 8192) l := by
    funext a
    match a with
    | ⟨0, _⟩ => exact Fin.ext h1
    | ⟨1, _⟩ => exact Fin.ext h2
    | ⟨2, _⟩ => exact Fin.ext h3
  rw [e]
  match a with
  | ⟨0, _⟩ => show ((t.val / 64 * 8192 + (t.val % 64 * 128 + r.val)) * 512 + l.val) / 4194304 = t.val / 64; omega
  | ⟨1, _⟩ => show ((t.val / 64 * 8192 + (t.val % 64 * 128 + r.val)) * 512 + l.val) / 65536 % 64 = t.val % 64; omega
  | ⟨2, _⟩ => show ((t.val / 64 * 8192 + (t.val % 64 * 128 + r.val)) * 512 + l.val) / 512 % 128 = r.val; omega
  | ⟨3, _⟩ => show ((t.val / 64 * 8192 + (t.val % 64 * 128 + r.val)) * 512 + l.val) / 64 % 8 = l.val / 64; omega
  | ⟨4, _⟩ => show ((t.val / 64 * 8192 + (t.val % 64 * 128 + r.val)) * 512 + l.val) % 64 = l.val % 64; omega

end Cert.Proof.P3

end
-- ==== Proof.P3Ref2.lean ====
module

public import proofs.«01_k».proof.Proof.P3Ref

/-!
# The reference of the merge: the sample rows and the mixing
-/
@[expose] public section

set_option maxRecDepth 16384

noncomputable section

namespace Cert.Proof.P3

open Idealize.ShloMosaic Idealize.ShloMosaic.TcCoe Idealize.SL.Sem
open Cert.Proof.P2 (c1024 eps)
open Cert.Reference3Ideal Cert.Reference3Ideal.Gen Cert.Reference3Ideal.Read

variable (x3 : (⟨S16640x512, .f32⟩ : BufTy).Contents (Elt Ideal)) (x6 : (⟨S8x128x128, .f32⟩ : BufTy).Contents (Elt Ideal))
  (x7 : (⟨S8x128, .f32⟩ : BufTy).Contents (Elt Ideal))

theorem sitofp_zero : (FloatOps.sitofp .f32 (0#32) : Ideal .f32) = 0 := by
  show (((((0#32 : BitVec 32).toInt : ℝ)) : EReal)) = 0
  norm_num

theorem r24 (q : Fin 32) (s : Fin 8) (l : Fin 512) : val_main_v24 (F := Ideal) x3 (ix3 q s l) = x3 (ix2 (⟨16384 + (q.val * 8 + s.val), by omega⟩ : Fin 16640) l) := by
  refine (val_main_v24_apply x3 _).trans ((val_main_v23_apply x3 _).trans (congrArg x3 (funext fun a => Fin.ext ?_)))
  have hl := l.isLt
  match a with
  | ⟨0, _⟩ => show 16384 + ((q.val * 8 + s.val) * 512 + l.val) / 512 = 16384 + (q.val * 8 + s.val); omega
  | ⟨1, _⟩ => show ((q.val * 8 + s.val) * 512 + l.val) % 512 = l.val; omega

theorem r25 (q : Fin 32) (s : Fin 128) (l : Fin 512) : val_main_v25 (F := Ideal) x3 (ix3 q s l)
    = if h : s.val < 8 then x3 (ix2 (⟨16384 + (q.val * 8 + s.val), by omega⟩ : Fin 16640) l) else 0 := by
  unfold val_main_v25
  by_cases h : s.val < 8
  · rw [dif_pos h]
    refine (pad_apply_of_inside _ _ _ _ _ _ _ _ (ix3 q (⟨s.val, h⟩ : Fin 8) l) ?_).trans (r24 x3 q ⟨s.val, h⟩ l)
    intro a
    match a with
    | ⟨0, _⟩ => exact (by omega : ∀ n : ℕ, n = 0 + n * (0 + 1)) _
    | ⟨1, _⟩ => exact (by omega : ∀ n : ℕ, n = 0 + n * (0 + 1)) _
    | ⟨2, _⟩ => exact (by omega : ∀ n : ℕ, n = 0 + n * (0 + 1)) _
  · rw [dif_neg h]
    refine (pad_apply_of_not_inside _ _ _ _ _ _ _ _ (1 : Fin 3) ?_).trans ?_
    · show ¬ (0 ≤ s.val ∧ (s.val - 0) % (0 + 1) = 0 ∧ (s.val - 0) / (0 + 1) < 8)
      omega
    · unfold val_main_call1_v0 val_main_c_0
      pointwise []
      exact sitofp_zero

theorem r26 (q : Fin 32) (s : Fin 128) (g : Fin 8) (d : Fin 64) : val_main_v26 (F := Ideal) x3 (ix5 q (0 : Fin 1) s g d)
    = if h : s.val < 8 then x3 (ix2 (⟨16384 + (q.val * 8 + s.val), by omega⟩ : Fin 16640) (⟨g.val * 64 + d.val, by omega⟩ : Fin 512)) else 0 := by
  rw [← r25 x3 q s ⟨g.val * 64 + d.val, by omega⟩, val_main_v26_apply]
  refine congrArg _ (funext fun a => Fin.ext ?_)
  have hq := q.isLt
  have hs := s.isLt
  have hg := g.isLt
  have hd := d.isLt
  match a with
  | ⟨0, _⟩ => show ((((q.val * 1 + 0) * 128 + s.val) * 8 + g.val) * 64 + d.val) / 65536 = q.val; omega
  | ⟨1, _⟩ => show ((((q.val * 1 + 0) * 128 + s.val) * 8 + g.val) * 64 + d.val) / 512 % 128 = s.val; omega
  | ⟨2, _⟩ => show ((((q.val * 1 + 0) * 128 + s.val) * 8 + g.val) * 64 + d.val) % 512 = g.val * 64 + d.val; omega

theorem r32 (q : Fin 32) (r : Fin 128) (g : Fin 8) (d : Fin 64) : val_main_v32 (F := Ideal) x3 x6 x7 (ix5 q (0 : Fin 1) r g d)
    = (∑ s : Fin 128, (if h : s.val < 8 then x3 (ix2 (⟨16384 + (q.val * 8 + s.val), by omega⟩ : Fin 16640) (⟨g.val * 64 + d.val, by omega⟩ : Fin 512)) else 0)
        * (if s.val ≤ r.val then x6 (ix3 g r s) else 0)) + x7 (ix2 g r) := by
  have e : ∀ s : Fin 128, val_main_v26 (F := Ideal) x3 (lidx_main_v27 (idx_main_v28 (ix5 q (0 : Fin 1) r g d)) s) * val_main_v10 (F := Ideal) x6 (ridx_main_v27 (idx_main_v28 (ix5 q (0 : Fin 1) r g d)) s)
      = (if h : s.val < 8 then x3 (ix2 (⟨16384 + (q.val * 8 + s.val), by omega⟩ : Fin 16640) (⟨g.val * 64 + d.val, by omega⟩ : Fin 512)) else 0)
        * (if s.val ≤ r.val then x6 (ix3 g r s) else 0) := fun s => by
    rw [← r26 x3, ← r10 x6]
    congr 2 <;> (funext a; fin_cases a <;> rfl)
  rw [val_main_v32_apply, val_main_v28_apply, val_main_v27_apply]
  refine congrArg₂ (· + ·) (Finset.sum_congr rfl fun s _ => e s) ?_
  unfold val_main_v31 val_main_v30 val_main_v29
  pointwise []

theorem r35 (q : Fin 32) (r : Fin 8) (l : Fin 512) : val_main_v35 (F := Ideal) x3 x6 x7 (ix2 (⟨q.val * 8 + r.val, by omega⟩ : Fin 256) l)
    = val_main_v32 (F := Ideal) x3 x6 x7 (ix5 q (0 : Fin 1) (⟨r.val, by omega⟩ : Fin 128) (grp l) (⟨l.val % 64, by omega⟩ : Fin 64)) := by
  have hq := q.isLt
  have hr := r.isLt
  have hl := l.isLt
  have e : idx_main_v34 (idx_main_v35 (ix2 (⟨q.val * 8 + r.val, by omega⟩ : Fin 256) l))
      = ix3 q (⟨r.val, by omega⟩ : Fin 128) l := by
    funext a
    match a with
    | ⟨0, _⟩ => exact Fin.ext (show ((q.val * 8 + r.val) * 512 + l.val) / 4096 = q.val by omega)
    | ⟨1, _⟩ => exact Fin.ext (show ((q.val * 8 + r.val) * 512 + l.val) / 512 % 8 = r.val by omega)
    | ⟨2, _⟩ => exact Fin.ext (show ((q.val * 8 + r.val) * 512 + l.val) % 512 = l.val by omega)
  rw [val_main_v35_apply, val_main_v34_apply, e, val_main_v33_apply]
  refine congrArg _ (funext fun a => Fin.ext ?_)
  match a with
  | ⟨0, _⟩ => show ((q.val * 128 + r.val) * 512 + l.val) / 65536 = q.val; omega
  | ⟨1, _⟩ => rfl
  | ⟨2, _⟩ => show ((q.val * 128 + r.val) * 512 + l.val) / 512 % 128 = r.val; omega
  | ⟨3, _⟩ => show ((q.val * 128 + r.val) * 512 + l.val) / 64 % 8 = l.val / 64; omega
  | ⟨4, _⟩ => show ((q.val * 128 + r.val) * 512 + l.val) % 64 = l.val % 64; omega

theorem lane_split (l : Fin 512) : (⟨(grp l).val * 64 + l.val % 64, by have := (grp l).isLt; omega⟩ : Fin 512) = l := Fin.ext (by
  show l.val / 64 * 64 + l.val % 64 = l.val
  omega)

/-- The prompt rows. -/
theorem mix_prompt (t : Fin 130) (ht : t.val < 128) (r : Fin 128) (l : Fin 512) :
    val_main_v22 (F := Ideal) x3 x6 x7 (ix2 (⟨t.val * 128 + r.val, by omega⟩ : Fin 16384) l)
      = mixS (fun r s => x6 (ix3 (grp l) r s)) (fun r => x7 (ix2 (grp l) r)) (fun i => x3 (ix2 i l)) t r := by
  refine (r22 x3 x6 x7 ⟨t.val, ht⟩ r l).trans ((r20 x3 x6 x7 _ _ _ _ _).trans ?_)
  unfold mixS bV
  rw [if_pos ht]
  refine congrArg₂ (· + ·) (Finset.sum_congr rfl fun s _ => ?_) rfl
  rw [mul_comm]
  refine congrArg₂ (· * ·) ?_ (congrArg x3 ?_)
  · unfold wV
    rw [if_pos ht]
    by_cases h : s.val ≤ r.val
    · rw [if_pos h, if_pos ⟨h, Or.inl ht⟩]
    · rw [if_neg h, if_neg (fun h' => h h'.1)]
  · refine congrArg₂ ix2 (Fin.ext ?_) (lane_split l)
    show t.val / 64 * 8192 + t.val % 64 * 128 + s.val = t.val * 128 + s.val
    omega

/-- The sample rows. -/
theorem mix_sample (t : Fin 130) (ht : ¬ t.val < 128) (r : Fin 128) (l : Fin 512) :
    val_main_v35 (F := Ideal) x3 x6 x7 (ix2 (⟨((t.val - 128) * 16 + r.val / 8) * 8 + r.val % 8, by omega⟩ : Fin 256) l)
      = mixS (fun r s => x6 (ix3 (grp l) r s)) (fun r => x7 (ix2 (grp l) r)) (fun i => x3 (ix2 i l)) t r := by
  refine (r35 x3 x6 x7 ⟨(t.val - 128) * 16 + r.val / 8, by omega⟩ ⟨r.val % 8, by omega⟩ l).trans ((r32 x3 x6 x7 _ _ _ _).trans ?_)
  unfold mixS bV
  rw [if_neg ht]
  refine congrArg₂ (· + ·) ?_ rfl
  refine Eq.trans ?_ (Equiv.sum_comp (Equiv.addRight (⟨r.val / 8 * 8, by omega⟩ : Fin 128)) _)
  refine Finset.sum_congr rfl fun s _ => ?_
  have hv : ((Equiv.addRight (⟨r.val / 8 * 8, by omega⟩ : Fin 128)) s).val = (s.val + r.val / 8 * 8) % 128 := rfl
  generalize (Equiv.addRight (⟨r.val / 8 * 8, by omega⟩ : Fin 128)) s = u at hv
  have hr := r.isLt
  have hs := s.isLt
  rw [mul_comm]
  by_cases h8 : s.val < 8
  · have hu : u.val = s.val + r.val / 8 * 8 := by omega
    rw [dif_pos h8]
    refine congrArg₂ (· * ·) ?_ (congrArg x3 ?_)
    · unfold wV
      rw [if_neg ht]
      have e1 : inSeq u = s := Fin.ext (show u.val % 8 = s.val by omega)
      by_cases h : s.val ≤ r.val % 8
      · rw [if_pos h, if_pos ⟨by omega, Or.inr (by omega)⟩, e1]
        rfl
      · rw [if_neg h, if_neg (fun h' => h (by have := h'.1; omega))]
    · refine congrArg₂ ix2 (Fin.ext ?_) (lane_split l)
      show 16384 + (((t.val - 128) * 16 + r.val / 8) * 8 + s.val) = t.val * 128 + u.val
      have := t.isLt
      omega
  · rw [dif_neg h8, mul_zero, if_neg, zero_mul]
    rintro ⟨h1, h2 | h2⟩
    · exact ht h2
    · omega

/-- The mixed values of the reference. -/
theorem r36 (t : Fin 130) (r : Fin 128) (l : Fin 512) : val_main_v36 (F := Ideal) x3 x6 x7 (ix2 (rowOf t r) l)
    = mixS (fun r s => x6 (ix3 (grp l) r s)) (fun r => x7 (ix2 (grp l) r)) (fun i => x3 (ix2 i l)) t r := by
  unfold val_main_v36
  have hp := mix_prompt x3 x6 x7 t
  have hs := mix_sample x3 x6 x7 t
  generalize val_main_v22 (F := Ideal) x3 x6 x7 = y at hp
  generalize val_main_v35 (F := Ideal) x3 x6 x7 = z at hs
  pointwise []
  by_cases ht : t.val < 128
  · rw [← hp ht r l]
    rw [dif_pos (show (rowOf t r).val < 16384 by show t.val * 128 + r.val < 16384; omega)]
    rfl
  · rw [← hs ht r l]
    rw [dif_neg (show ¬ (rowOf t r).val < 16384 by show ¬ t.val * 128 + r.val < 16384; omega)]
    refine congrArg z (congrArg₂ ix2 (Fin.ext ?_) rfl)
    show t.val * 128 + r.val - 16384 = ((t.val - 128) * 16 + r.val / 8) * 8 + r.val % 8
    omega

variable (x0 : (⟨S16640x1024, .f32⟩ : BufTy).Contents (Elt Ideal)) (x1 : (⟨S16640x512, .bf16⟩ : BufTy).Contents (Elt Ideal))
  (x2 : (⟨S16640x512, .f32⟩ : BufTy).Contents (Elt Ideal)) (x4 x5 : (⟨S16640x1024, .f32⟩ : BufTy).Contents (Elt Ideal))
  (x8 x9 : (⟨S512x1024, .f32⟩ : BufTy).Contents (Elt Ideal)) (x10 : (⟨S1024x1024, .f32⟩ : BufTy).Contents (Elt Ideal))
  (x11 : (⟨S1024, .f32⟩ : BufTy).Contents (Elt Ideal)) (x12 : (⟨S1024x2048, .f32⟩ : BufTy).Contents (Elt Ideal))
  (x13 : (⟨S8x2x128x128, .f32⟩ : BufTy).Contents (Elt Ideal))

/-- The reference's merged row. -/
abbrev x1R (t : Fin 130) (r : Fin 128) (k : Fin 1024) : EReal :=
  x1S (fun j => x0 (ix2 (rowOf t r) j)) (fun j => x1 (ix2 (rowOf t r) j)) (fun j => x2 (ix2 (rowOf t r) j))
    (fun l => mixS (fun r s => x6 (ix3 (grp l) r s)) (fun r => x7 (ix2 (grp l) r)) (fun i => x3 (ix2 i l)) t r)
    (fun j => x4 (ix2 (rowOf t r) j)) (fun j => x5 (ix2 (rowOf t r) j)) (fun i j => x8 (ix2 i j)) (fun i j => x9 (ix2 i j)) (fun i j => x10 (ix2 i j)) k

theorem r45 (t : Fin 130) (r : Fin 128) (k : Fin 1024) : val_main_v45 (F := Ideal) x0 x1 x2 x3 x4 x5 x6 x7 x8 x9 x10 (ix2 (rowOf t r) k)
    = x1R x3 x6 x7 x0 x1 x2 x4 x5 x8 x9 x10 t r k := by
  unfold x1R x1S
  unfold val_main_v45 val_main_v44 val_main_v43 val_main_v42 val_main_v41 val_main_v40 val_main_v39 val_main_v38 val_main_v37
  have h := r36 x3 x6 x7 t r
  generalize val_main_v36 (F := Ideal) x3 x6 x7 = y at h
  simp only [← h]
  pointwise []
  try rfl

theorem r58 (t : Fin 130) (r : Fin 128) (k : Fin 1024) : val_main_v58 (F := Ideal) x0 x1 x2 x3 x4 x5 x6 x7 x8 x9 x10 x11 (ix2 (rowOf t r) k)
    = h2S (x1R x3 x6 x7 x0 x1 x2 x4 x5 x8 x9 x10 t r) (fun j => x11 (ix1 j)) k := by
  unfold h2S c1024 eps
  unfold val_main_v58 val_main_v57 val_main_v56 val_main_v55 val_main_v54 val_main_v53 val_main_v52 val_main_v51 val_main_v50 val_main_v49 val_main_v48
    val_main_v47 val_main_v46 val_main_cst val_main_cst_1 val_main_cst_2
  have h := r45 x3 x6 x7 x0 x1 x2 x4 x5 x8 x9 x10 t r
  generalize val_main_v45 (F := Ideal) x0 x1 x2 x3 x4 x5 x6 x7 x8 x9 x10 = y at h
  simp only [← h]
  pointwise []
  try rfl

theorem r59 (t : Fin 130) (r : Fin 128) (n : Fin 2048) : val_main_v59 (F := Ideal) x0 x1 x2 x3 x4 x5 x6 x7 x8 x9 x10 x11 x12 (ix2 (rowOf t r) n)
    = ∑ j, h2S (x1R x3 x6 x7 x0 x1 x2 x4 x5 x8 x9 x10 t r) (fun j => x11 (ix1 j)) j * x12 (ix2 j n) := by
  unfold val_main_v59
  have h := r58 x3 x6 x7 x0 x1 x2 x4 x5 x8 x9 x10 x11 t r
  generalize val_main_v58 (F := Ideal) x0 x1 x2 x3 x4 x5 x6 x7 x8 x9 x10 x11 = y at h
  simp only [← h]
  pointwise []

theorem r62 (g : Fin 16) (n : Fin 128) (t : Fin 130) (r : Fin 128) : val_main_v62 (F := Ideal) x0 x1 x2 x3 x4 x5 x6 x7 x8 x9 x10 x11 x12 x13 (ix3 g n (rowOf t r))
    = ∑ k : Fin 128, x13 (ix4 (⟨g.val / 2, by omega⟩ : Fin 8) (⟨g.val % 2, by omega⟩ : Fin 2) n k)
        * ∑ j, h2S (x1R x3 x6 x7 x0 x1 x2 x4 x5 x8 x9 x10 t r) (fun j => x11 (ix1 j)) j * x12 (ix2 j (⟨g.val * 128 + k.val, by omega⟩ : Fin 2048)) := by
  have hg := g.isLt
  have hn := n.isLt
  generalize hi : rowOf t r = i
  have hi' := i.isLt
  have e : idx_main_v62 (ix3 g n i) = ix4 (⟨g.val / 2, by omega⟩ : Fin 8) (⟨g.val % 2, by omega⟩ : Fin 2) n i := by
    funext a
    match a with
    | ⟨0, _⟩ => exact Fin.ext (show ((g.val * 128 + n.val) * 16640 + i.val) / 4259840 = g.val / 2 by omega)
    | ⟨1, _⟩ => exact Fin.ext (show ((g.val * 128 + n.val) * 16640 + i.val) / 2129920 % 2 = g.val % 2 by omega)
    | ⟨2, _⟩ => exact Fin.ext (show ((g.val * 128 + n.val) * 16640 + i.val) / 16640 % 128 = n.val by omega)
    | ⟨3, _⟩ => exact Fin.ext (show ((g.val * 128 + n.val) * 16640 + i.val) % 16640 = i.val by omega)
  rw [val_main_v62_apply, e, val_main_v61_apply]
  refine Finset.sum_congr rfl fun k _ => congrArg₂ (· * ·) (congrArg x13 ?_) ?_
  · funext a
    fin_cases a <;> rfl
  · have hk := k.isLt
    rw [val_main_v60_apply, ← r59 x3 x6 x7 x0 x1 x2 x4 x5 x8 x9 x10 x11 x12 t r, hi]
    refine congrArg _ (funext fun a => ?_)
    match a with
    | ⟨0, _⟩ => exact Fin.ext (show (((i.val * 8 + g.val / 2) * 2 + g.val % 2) * 128 + k.val) / 2048 = i.val by omega)
    | ⟨1, _⟩ => exact Fin.ext (show (((i.val * 8 + g.val / 2) * 2 + g.val % 2) * 128 + k.val) % 2048 = g.val * 128 + k.val by omega)

end Cert.Proof.P3

end
-- ==== Proof.P3Alg.lean ====
module

public import proofs.«01_k».proof.Defs
public import proofs.«01_k».proof.Proof.P3Arr
public import proofs.«01_k».proof.Proof.P3Ref2
public import proofs.«01_k».proof.Proof.Gen.Reference3Ideal.Run
public import Idealize.ShloMosaic.Adequacy
public import Idealize.ShloMosaic.Init

/-!
# The merge beside its reference
-/
@[expose] public section

set_option maxRecDepth 16384

noncomputable section

namespace Cert.Proof.P3

open Idealize.ShloMosaic Idealize.ShloMosaic.TcCoe Idealize.SL.Sem

section
open Cert.Kernel3Ideal Cert.Kernel3Ideal.Gen Cert.Reference3Ideal.Read

variable (m : (ℓ : Loc nD τ sig) → Buf (Elt Ideal) ℓ) (c : Dev nD)

theorem fin14 (x0 : (⟨S16640x1024, .f32⟩ : BufTy).Contents (Elt Ideal)) (x1 : (⟨S16640x512, .bf16⟩ : BufTy).Contents (Elt Ideal)) (x2 : (⟨S16640x512, .f32⟩ : BufTy).Contents (Elt Ideal)) (x3 : (⟨S16640x512, .f32⟩ : BufTy).Contents (Elt Ideal)) (x4 : (⟨S16640x1024, .f32⟩ : BufTy).Contents (Elt Ideal)) (x5 : (⟨S16640x1024, .f32⟩ : BufTy).Contents (Elt Ideal)) (x6 : (⟨S8x128x128, .f32⟩ : BufTy).Contents (Elt Ideal)) (x7 : (⟨S8x128, .f32⟩ : BufTy).Contents (Elt Ideal)) (x8 : (⟨S512x1024, .f32⟩ : BufTy).Contents (Elt Ideal)) (x9 : (⟨S512x1024, .f32⟩ : BufTy).Contents (Elt Ideal)) (x10 : (⟨S1024x1024, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) (e7 : x7 = m ((c : Thread nD τ).loc main_arg7)) (e8 : x8 = m ((c : Thread nD τ).loc main_arg8)) (e9 : x9 = m ((c : Thread nD τ).loc main_arg9)) (e10 : x10 = m ((c : Thread nD τ).loc main_arg10)) :
    val_main_v45 (F := Ideal) x0 x1 x2 x3 x4 x5 x6 x7 x8 x9 x10 = (dats m 0 c).arrAt 14 cfg0.N := by
  rw [arr14 m c]
  funext y
  refine (congrArg (val_main_v45 (F := Ideal) x0 x1 x2 x3 x4 x5 x6 x7 x8 x9 x10) ((eq_ix2 y).trans (congrArg (fun z : Fin 16640 => ix2 z (y 1)) (rowOf_chOf (y 0)).symm) : y = _)).trans ((r45 x3 x6 x7 x0 x1 x2 x4 x5 x8 x9 x10 (chOf (y 0)) (inOf (y 0)) (y 1)).trans ?_)
  rw [e0, e1, e2, e3, e4, e5, e6, e7, e8, e9, e10]

theorem fin15 (x0 : (⟨S16640x1024, .f32⟩ : BufTy).Contents (Elt Ideal)) (x1 : (⟨S16640x512, .bf16⟩ : BufTy).Contents (Elt Ideal)) (x2 : (⟨S16640x512, .f32⟩ : BufTy).Contents (Elt Ideal)) (x3 : (⟨S16640x512, .f32⟩ : BufTy).Contents (Elt Ideal)) (x4 : (⟨S16640x1024, .f32⟩ : BufTy).Contents (Elt Ideal)) (x5 : (⟨S16640x1024, .f32⟩ : BufTy).Contents (Elt Ideal)) (x6 : (⟨S8x128x128, .f32⟩ : BufTy).Contents (Elt Ideal)) (x7 : (⟨S8x128, .f32⟩ : BufTy).Contents (Elt Ideal)) (x8 : (⟨S512x1024, .f32⟩ : BufTy).Contents (Elt Ideal)) (x9 : (⟨S512x1024, .f32⟩ : BufTy).Contents (Elt Ideal)) (x10 : (⟨S1024x1024, .f32⟩ : BufTy).Contents (Elt Ideal)) (x11 : (⟨S1024, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) (e7 : x7 = m ((c : Thread nD τ).loc main_arg7)) (e8 : x8 = m ((c : Thread nD τ).loc main_arg8)) (e9 : x9 = m ((c : Thread nD τ).loc main_arg9)) (e10 : x10 = m ((c : Thread nD τ).loc main_arg10)) (e11 : x11 = m ((c : Thread nD τ).loc main_arg11)) :
    val_main_v63 (F := Ideal) x0 x1 x2 x3 x4 x5 x6 x7 x8 x9 x10 x11 = (dats m 0 c).arrAt 15 cfg0.N := by
  rw [arr15 m c]
  funext y
  refine (congrArg (val_main_v63 (F := Ideal) x0 x1 x2 x3 x4 x5 x6 x7 x8 x9 x10 x11) ((eq_ix2 y).trans (congrArg (fun z : Fin 16640 => ix2 z (y 1)) (rowOf_chOf (y 0)).symm) : y = _)).trans (((val_main_v63_apply x0 x1 x2 x3 x4 x5 x6 x7 x8 x9 x10 x11 _).trans (r58 x3 x6 x7 x0 x1 x2 x4 x5 x8 x9 x10 x11 (chOf (y 0)) (inOf (y 0)) (y 1))).trans ?_)
  rw [e0, e1, e2, e3, e4, e5, e6, e7, e8, e9, e10, e11]

theorem fin16 (x0 : (⟨S16640x1024, .f32⟩ : BufTy).Contents (Elt Ideal)) (x1 : (⟨S16640x512, .bf16⟩ : BufTy).Contents (Elt Ideal)) (x2 : (⟨S16640x512, .f32⟩ : BufTy).Contents (Elt Ideal)) (x3 : (⟨S16640x512, .f32⟩ : BufTy).Contents (Elt Ideal)) (x4 : (⟨S16640x1024, .f32⟩ : BufTy).Contents (Elt Ideal)) (x5 : (⟨S16640x1024, .f32⟩ : BufTy).Contents (Elt Ideal)) (x6 : (⟨S8x128x128, .f32⟩ : BufTy).Contents (Elt Ideal)) (x7 : (⟨S8x128, .f32⟩ : BufTy).Contents (Elt Ideal)) (x8 : (⟨S512x1024, .f32⟩ : BufTy).Contents (Elt Ideal)) (x9 : (⟨S512x1024, .f32⟩ : BufTy).Contents (Elt Ideal)) (x10 : (⟨S1024x1024, .f32⟩ : BufTy).Contents (Elt Ideal)) (x11 : (⟨S1024, .f32⟩ : BufTy).Contents (Elt Ideal)) (x12 : (⟨S1024x2048, .f32⟩ : BufTy).Contents (Elt Ideal)) (x13 : (⟨S8x2x128x128, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) (e4 : x4 = m ((c : Thread nD τ).loc main_arg4)) (e5 : x5 = m ((c : Thread nD τ).loc main_arg5)) (e6 : x6 = m ((c : Thread nD τ).loc main_arg6)) (e7 : x7 = m ((c : Thread nD τ).loc main_arg7)) (e8 : x8 = m ((c : Thread nD τ).loc main_arg8)) (e9 : x9 = m ((c : Thread nD τ).loc main_arg9)) (e10 : x10 = m ((c : Thread nD τ).loc main_arg10)) (e11 : x11 = m ((c : Thread nD τ).loc main_arg11)) (e12 : x12 = m ((c : Thread nD τ).loc main_arg12)) (e13 : x13 = m ((c : Thread nD τ).loc main_arg13)) :
    val_main_v62 (F := Ideal) x0 x1 x2 x3 x4 x5 x6 x7 x8 x9 x10 x11 x12 x13 = (dats m 0 c).arrAt 16 cfg0.N := by
  rw [arr16 m c]
  funext y
  refine (congrArg (val_main_v62 (F := Ideal) x0 x1 x2 x3 x4 x5 x6 x7 x8 x9 x10 x11 x12 x13) ((eq_ix3 y).trans (congrArg (fun z : Fin 16640 => ix3 (y 0) (y 1) z) (rowOf_chOf (y 2)).symm) : y = _)).trans ((r62 x3 x6 x7 x0 x1 x2 x4 x5 x8 x9 x10 x11 x12 x13 (y 0) (y 1) (chOf (y 2)) (inOf (y 2))).trans ?_)
  rw [e0, e1, e2, e3, e4, e5, e6, e7, e8, e9, e10, e11, e12, e13]

end

theorem refFrame3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

set_option maxHeartbeats 4000000 in
theorem algebraic3 : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 14 Cert.Kernel3Ideal.cfg0.N, fun c => (Cert.Kernel3Ideal.Gen.dats m 0 c).arrAt 15 Cert.Kernel3Ideal.cfg0.N,
    fun c => (Cert.Kernel3Ideal.Gen.dats m 0 c).arrAt 16 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨e0, e1, e2, e3, e4, e5, e6, e7, e8, e9, e10, e11, e12, e13⟩ := ha c
  obtain ⟨h1, h2, h3, h4⟩ := h c
  refine ⟨h1.trans ?_, h2.trans ?_, h3.trans ?_, h4⟩
  · exact (Cert.Reference3Ideal.Read.val_main_v45_eq _ _ _ _ _ _ _ _ _ _ _).trans (fin14 m c _ _ _ _ _ _ _ _ _ _ _ e0 e1 e2 e3 e4 e5 e6 e7 e8 e9 e10)
  · exact (Cert.Reference3Ideal.Read.val_main_v63_eq m' c).trans (fin15 m c _ _ _ _ _ _ _ _ _ _ _ _ e0 e1 e2 e3 e4 e5 e6 e7 e8 e9 e10 e11)
  · exact (Cert.Reference3Ideal.Read.val_main_v62_eq m' c).trans (fin16 m c _ _ _ _ _ _ _ _ _ _ _ _ _ _ e0 e1 e2 e3 e4 e5 e6 e7 e8 e9 e10 e11 e12 e13)

end Cert.Proof.P3

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KRes
public import proofs.«01_k».proof.Proof.RRes
public import proofs.«01_k».proof.Proof.Finite
public import proofs.«01_k».proof.Proof.P2Alg
public import proofs.«01_k».proof.Proof.P4Ple
public import proofs.«01_k».proof.Proof.P3Alg
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "mask" .f32 0xF149F2CA#32 ⊥ rfl

theorem refFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ?_) (Cert.ReferenceIdeal.Value.run m' g')
  refine ⟨(h c).1.trans ?_, (h c).2⟩
  obtain ⟨e0, e1, e2, e3⟩ := ha c
  obtain ⟨f0, f1, f3⟩ := pre_real _ _ _ _ (hp c)
  rw [Cert.ReferenceIdeal.Read.val_main_v119_eq, e0, e1, e2, e3]
  rw [res119 _ _ _ _ (fun r l => EReal.toReal (m ((c.tc : Thread Cert.KernelIdeal.nD Cert.KernelIdeal.τ).loc Cert.KernelIdeal.main_arg0) (ix2 r l)))
    (fun r l => EReal.toReal (m ((c.tc : Thread Cert.KernelIdeal.nD Cert.KernelIdeal.τ).loc Cert.KernelIdeal.main_arg3) (ix3 r (0 : Fin 1) l)))
    (fun r l => EReal.toReal (m ((c.tc : Thread Cert.KernelIdeal.nD Cert.KernelIdeal.τ).loc Cert.KernelIdeal.main_arg1) (ix2 r l)))
    (fun r l => f0 _) (fun r l => f3 _) (fun r l => f1 _)]
  exact (arr_eq m c _ _ _ (fun r l => f0 _) (fun r l => f1 _) (fun r l => f3 _)).symm

theorem preserves2 : Cert.preserves_Kernel2_Kernel2Ideal := trivial

theorem preserves3 : Cert.preserves_Kernel3_Kernel3Ideal := trivial

theorem preserves4 : Cert.preserves_Kernel4_Kernel4Ideal := trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    refFrame, fun m ρ _ => refFrame m ρ trivial,
    fun m ρ _ => Cert.Kernel2.Gen.frame m ρ, fun m ρ _ => Cert.Kernel2Ideal.Gen.frame m ρ, fun m ρ _ => Cert.Kernel2Ideal.Gen.frame m ρ,
    P2.refFrame2, fun m ρ _ => P2.refFrame2 m ρ trivial,
    fun m ρ _ => Cert.Kernel3.Gen.frame m ρ, fun m ρ _ => Cert.Kernel3Ideal.Gen.frame m ρ, P3.refFrame3,
    fun m ρ _ => Cert.Kernel4.Gen.frame m ρ, fun m ρ _ => Cert.Kernel4Ideal.Gen.frame m ρ, P4.refFrame4,
    preserves, algebraic, preserves2, P2.algebraic2, preserves3, P3.algebraic3, preserves4, P4.algebraic4⟩

end Cert.Proof

end
